-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v108) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v51) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)) (v4 : (c : Dev Cert.Kernel5Ideal.nD) → Buf (Elt Ideal) ((c.tc : Thread Cert.Kernel5Ideal.nD Cert.Kernel5Ideal.τ).loc Cert.Kernel5Ideal.main_v12_4)) (v5 : (c : Dev Cert.Kernel5Ideal.nD) → Buf (Elt Ideal) ((c.tc : Thread Cert.Kernel5Ideal.nD Cert.Kernel5Ideal.τ).loc Cert.Kernel5Ideal.main_v12_5)) (v6 : (c : Dev Cert.Kernel5Ideal.nD) → Buf (Elt Ideal) ((c.tc : Thread Cert.Kernel5Ideal.nD Cert.Kernel5Ideal.τ).loc Cert.Kernel5Ideal.main_v12_6)) (v7 : (c : Dev Cert.Kernel5Ideal.nD) → Buf (Elt Ideal) ((c.tc : Thread Cert.Kernel5Ideal.nD Cert.Kernel5Ideal.τ).loc Cert.Kernel5Ideal.main_v12_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_v12_4) = v4 c
          ∧ r.2.mem ((c.tc : Thread Cert.Kernel5Ideal.nD Cert.Kernel5Ideal.τ).loc Cert.Kernel5Ideal.main_v12_5) = v5 c
          ∧ r.2.mem ((c.tc : Thread Cert.Kernel5Ideal.nD Cert.Kernel5Ideal.τ).loc Cert.Kernel5Ideal.main_v12_6) = v6 c
          ∧ r.2.mem ((c.tc : Thread Cert.Kernel5Ideal.nD Cert.Kernel5Ideal.τ).loc Cert.Kernel5Ideal.main_v12_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_v36) = v2 c
          ∧ r.2.mem ((c.tc : Thread Cert.Reference5Ideal.nD Cert.Reference5Ideal.τ).loc Cert.Reference5Ideal.main_v38) = v3 c
          ∧ r.2.mem ((c.tc : Thread Cert.Reference5Ideal.nD Cert.Reference5Ideal.τ).loc Cert.Reference5Ideal.main_v40) = v4 c
          ∧ r.2.mem ((c.tc : Thread Cert.Reference5Ideal.nD Cert.Reference5Ideal.τ).loc Cert.Reference5Ideal.main_v42) = v5 c
          ∧ r.2.mem ((c.tc : Thread Cert.Reference5Ideal.nD Cert.Reference5Ideal.τ).loc Cert.Reference5Ideal.main_v43) = v6 c
          ∧ r.2.mem ((c.tc : Thread Cert.Reference5Ideal.nD Cert.Reference5Ideal.τ).loc Cert.Reference5Ideal.main_v30) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x4096x1024 : Shape := ⟨3, ![8, 4096, 1024]⟩
abbrev S8x256x512 : Shape := ⟨3, ![8, 256, 512]⟩
abbrev S1024x512 : Shape := ⟨2, ![1024, 512]⟩
abbrev S512x1024 : Shape := ⟨2, ![512, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  bitsLt_bf16_f32 : FTy.bits .bf16 < FTy.bits .f32
  bcast_S_S8x256x512 : S_.BroadcastsInDim S8x256x512 (![] : Fin 0 → Fin S8x256x512.rank)
  bcast_S_S1024x512 : S_.BroadcastsInDim S1024x512 (![] : Fin 0 → Fin S1024x512.rank)

variable [Facts]

def fn {F : FTy → Type} [FloatOps F] (main_arg0 : FVec F S8x4096x1024 .f32) (main_arg1 : FVec F S8x256x512 .bf16) (main_arg2 : FVec F S8x256x512 .bf16) (main_arg3 : FVec F S1024x512 .f32) (main_arg4 : FVec F S512x1024 .f32) (main_arg5 : FVec F S1024 .f32) (main_arg6 : FVec F S1024 .f32) : IVec S8x4096x1024 1 × IVec S8x256x512 1 × IVec S1024x512 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x256x512 .f32 := (extf .f32 · bitsLt_bf16_f32) main_arg1
  let main_v4 : FVec F S8x256x512 .f32 := Host.absf main_v3
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_v7 : FVec F S1024x512 .f32 := Host.absf main_arg3
  let main_cst_1 : FVec F S_ .f32 := constant S_ .f32 0x7F800000#32
  let main_v8 : FVec F S1024x512 .f32 := broadcastInDim S1024x512 ![] bcast_S_S1024x512 main_cst_1
  let main_v9 : IVec S1024x512 1 := cmpf .olt main_v7 main_v8
  (main_v2, main_v6, main_v9)
-- ==== Kernel.lean ====
abbrev S32768x512 : Shape := ⟨2, ![32768, 512]⟩
abbrev S32768x128 : Shape := ⟨2, ![32768, 128]⟩
abbrev S144x32768 : Shape := ⟨2, ![144, 32768]⟩
abbrev S8x64x128 : Shape := ⟨3, ![8, 64, 128]⟩
abbrev S8x128x64 : Shape := ⟨3, ![8, 128, 64]⟩
abbrev S3x128x128 : Shape := ⟨3, ![3, 128, 128]⟩
abbrev S32x8 : Shape := ⟨2, ![32, 8]⟩
abbrev S512x512 : Shape := ⟨2, ![512, 512]⟩
abbrev S8x4096x128 : Shape := ⟨3, ![8, 4096, 128]⟩
abbrev S8x4096x64 : Shape := ⟨3, ![8, 4096, 64]⟩
abbrev S8x4096x8 : Shape := ⟨3, ![8, 4096, 8]⟩
abbrev S8x8x4096 : Shape := ⟨3, ![8, 8, 4096]⟩
abbrev S1x64x128 : Shape := ⟨3, ![1, 64, 128]⟩
abbrev S64x128 : Shape := ⟨2, ![64, 128]⟩
abbrev S128x64 : Shape := ⟨2, ![128, 64]⟩
abbrev S_ : Shape := ⟨0, ![]⟩
abbrev S128x512 : Shape := ⟨2, ![128, 512]⟩
abbrev S1024x512 : Shape := ⟨2, ![1024, 512]⟩
abbrev S1x128x64 : Shape := ⟨3, ![1, 128, 64]⟩
abbrev S8x4096x512 : Shape := ⟨3, ![8, 4096, 512]⟩
abbrev S1x128x512 : Shape := ⟨3, ![1, 128, 512]⟩
abbrev S1x8x128 : Shape := ⟨3, ![1, 8, 128]⟩
abbrev S1x4096x64 : Shape := ⟨3, ![1, 4096, 64]⟩
abbrev S1x4096x128 : Shape := ⟨3, ![1, 4096, 128]⟩
abbrev S144x4096 : Shape := ⟨2, ![144, 4096]⟩
abbrev S4096x128 : Shape := ⟨2, ![4096, 128]⟩
abbrev S32x128x128 : Shape := ⟨3, ![32, 128, 128]⟩
abbrev S3x8x128x128 : Shape := ⟨4, ![3, 8, 128, 128]⟩
abbrev S128x1024 : Shape := ⟨2, ![128, 1024]⟩
abbrev S2x512x1024 : Shape := ⟨3, ![2, 512, 1024]⟩
abbrev S2x1x1024 : Shape := ⟨3, ![2, 1, 1024]⟩
abbrev S144x1024 : Shape := ⟨2, ![144, 1024]⟩
abbrev S1x1024 : Shape := ⟨2, ![1, 1024]⟩
abbrev S1x1 : Shape := ⟨2, ![1, 1]⟩
abbrev S3x1x128x128 : Shape := ⟨4, ![3, 1, 128, 128]⟩
abbrev S1024x64 : Shape := ⟨2, ![1024, 64]⟩
abbrev S8x128 : Shape := ⟨2, ![8, 128]⟩
abbrev S1x128 : Shape := ⟨2, ![1, 128]⟩
abbrev S1x512x64 : Shape := ⟨3, ![1, 512, 64]⟩
abbrev S512x64 : Shape := ⟨2, ![512, 64]⟩
abbrev S512x1024 : Shape := ⟨2, ![512, 1024]⟩
abbrev S1x512x1024 : Shape := ⟨3, ![1, 512, 1024]⟩
abbrev S256x128 : Shape := ⟨2, ![256, 128]⟩
abbrev S1x256x128 : Shape := ⟨3, ![1, 256, 128]⟩
abbrev S32x8x128 : Shape := ⟨3, ![32, 8, 128]⟩
abbrev S128x128 : Shape := ⟨2, ![128, 128]⟩
abbrev S1x128x128 : Shape := ⟨3, ![1, 128, 128]⟩
abbrev S16x8x128 : Shape := ⟨3, ![16, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1024x128 : Shape := ⟨2, ![1024, 128]⟩
abbrev S512x128 : Shape := ⟨2, ![512, 128]⟩
abbrev S64x8x128 : Shape := ⟨3, ![64, 8, 128]⟩
abbrev S1x512x128 : Shape := ⟨3, ![1, 512, 128]⟩
abbrev S128x256 : Shape := ⟨2, ![128, 256]⟩
abbrev S512x256 : Shape := ⟨2, ![512, 256]⟩
abbrev S1x1x128x128 : Shape := ⟨4, ![1, 1, 128, 128]⟩
abbrev S144x512 : Shape := ⟨2, ![144, 512]⟩
abbrev S1x512x256 : Shape := ⟨3, ![1, 512, 256]⟩
abbrev S1x1x256 : Shape := ⟨3, ![1, 1, 256]⟩
abbrev S1x256 : Shape := ⟨2, ![1, 256]⟩
abbrev S144x256 : Shape := ⟨2, ![144, 256]⟩

abbrev nBuf : Space → Nat
  | .hbm => 95
  | .vmem => 27
  | .smem => 1
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x128, .f32⟩
  | .hbm, ⟨3, _⟩ => ⟨S32768x128, .bf16⟩
  | .hbm, ⟨4, _⟩ => ⟨S144x32768, .bf16⟩
  | .hbm, ⟨5, _⟩ => ⟨S8x64x128, .f32⟩
  | .hbm, ⟨6, _⟩ => ⟨S8x128x64, .f32⟩
  | .hbm, ⟨7, _⟩ => ⟨S3x128x128, .i32⟩
  | .hbm, ⟨8, _⟩ => ⟨S32x8, .f32⟩
  | .hbm, ⟨9, _⟩ => ⟨S512x512, .bf16⟩
  | .hbm, ⟨10, _⟩ => ⟨S8x4096x128, .f32⟩
  | .hbm, ⟨11, _⟩ => ⟨S8x4096x64, .f32⟩
  | .hbm, ⟨12, _⟩ => ⟨S8x4096x64, .bf16⟩
  | .hbm, ⟨13, _⟩ => ⟨S8x4096x8, .f32⟩
  | .hbm, ⟨14, _⟩ => ⟨S8x8x4096, .f32⟩
  | .hbm, ⟨15, _⟩ => ⟨S1x64x128, .f32⟩
  | .hbm, ⟨16, _⟩ => ⟨S64x128, .f32⟩
  | .hbm, ⟨17, _⟩ => ⟨S128x64, .f32⟩
  | .hbm, ⟨18, _⟩ => ⟨S1x64x128, .f32⟩
  | .hbm, ⟨19, _⟩ => ⟨S64x128, .f32⟩
  | .hbm, ⟨20, _⟩ => ⟨S128x64, .f32⟩
  | .hbm, ⟨21, _⟩ => ⟨S1x64x128, .f32⟩
  | .hbm, ⟨22, _⟩ => ⟨S64x128, .f32⟩
  | .hbm, ⟨23, _⟩ => ⟨S128x64, .f32⟩
  | .hbm, ⟨24, _⟩ => ⟨S1x64x128, .f32⟩
  | .hbm, ⟨25, _⟩ => ⟨S64x128, .f32⟩
  | .hbm, ⟨26, _⟩ => ⟨S128x64, .f32⟩
  | .hbm, ⟨27, _⟩ => ⟨S1x64x128, .f32⟩
  | .hbm, ⟨28, _⟩ => ⟨S64x128, .f32⟩
  | .hbm, ⟨29, _⟩ => ⟨S128x64, .f32⟩
  | .hbm, ⟨30, _⟩ => ⟨S1x64x128, .f32⟩
  | .hbm, ⟨31, _⟩ => ⟨S64x128, .f32⟩
  | .hbm, ⟨32, _⟩ => ⟨S128x64, .f32⟩
  | .hbm, ⟨33, _⟩ => ⟨S1x64x128, .f32⟩
  | .hbm, ⟨34, _⟩ => ⟨S64x128, .f32⟩
  | .hbm, ⟨35, _⟩ => ⟨S128x64, .f32⟩
  | .hbm, ⟨36, _⟩ => ⟨S1x64x128, .f32⟩
  | .hbm, ⟨37, _⟩ => ⟨S64x128, .f32⟩
  | .hbm, ⟨38, _⟩ => ⟨S128x64, .f32⟩
  | .hbm, ⟨39, _⟩ => ⟨S_, .f32⟩
  | .hbm, ⟨40, _⟩ => ⟨S128x512, .f32⟩
  | .hbm, ⟨41, _⟩ => ⟨S_, .f32⟩
  | .hbm, ⟨42, _⟩ => ⟨S128x512, .f32⟩
  | .hbm, ⟨43, _⟩ => ⟨S_, .f32⟩
  | .hbm, ⟨44, _⟩ => ⟨S128x512, .f32⟩
  | .hbm, ⟨45, _⟩ => ⟨S_, .f32⟩
  | .hbm, ⟨46, _⟩ => ⟨S128x512, .f32⟩
  | .hbm, ⟨47, _⟩ => ⟨S_, .f32⟩
  | .hbm, ⟨48, _⟩ => ⟨S128x512, .f32⟩
  | .hbm, ⟨49, _⟩ => ⟨S_, .f32⟩
  | .hbm, ⟨50, _⟩ => ⟨S128x512, .f32⟩
  | .hbm, ⟨51, _⟩ => ⟨S_, .f32⟩
  | .hbm, ⟨52, _⟩ => ⟨S128x512, .f32⟩
  | .hbm, ⟨53, _⟩ => ⟨S_, .f32⟩
  | .hbm, ⟨54, _⟩ => ⟨S128x512, .f32⟩
  | .hbm, ⟨55, _⟩ => ⟨S1024x512, .f32⟩
  | .hbm, ⟨56, _⟩ => ⟨S1x128x64, .f32⟩
  | .hbm, ⟨57, _⟩ => ⟨S128x64, .f32⟩
  | .hbm, ⟨58, _⟩ => ⟨S1x128x64, .f32⟩
  | .hbm, ⟨59, _⟩ => ⟨S128x64, .f32⟩
  | .hbm, ⟨60, _⟩ => ⟨S1x128x64, .f32⟩
  | .hbm, ⟨61, _⟩ => ⟨S128x64, .f32⟩
  | .hbm, ⟨62, _⟩ => ⟨S1x128x64, .f32⟩
  | .hbm, ⟨63, _⟩ => ⟨S128x64, .f32⟩
  | .hbm, ⟨64, _⟩ => ⟨S1x128x64, .f32⟩
  | .hbm, ⟨65, _⟩ => ⟨S128x64, .f32⟩
  | .hbm, ⟨66, _⟩ => ⟨S1x128x64, .f32⟩
  | .hbm, ⟨67, _⟩ => ⟨S128x64, .f32⟩
  | .hbm, ⟨68, _⟩ => ⟨S1x128x64, .f32⟩
  | .hbm, ⟨69, _⟩ => ⟨S128x64, .f32⟩
  | .hbm, ⟨70, _⟩ => ⟨S1x128x64, .f32⟩
  | .hbm, ⟨71, _⟩ => ⟨S128x64, .f32⟩
  | .hbm, ⟨72, _⟩ => ⟨S_, .f32⟩
  | .hbm, ⟨73, _⟩ => ⟨S128x512, .f32⟩
  | .hbm, ⟨74, _⟩ => ⟨S_, .f32⟩
  | .hbm, ⟨75, _⟩ => ⟨S128x512, .f32⟩
  | .hbm, ⟨76, _⟩ => ⟨S_, .f32⟩
  | .hbm, ⟨77, _⟩ => ⟨S128x512, .f32⟩
  | .hbm, ⟨78, _⟩ => ⟨S_, .f32⟩
  | .hbm, ⟨79, _⟩ => ⟨S128x512, .f32⟩
  | .hbm, ⟨80, _⟩ => ⟨S_, .f32⟩
  | .hbm, ⟨81, _⟩ => ⟨S128x512, .f32⟩
  | .hbm, ⟨82, _⟩ => ⟨S_, .f32⟩
  | .hbm, ⟨83, _⟩ => ⟨S128x512, .f32⟩
  | .hbm, ⟨84, _⟩ => ⟨S_, .f32⟩
  | .hbm, ⟨85, _⟩ => ⟨S128x512, .f32⟩
  | .hbm, ⟨86, _⟩ => ⟨S_, .f32⟩
  | .hbm, ⟨87, _⟩ => ⟨S128x512, .f32⟩
  | .hbm, ⟨88, _⟩ => ⟨S1024x512, .f32⟩
  | .hbm, ⟨89, _⟩ => ⟨S8x4096x512, .bf16⟩
  | .hbm, ⟨90, _⟩ => ⟨S8x4096x512, .bf16⟩
  | .hbm, ⟨91, _⟩ => ⟨S8x4096x128, .bf16⟩
  | .hbm, ⟨92, _⟩ => ⟨S1024x512, .bf16⟩
  | .hbm, ⟨93, _⟩ => ⟨S1024x512, .bf16⟩
  | .hbm, ⟨94, _⟩ => ⟨S8x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x8x128, .f32⟩
  | .local _ .vmem, ⟨5, _⟩ => ⟨S1x8x128, .f32⟩
  | .local _ .vmem, ⟨6, _⟩ => ⟨S1x4096x64, .bf16⟩
  | .local _ .vmem, ⟨7, _⟩ => ⟨S1x4096x64, .bf16⟩
  | .local _ .vmem, ⟨8, _⟩ => ⟨S1x4096x128, .bf16⟩
  | .local _ .vmem, ⟨9, _⟩ => ⟨S1x4096x128, .bf16⟩
  | .local _ .vmem, ⟨10, _⟩ => ⟨S144x4096, .bf16⟩
  | .local _ .vmem, ⟨11, _⟩ => ⟨S144x4096, .bf16⟩
  | .local _ .vmem, ⟨12, _⟩ => ⟨S1024x512, .bf16⟩
  | .local _ .vmem, ⟨13, _⟩ => ⟨S1024x512, .bf16⟩
  | .local _ .vmem, ⟨14, _⟩ => ⟨S3x128x128, .i32⟩
  | .local _ .vmem, ⟨15, _⟩ => ⟨S512x512, .bf16⟩
  | .local _ .vmem, ⟨16, _⟩ => ⟨S1x128x512, .bf16⟩
  | .local _ .vmem, ⟨17, _⟩ => ⟨S1x128x512, .bf16⟩
  | .local _ .vmem, ⟨18, _⟩ => ⟨S4096x128, .i32⟩
  | .local _ .vmem, ⟨19, _⟩ => ⟨S32x128x128, .i32⟩
  | .local _ .vmem, ⟨20, _⟩ => ⟨S3x8x128x128, .f32⟩
  | .local _ .vmem, ⟨21, _⟩ => ⟨S128x1024, .bf16⟩
  | .local _ .vmem, ⟨22, _⟩ => ⟨S2x512x1024, .f32⟩
  | .local _ .vmem, ⟨23, _⟩ => ⟨S2x1x1024, .f32⟩
  | .local _ .vmem, ⟨24, _⟩ => ⟨S2x1x1024, .f32⟩
  | .local _ .vmem, ⟨25, _⟩ => ⟨S144x1024, .f32⟩
  | .local _ .vmem, ⟨26, _⟩ => ⟨S1x1024, .f32⟩
  | .local _ .smem, ⟨0, _⟩ => ⟨S32x8, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v8 : Ref sig .tc := ⟨.hbm, 40, rfl⟩
abbrev main_call0_cst_0 : Ref sig .tc := ⟨.hbm, 41, rfl⟩
abbrev main_call0_v9 : Ref sig .tc := ⟨.hbm, 42, rfl⟩
abbrev main_call0_cst_1 : Ref sig .tc := ⟨.hbm, 43, rfl⟩
abbrev main_call0_v10 : Ref sig .tc := ⟨.hbm, 44, rfl⟩
abbrev main_call0_cst_2 : Ref sig .tc := ⟨.hbm, 45, rfl⟩
abbrev main_call0_v11 : Ref sig .tc := ⟨.hbm, 46, rfl⟩
abbrev main_call0_cst_3 : Ref sig .tc := ⟨.hbm, 47, rfl⟩
abbrev main_call0_v12 : Ref sig .tc := ⟨.hbm, 48, rfl⟩
abbrev main_call0_cst_4 : Ref sig .tc := ⟨.hbm, 49, rfl⟩
abbrev main_call0_v13 : Ref sig .tc := ⟨.hbm, 50, rfl⟩
abbrev main_call0_cst_5 : Ref sig .tc := ⟨.hbm, 51, rfl⟩
abbrev main_call0_v14 : Ref sig .tc := ⟨.hbm, 52, rfl⟩
abbrev main_call0_cst_6 : Ref sig .tc := ⟨.hbm, 53, rfl⟩
abbrev main_call0_v15 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v8 : Ref sig .tc := ⟨.hbm, 73, rfl⟩
abbrev main_call1_cst_0 : Ref sig .tc := ⟨.hbm, 74, rfl⟩
abbrev main_call1_v9 : Ref sig .tc := ⟨.hbm, 75, rfl⟩
abbrev main_call1_cst_1 : Ref sig .tc := ⟨.hbm, 76, rfl⟩
abbrev main_call1_v10 : Ref sig .tc := ⟨.hbm, 77, rfl⟩
abbrev main_call1_cst_2 : Ref sig .tc := ⟨.hbm, 78, rfl⟩
abbrev main_call1_v11 : Ref sig .tc := ⟨.hbm, 79, rfl⟩
abbrev main_call1_cst_3 : Ref sig .tc := ⟨.hbm, 80, rfl⟩
abbrev main_call1_v12 : Ref sig .tc := ⟨.hbm, 81, rfl⟩
abbrev main_call1_cst_4 : Ref sig .tc := ⟨.hbm, 82, rfl⟩
abbrev main_call1_v13 : Ref sig .tc := ⟨.hbm, 83, rfl⟩
abbrev main_call1_cst_5 : Ref sig .tc := ⟨.hbm, 84, rfl⟩
abbrev main_call1_v14 : Ref sig .tc := ⟨.hbm, 85, rfl⟩
abbrev main_call1_cst_6 : Ref sig .tc := ⟨.hbm, 86, rfl⟩
abbrev main_call1_v15 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [BitOps F]

abbrev grid0 : Pipeline.Grid := ⟨2, ![8, 32], ![false, false]⟩

def k0_cond1 (i : grid0.Coords) : BitVec 1 :=
  let arg0 : BitVec 32 := BitVec.ofNat 32 (i 0).val
  let c0_i32_7 : BitVec 32 := 0#32
  let v21 : BitVec 1 := Scalar.cmpi .eq arg0 c0_i32_7
  let arg1 : BitVec 32 := BitVec.ofNat 32 (i 1).val
  let c0_i32_8 : BitVec 32 := 0#32
  let v22 : BitVec 1 := Scalar.cmpi .eq arg1 c0_i32_8
  let v23 : BitVec 1 := Scalar.andi v21 v22
  let v24 : BitVec 32 := Scalar.extui v23
  let c0_i32_9 : BitVec 32 := 0#32
  let v25 : BitVec 1 := Scalar.cmpi .ne v24 c0_i32_9
  v25

@[reducible] def k0_t1_loop : Scf.Loop 32 :=
  let c0_i32_93 : BitVec 32 := 0#32
  let c32_i32_94 : BitVec 32 := 32#32
  let v202 : BitVec 32 := Scalar.addi c0_i32_93 c32_i32_94
  let c1_i32_95 : BitVec 32 := 1#32
  ⟨c0_i32_93, v202, c1_i32_95⟩
def k0_off1 (k0_t1 : Fin k0_t1_loop.trips) : Fin 2 → Nat :=
  let c0_i32_93 : BitVec 32 := 0#32
  let c1_i32_95 : BitVec 32 := 1#32
  let arg23 : BitVec 32 := Scf.iv c0_i32_93 c1_i32_95 k0_t1
  let v206 : Index := Scalar.indexCast arg23
  let c0_100 : Index := 0#32
  ![v206.toNat, 0]
def k0_off2 (k0_t1 : Fin k0_t1_loop.trips) : Fin 2 → Nat :=
  let c0_i32_93 : BitVec 32 := 0#32
  let c1_i32_95 : BitVec 32 := 1#32
  let arg23 : BitVec 32 := Scf.iv c0_i32_93 c1_i32_95 k0_t1
  let v216 : Index := Scalar.indexCast arg23
  let c1 : Index := 1#32
  ![v216.toNat, 1]
def k0_off3 (k0_t1 : Fin k0_t1_loop.trips) : Fin 2 → Nat :=
  let c0_i32_93 : BitVec 32 := 0#32
  let c1_i32_95 : BitVec 32 := 1#32
  let arg23 : BitVec 32 := Scf.iv c0_i32_93 c1_i32_95 k0_t1
  let v226 : Index := Scalar.indexCast arg23
  let c2 : Index := 2#32
  ![v226.toNat, 2]
def k0_off4 (k0_t1 : Fin k0_t1_loop.trips) : Fin 2 → Nat :=
  let c0_i32_93 : BitVec 32 := 0#32
  let c1_i32_95 : BitVec 32 := 1#32
  let arg23 : BitVec 32 := Scf.iv c0_i32_93 c1_i32_95 k0_t1
  let v236 : Index := Scalar.indexCast arg23
  let c3 : Index := 3#32
  ![v236.toNat, 3]
def k0_off5 (k0_t1 : Fin k0_t1_loop.trips) : Fin 2 → Nat :=
  let c0_i32_93 : BitVec 32 := 0#32
  let c1_i32_95 : BitVec 32 := 1#32
  let arg23 : BitVec 32 := Scf.iv c0_i32_93 c1_i32_95 k0_t1
  let v246 : Index := Scalar.indexCast arg23
  let c4 : Index := 4#32
  ![v246.toNat, 4]
def k0_off6 (k0_t1 : Fin k0_t1_loop.trips) : Fin 2 → Nat :=
  let c0_i32_93 : BitVec 32 := 0#32
  let c1_i32_95 : BitVec 32 := 1#32
  let arg23 : BitVec 32 := Scf.iv c0_i32_93 c1_i32_95 k0_t1
  let v256 : Index := Scalar.indexCast arg23
  let c5 : Index := 5#32
  ![v256.toNat, 5]
def k0_off7 (k0_t1 : Fin k0_t1_loop.trips) : Fin 2 → Nat :=
  let c0_i32_93 : BitVec 32 := 0#32
  let c1_i32_95 : BitVec 32 := 1#32
  let arg23 : BitVec 32 := Scf.iv c0_i32_93 c1_i32_95 k0_t1
  let v266 : Index := Scalar.indexCast arg23
  let c6 : Index := 6#32
  ![v266.toNat, 6]
def k0_off8 (k0_t1 : Fin k0_t1_loop.trips) : Fin 2 → Nat :=
  let c0_i32_93 : BitVec 32 := 0#32
  let c1_i32_95 : BitVec 32 := 1#32
  let arg23 : BitVec 32 := Scf.iv c0_i32_93 c1_i32_95 k0_t1
  let v276 : Index := Scalar.indexCast arg23
  let c7 : Index := 7#32
  ![v276.toNat, 7]
def k0_mult1 : BitVec 32 :=
  let c0_i32_18 : BitVec 32 := 0#32
  c0_i32_18
@[reducible] def k0_t2_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_35 : BitVec 32 := 1#32
  ⟨c0_i32_33, v76, c1_i32_35⟩
def k0_mult2 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_85 : BitVec 32 := 1#32
  let v195 : BitVec 32 := Scalar.addi v194 c1_i32_85
  let c512_i32_86 : BitVec 32 := 512#32
  let v196 : BitVec 32 := Scalar.muli v195 c512_i32_86
  v196
def k0_off9 (i : grid0.Coords) (k0_t2 : Fin (k0_t2_loop i).trips) (c1_i32_85 : BitVec 32) : Fin 3 → Nat :=
  let c0_87 : Index := 0#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let v195 : BitVec 32 := Scalar.addi v194 c1_i32_85
  let c512_i32_86 : BitVec 32 := 512#32
  let v196 : BitVec 32 := Scalar.muli v195 c512_i32_86
  let v197 : BitVec 32 := v196
  let v198 : Index := Scalar.indexCast v197
  let c0_88 : Index := 0#32
  ![0, v198.toNat, 0]
def k0_mult3 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c512_i32_92 : BitVec 32 := 512#32
  let v205 : BitVec 32 := Scalar.muli v194 c512_i32_92
  let c0_i32_93 : BitVec 32 := 0#32
  let v206 : BitVec 32 := Scalar.addi v205 c0_i32_93
  v206
def k0_off10 (i : grid0.Coords) (k0_t2 : Fin (k0_t2_loop i).trips) (c0_i32_93 : BitVec 32) : Fin 2 → Nat :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c512_i32_92 : BitVec 32 := 512#32
  let v205 : BitVec 32 := Scalar.muli v194 c512_i32_92
  let v206 : BitVec 32 := Scalar.addi v205 c0_i32_93
  let v207 : BitVec 32 := v206
  let v286 : Index := Scalar.indexCast v207
  let c0_128 : Index := 0#32
  ![v286.toNat, 0]
def k0_mult4 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let c0_i32_364 : BitVec 32 := 0#32
  let v1078 : BitVec 32 := Scalar.addi v1077 c0_i32_364
  let c8_i32_365 : BitVec 32 := 8#32
  let v1079 : BitVec 32 := Scalar.muli v1078 c8_i32_365
  v1079
def k0_off11 (i : grid0.Coords) (k0_t2 : Fin (k0_t2_loop i).trips) (c0_i32_364 : BitVec 32) : Fin 3 → Nat :=
  let c0_366 : Index := 0#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1081 : Index := Scalar.indexCast v1080
  let c0_367 : Index := 0#32
  ![0, v1081.toNat, 0]
def k0_off12 (i : grid0.Coords) (k0_t2 : Fin (k0_t2_loop i).trips) (c0_i32_364 : BitVec 32) : Fin 3 → Nat :=
  let c1_368 : Index := 1#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1085 : Index := Scalar.indexCast v1080
  let c0_369 : Index := 0#32
  ![1, v1085.toNat, 0]
def k0_off13 (i : grid0.Coords) (k0_t2 : Fin (k0_t2_loop i).trips) (c0_i32_364 : BitVec 32) : Fin 3 → Nat :=
  let c2 : Index := 2#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1089 : Index := Scalar.indexCast v1080
  let c0_370 : Index := 0#32
  ![2, v1089.toNat, 0]
def k0_off14 (i : grid0.Coords) (k0_t2 : Fin (k0_t2_loop i).trips) (c0_i32_364 : BitVec 32) : Fin 3 → Nat :=
  let c3 : Index := 3#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1093 : Index := Scalar.indexCast v1080
  let c0_371 : Index := 0#32
  ![3, v1093.toNat, 0]
def k0_off15 (i : grid0.Coords) (k0_t2 : Fin (k0_t2_loop i).trips) (c0_i32_364 : BitVec 32) : Fin 3 → Nat :=
  let c4 : Index := 4#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1097 : Index := Scalar.indexCast v1080
  let c0_372 : Index := 0#32
  ![4, v1097.toNat, 0]
def k0_off16 (i : grid0.Coords) (k0_t2 : Fin (k0_t2_loop i).trips) (c0_i32_364 : BitVec 32) : Fin 3 → Nat :=
  let c5 : Index := 5#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1101 : Index := Scalar.indexCast v1080
  let c0_373 : Index := 0#32
  ![5, v1101.toNat, 0]
def k0_off17 (i : grid0.Coords) (k0_t2 : Fin (k0_t2_loop i).trips) (c0_i32_364 : BitVec 32) : Fin 3 → Nat :=
  let c6 : Index := 6#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1105 : Index := Scalar.indexCast v1080
  let c0_374 : Index := 0#32
  ![6, v1105.toNat, 0]
def k0_off18 (i : grid0.Coords) (k0_t2 : Fin (k0_t2_loop i).trips) (c0_i32_364 : BitVec 32) : Fin 3 → Nat :=
  let c7 : Index := 7#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1109 : Index := Scalar.indexCast v1080
  let c0_375 : Index := 0#32
  ![7, v1109.toNat, 0]
def k0_off19 (i : grid0.Coords) (k0_t2 : Fin (k0_t2_loop i).trips) (c0_i32_364 : BitVec 32) : Fin 3 → Nat :=
  let c8 : Index := 8#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1113 : Index := Scalar.indexCast v1080
  let c0_376 : Index := 0#32
  ![8, v1113.toNat, 0]
def k0_off20 (i : grid0.Coords) (k0_t2 : Fin (k0_t2_loop i).trips) (c0_i32_364 : BitVec 32) : Fin 3 → Nat :=
  let c9 : Index := 9#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1117 : Index := Scalar.indexCast v1080
  let c0_377 : Index := 0#32
  ![9, v1117.toNat, 0]
def k0_off21 (i : grid0.Coords) (k0_t2 : Fin (k0_t2_loop i).trips) (c0_i32_364 : BitVec 32) : Fin 3 → Nat :=
  let c10 : Index := 10#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1121 : Index := Scalar.indexCast v1080
  let c0_378 : Index := 0#32
  ![10, v1121.toNat, 0]
def k0_off22 (i : grid0.Coords) (k0_t2 : Fin (k0_t2_loop i).trips) (c0_i32_364 : BitVec 32) : Fin 3 → Nat :=
  let c11 : Index := 11#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1125 : Index := Scalar.indexCast v1080
  let c0_379 : Index := 0#32
  ![11, v1125.toNat, 0]
def k0_off23 (i : grid0.Coords) (k0_t2 : Fin (k0_t2_loop i).trips) (c0_i32_364 : BitVec 32) : Fin 3 → Nat :=
  let c12 : Index := 12#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1129 : Index := Scalar.indexCast v1080
  let c0_380 : Index := 0#32
  ![12, v1129.toNat, 0]
def k0_off24 (i : grid0.Coords) (k0_t2 : Fin (k0_t2_loop i).trips) (c0_i32_364 : BitVec 32) : Fin 3 → Nat :=
  let c13 : Index := 13#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1133 : Index := Scalar.indexCast v1080
  let c0_381 : Index := 0#32
  ![13, v1133.toNat, 0]
def k0_off25 (i : grid0.Coords) (k0_t2 : Fin (k0_t2_loop i).trips) (c0_i32_364 : BitVec 32) : Fin 3 → Nat :=
  let c14 : Index := 14#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1137 : Index := Scalar.indexCast v1080
  let c0_382 : Index := 0#32
  ![14, v1137.toNat, 0]
def k0_off26 (i : grid0.Coords) (k0_t2 : Fin (k0_t2_loop i).trips) (c0_i32_364 : BitVec 32) : Fin 3 → Nat :=
  let c15 : Index := 15#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1141 : Index := Scalar.indexCast v1080
  let c0_383 : Index := 0#32
  ![15, v1141.toNat, 0]
def k0_off27 (i : grid0.Coords) (k0_t2 : Fin (k0_t2_loop i).trips) (c0_i32_364 : BitVec 32) : Fin 3 → Nat :=
  let c16 : Index := 16#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1145 : Index := Scalar.indexCast v1080
  let c0_384 : Index := 0#32
  ![16, v1145.toNat, 0]
def k0_off28 (i : grid0.Coords) (k0_t2 : Fin (k0_t2_loop i).trips) (c0_i32_364 : BitVec 32) : Fin 3 → Nat :=
  let c17 : Index := 17#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1149 : Index := Scalar.indexCast v1080
  let c0_385 : Index := 0#32
  ![17, v1149.toNat, 0]
def k0_off29 (i : grid0.Coords) (k0_t2 : Fin (k0_t2_loop i).trips) (c0_i32_364 : BitVec 32) : Fin 3 → Nat :=
  let c18 : Index := 18#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1153 : Index := Scalar.indexCast v1080
  let c0_386 : Index := 0#32
  ![18, v1153.toNat, 0]
def k0_off30 (i : grid0.Coords) (k0_t2 : Fin (k0_t2_loop i).trips) (c0_i32_364 : BitVec 32) : Fin 3 → Nat :=
  let c19 : Index := 19#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1157 : Index := Scalar.indexCast v1080
  let c0_387 : Index := 0#32
  ![19, v1157.toNat, 0]
def k0_off31 (i : grid0.Coords) (k0_t2 : Fin (k0_t2_loop i).trips) (c0_i32_364 : BitVec 32) : Fin 3 → Nat :=
  let c20 : Index := 20#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1161 : Index := Scalar.indexCast v1080
  let c0_388 : Index := 0#32
  ![20, v1161.toNat, 0]
def k0_off32 (i : grid0.Coords) (k0_t2 : Fin (k0_t2_loop i).trips) (c0_i32_364 : BitVec 32) : Fin 3 → Nat :=
  let c21 : Index := 21#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1165 : Index := Scalar.indexCast v1080
  let c0_389 : Index := 0#32
  ![21, v1165.toNat, 0]
def k0_off33 (i : grid0.Coords) (k0_t2 : Fin (k0_t2_loop i).trips) (c0_i32_364 : BitVec 32) : Fin 3 → Nat :=
  let c22 : Index := 22#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1169 : Index := Scalar.indexCast v1080
  let c0_390 : Index := 0#32
  ![22, v1169.toNat, 0]
def k0_off34 (i : grid0.Coords) (k0_t2 : Fin (k0_t2_loop i).trips) (c0_i32_364 : BitVec 32) : Fin 3 → Nat :=
  let c23 : Index := 23#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1173 : Index := Scalar.indexCast v1080
  let c0_391 : Index := 0#32
  ![23, v1173.toNat, 0]
def k0_off35 (i : grid0.Coords) (k0_t2 : Fin (k0_t2_loop i).trips) (c0_i32_364 : BitVec 32) : Fin 3 → Nat :=
  let c24 : Index := 24#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1177 : Index := Scalar.indexCast v1080
  let c0_392 : Index := 0#32
  ![24, v1177.toNat, 0]
def k0_off36 (i : grid0.Coords) (k0_t2 : Fin (k0_t2_loop i).trips) (c0_i32_364 : BitVec 32) : Fin 3 → Nat :=
  let c25 : Index := 25#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1181 : Index := Scalar.indexCast v1080
  let c0_393 : Index := 0#32
  ![25, v1181.toNat, 0]
def k0_off37 (i : grid0.Coords) (k0_t2 : Fin (k0_t2_loop i).trips) (c0_i32_364 : BitVec 32) : Fin 3 → Nat :=
  let c26 : Index := 26#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1185 : Index := Scalar.indexCast v1080
  let c0_394 : Index := 0#32
  ![26, v1185.toNat, 0]
def k0_off38 (i : grid0.Coords) (k0_t2 : Fin (k0_t2_loop i).trips) (c0_i32_364 : BitVec 32) : Fin 3 → Nat :=
  let c27 : Index := 27#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1189 : Index := Scalar.indexCast v1080
  let c0_395 : Index := 0#32
  ![27, v1189.toNat, 0]
def k0_off39 (i : grid0.Coords) (k0_t2 : Fin (k0_t2_loop i).trips) (c0_i32_364 : BitVec 32) : Fin 3 → Nat :=
  let c28 : Index := 28#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1193 : Index := Scalar.indexCast v1080
  let c0_396 : Index := 0#32
  ![28, v1193.toNat, 0]
def k0_off40 (i : grid0.Coords) (k0_t2 : Fin (k0_t2_loop i).trips) (c0_i32_364 : BitVec 32) : Fin 3 → Nat :=
  let c29 : Index := 29#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1197 : Index := Scalar.indexCast v1080
  let c0_397 : Index := 0#32
  ![29, v1197.toNat, 0]
def k0_off41 (i : grid0.Coords) (k0_t2 : Fin (k0_t2_loop i).trips) (c0_i32_364 : BitVec 32) : Fin 3 → Nat :=
  let c30 : Index := 30#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1201 : Index := Scalar.indexCast v1080
  let c0_398 : Index := 0#32
  ![30, v1201.toNat, 0]
def k0_off42 (i : grid0.Coords) (k0_t2 : Fin (k0_t2_loop i).trips) (c0_i32_364 : BitVec 32) : Fin 3 → Nat :=
  let c31 : Index := 31#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1205 : Index := Scalar.indexCast v1080
  let c0_399 : Index := 0#32
  ![31, v1205.toNat, 0]
def k0_mult5 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c512_i32_400 : BitVec 32 := 512#32
  let v1209 : BitVec 32 := Scalar.muli v194 c512_i32_400
  let c256_i32_401 : BitVec 32 := 256#32
  let v1210 : BitVec 32 := Scalar.addi v1209 c256_i32_401
  v1210
def k0_mult6 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_680 : BitVec 32 := 2#32
  let v2081 : BitVec 32 := Scalar.muli v194 c2_i32_680
  let c1_i32_681 : BitVec 32 := 1#32
  let v2082 : BitVec 32 := Scalar.addi v2081 c1_i32_681
  let c8_i32_682 : BitVec 32 := 8#32
  let v2083 : BitVec 32 := Scalar.muli v2082 c8_i32_682
  v2083
def k0_mult7 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c2_i32_747 : BitVec 32 := 2#32
  let v2213 : BitVec 32 := Scalar.addi v194 c2_i32_747
  let c512_i32_748 : BitVec 32 := 512#32
  let v2214 : BitVec 32 := Scalar.muli v2213 c512_i32_748
  v2214
def k0_mult8 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c512_i32_756 : BitVec 32 := 512#32
  let v2224 : BitVec 32 := Scalar.muli v2223 c512_i32_756
  let c0_i32_757 : BitVec 32 := 0#32
  let v2225 : BitVec 32 := Scalar.addi v2224 c0_i32_757
  v2225
def k0_off43 (i : grid0.Coords) (k0_t2 : Fin (k0_t2_loop i).trips) (c0_i32_757 : BitVec 32) : Fin 2 → Nat :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c512_i32_756 : BitVec 32 := 512#32
  let v2224 : BitVec 32 := Scalar.muli v2223 c512_i32_756
  let v2225 : BitVec 32 := Scalar.addi v2224 c0_i32_757
  let v2226 : BitVec 32 := v2225
  let v2305 : Index := Scalar.indexCast v2226
  let c0_794 : Index := 0#32
  ![v2305.toNat, 0]
def k0_mult9 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let c0_i32_1037 : BitVec 32 := 0#32
  let v3097 : BitVec 32 := Scalar.addi v3096 c0_i32_1037
  let c8_i32_1038 : BitVec 32 := 8#32
  let v3098 : BitVec 32 := Scalar.muli v3097 c8_i32_1038
  v3098
def k0_off44 (i : grid0.Coords) (k0_t2 : Fin (k0_t2_loop i).trips) (c0_i32_1037 : BitVec 32) : Fin 3 → Nat :=
  let c0_1039 : Index := 0#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3100 : Index := Scalar.indexCast v3099
  let c0_1040 : Index := 0#32
  ![0, v3100.toNat, 0]
def k0_off45 (i : grid0.Coords) (k0_t2 : Fin (k0_t2_loop i).trips) (c0_i32_1037 : BitVec 32) : Fin 3 → Nat :=
  let c1_1041 : Index := 1#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3104 : Index := Scalar.indexCast v3099
  let c0_1042 : Index := 0#32
  ![1, v3104.toNat, 0]
def k0_off46 (i : grid0.Coords) (k0_t2 : Fin (k0_t2_loop i).trips) (c0_i32_1037 : BitVec 32) : Fin 3 → Nat :=
  let c2_1043 : Index := 2#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3108 : Index := Scalar.indexCast v3099
  let c0_1044 : Index := 0#32
  ![2, v3108.toNat, 0]
def k0_off47 (i : grid0.Coords) (k0_t2 : Fin (k0_t2_loop i).trips) (c0_i32_1037 : BitVec 32) : Fin 3 → Nat :=
  let c3_1045 : Index := 3#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3112 : Index := Scalar.indexCast v3099
  let c0_1046 : Index := 0#32
  ![3, v3112.toNat, 0]
def k0_off48 (i : grid0.Coords) (k0_t2 : Fin (k0_t2_loop i).trips) (c0_i32_1037 : BitVec 32) : Fin 3 → Nat :=
  let c4_1047 : Index := 4#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3116 : Index := Scalar.indexCast v3099
  let c0_1048 : Index := 0#32
  ![4, v3116.toNat, 0]
def k0_off49 (i : grid0.Coords) (k0_t2 : Fin (k0_t2_loop i).trips) (c0_i32_1037 : BitVec 32) : Fin 3 → Nat :=
  let c5_1049 : Index := 5#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3120 : Index := Scalar.indexCast v3099
  let c0_1050 : Index := 0#32
  ![5, v3120.toNat, 0]
def k0_off50 (i : grid0.Coords) (k0_t2 : Fin (k0_t2_loop i).trips) (c0_i32_1037 : BitVec 32) : Fin 3 → Nat :=
  let c6_1051 : Index := 6#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3124 : Index := Scalar.indexCast v3099
  let c0_1052 : Index := 0#32
  ![6, v3124.toNat, 0]
def k0_off51 (i : grid0.Coords) (k0_t2 : Fin (k0_t2_loop i).trips) (c0_i32_1037 : BitVec 32) : Fin 3 → Nat :=
  let c7_1053 : Index := 7#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3128 : Index := Scalar.indexCast v3099
  let c0_1054 : Index := 0#32
  ![7, v3128.toNat, 0]
def k0_off52 (i : grid0.Coords) (k0_t2 : Fin (k0_t2_loop i).trips) (c0_i32_1037 : BitVec 32) : Fin 3 → Nat :=
  let c8_1055 : Index := 8#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3132 : Index := Scalar.indexCast v3099
  let c0_1056 : Index := 0#32
  ![8, v3132.toNat, 0]
def k0_off53 (i : grid0.Coords) (k0_t2 : Fin (k0_t2_loop i).trips) (c0_i32_1037 : BitVec 32) : Fin 3 → Nat :=
  let c9_1057 : Index := 9#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3136 : Index := Scalar.indexCast v3099
  let c0_1058 : Index := 0#32
  ![9, v3136.toNat, 0]
def k0_off54 (i : grid0.Coords) (k0_t2 : Fin (k0_t2_loop i).trips) (c0_i32_1037 : BitVec 32) : Fin 3 → Nat :=
  let c10_1059 : Index := 10#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3140 : Index := Scalar.indexCast v3099
  let c0_1060 : Index := 0#32
  ![10, v3140.toNat, 0]
def k0_off55 (i : grid0.Coords) (k0_t2 : Fin (k0_t2_loop i).trips) (c0_i32_1037 : BitVec 32) : Fin 3 → Nat :=
  let c11_1061 : Index := 11#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3144 : Index := Scalar.indexCast v3099
  let c0_1062 : Index := 0#32
  ![11, v3144.toNat, 0]
def k0_off56 (i : grid0.Coords) (k0_t2 : Fin (k0_t2_loop i).trips) (c0_i32_1037 : BitVec 32) : Fin 3 → Nat :=
  let c12_1063 : Index := 12#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3148 : Index := Scalar.indexCast v3099
  let c0_1064 : Index := 0#32
  ![12, v3148.toNat, 0]
def k0_off57 (i : grid0.Coords) (k0_t2 : Fin (k0_t2_loop i).trips) (c0_i32_1037 : BitVec 32) : Fin 3 → Nat :=
  let c13_1065 : Index := 13#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3152 : Index := Scalar.indexCast v3099
  let c0_1066 : Index := 0#32
  ![13, v3152.toNat, 0]
def k0_off58 (i : grid0.Coords) (k0_t2 : Fin (k0_t2_loop i).trips) (c0_i32_1037 : BitVec 32) : Fin 3 → Nat :=
  let c14_1067 : Index := 14#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3156 : Index := Scalar.indexCast v3099
  let c0_1068 : Index := 0#32
  ![14, v3156.toNat, 0]
def k0_off59 (i : grid0.Coords) (k0_t2 : Fin (k0_t2_loop i).trips) (c0_i32_1037 : BitVec 32) : Fin 3 → Nat :=
  let c15_1069 : Index := 15#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3160 : Index := Scalar.indexCast v3099
  let c0_1070 : Index := 0#32
  ![15, v3160.toNat, 0]
def k0_off60 (i : grid0.Coords) (k0_t2 : Fin (k0_t2_loop i).trips) (c0_i32_1037 : BitVec 32) : Fin 3 → Nat :=
  let c16_1071 : Index := 16#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3164 : Index := Scalar.indexCast v3099
  let c0_1072 : Index := 0#32
  ![16, v3164.toNat, 0]
def k0_off61 (i : grid0.Coords) (k0_t2 : Fin (k0_t2_loop i).trips) (c0_i32_1037 : BitVec 32) : Fin 3 → Nat :=
  let c17_1073 : Index := 17#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3168 : Index := Scalar.indexCast v3099
  let c0_1074 : Index := 0#32
  ![17, v3168.toNat, 0]
def k0_off62 (i : grid0.Coords) (k0_t2 : Fin (k0_t2_loop i).trips) (c0_i32_1037 : BitVec 32) : Fin 3 → Nat :=
  let c18_1075 : Index := 18#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3172 : Index := Scalar.indexCast v3099
  let c0_1076 : Index := 0#32
  ![18, v3172.toNat, 0]
def k0_off63 (i : grid0.Coords) (k0_t2 : Fin (k0_t2_loop i).trips) (c0_i32_1037 : BitVec 32) : Fin 3 → Nat :=
  let c19_1077 : Index := 19#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3176 : Index := Scalar.indexCast v3099
  let c0_1078 : Index := 0#32
  ![19, v3176.toNat, 0]
def k0_off64 (i : grid0.Coords) (k0_t2 : Fin (k0_t2_loop i).trips) (c0_i32_1037 : BitVec 32) : Fin 3 → Nat :=
  let c20_1079 : Index := 20#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3180 : Index := Scalar.indexCast v3099
  let c0_1080 : Index := 0#32
  ![20, v3180.toNat, 0]
def k0_off65 (i : grid0.Coords) (k0_t2 : Fin (k0_t2_loop i).trips) (c0_i32_1037 : BitVec 32) : Fin 3 → Nat :=
  let c21_1081 : Index := 21#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3184 : Index := Scalar.indexCast v3099
  let c0_1082 : Index := 0#32
  ![21, v3184.toNat, 0]
def k0_off66 (i : grid0.Coords) (k0_t2 : Fin (k0_t2_loop i).trips) (c0_i32_1037 : BitVec 32) : Fin 3 → Nat :=
  let c22_1083 : Index := 22#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3188 : Index := Scalar.indexCast v3099
  let c0_1084 : Index := 0#32
  ![22, v3188.toNat, 0]
def k0_off67 (i : grid0.Coords) (k0_t2 : Fin (k0_t2_loop i).trips) (c0_i32_1037 : BitVec 32) : Fin 3 → Nat :=
  let c23_1085 : Index := 23#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3192 : Index := Scalar.indexCast v3099
  let c0_1086 : Index := 0#32
  ![23, v3192.toNat, 0]
def k0_off68 (i : grid0.Coords) (k0_t2 : Fin (k0_t2_loop i).trips) (c0_i32_1037 : BitVec 32) : Fin 3 → Nat :=
  let c24_1087 : Index := 24#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3196 : Index := Scalar.indexCast v3099
  let c0_1088 : Index := 0#32
  ![24, v3196.toNat, 0]
def k0_off69 (i : grid0.Coords) (k0_t2 : Fin (k0_t2_loop i).trips) (c0_i32_1037 : BitVec 32) : Fin 3 → Nat :=
  let c25_1089 : Index := 25#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3200 : Index := Scalar.indexCast v3099
  let c0_1090 : Index := 0#32
  ![25, v3200.toNat, 0]
def k0_off70 (i : grid0.Coords) (k0_t2 : Fin (k0_t2_loop i).trips) (c0_i32_1037 : BitVec 32) : Fin 3 → Nat :=
  let c26_1091 : Index := 26#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3204 : Index := Scalar.indexCast v3099
  let c0_1092 : Index := 0#32
  ![26, v3204.toNat, 0]
def k0_off71 (i : grid0.Coords) (k0_t2 : Fin (k0_t2_loop i).trips) (c0_i32_1037 : BitVec 32) : Fin 3 → Nat :=
  let c27_1093 : Index := 27#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3208 : Index := Scalar.indexCast v3099
  let c0_1094 : Index := 0#32
  ![27, v3208.toNat, 0]
def k0_off72 (i : grid0.Coords) (k0_t2 : Fin (k0_t2_loop i).trips) (c0_i32_1037 : BitVec 32) : Fin 3 → Nat :=
  let c28_1095 : Index := 28#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3212 : Index := Scalar.indexCast v3099
  let c0_1096 : Index := 0#32
  ![28, v3212.toNat, 0]
def k0_off73 (i : grid0.Coords) (k0_t2 : Fin (k0_t2_loop i).trips) (c0_i32_1037 : BitVec 32) : Fin 3 → Nat :=
  let c29_1097 : Index := 29#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3216 : Index := Scalar.indexCast v3099
  let c0_1098 : Index := 0#32
  ![29, v3216.toNat, 0]
def k0_off74 (i : grid0.Coords) (k0_t2 : Fin (k0_t2_loop i).trips) (c0_i32_1037 : BitVec 32) : Fin 3 → Nat :=
  let c30_1099 : Index := 30#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3220 : Index := Scalar.indexCast v3099
  let c0_1100 : Index := 0#32
  ![30, v3220.toNat, 0]
def k0_off75 (i : grid0.Coords) (k0_t2 : Fin (k0_t2_loop i).trips) (c0_i32_1037 : BitVec 32) : Fin 3 → Nat :=
  let c31_1101 : Index := 31#32
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3224 : Index := Scalar.indexCast v3099
  let c0_1102 : Index := 0#32
  ![31, v3224.toNat, 0]
def k0_mult10 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c512_i32_1103 : BitVec 32 := 512#32
  let v3228 : BitVec 32 := Scalar.muli v2223 c512_i32_1103
  let c256_i32_1104 : BitVec 32 := 256#32
  let v3229 : BitVec 32 := Scalar.addi v3228 c256_i32_1104
  v3229
def k0_mult11 (i : grid0.Coords) (k0_t2 : Fin (k0_t2_loop i).trips) : BitVec 32 :=
  let c2_i32_84 : BitVec 32 := 2#32
  let c0_i32_33 : BitVec 32 := 0#32
  let c1_i32_35 : BitVec 32 := 1#32
  let arg23 : BitVec 32 := Scf.iv c0_i32_33 c1_i32_35 k0_t2
  let v194 : BitVec 32 := Scalar.muli c2_i32_84 arg23
  let c1_i32_755 : BitVec 32 := 1#32
  let v2223 : BitVec 32 := Scalar.addi v194 c1_i32_755
  let c2_i32_1383 : BitVec 32 := 2#32
  let v4100 : BitVec 32 := Scalar.muli v2223 c2_i32_1383
  let c1_i32_1384 : BitVec 32 := 1#32
  let v4101 : BitVec 32 := Scalar.addi v4100 c1_i32_1384
  let c8_i32_1385 : BitVec 32 := 8#32
  let v4102 : BitVec 32 := Scalar.muli v4101 c8_i32_1385
  v4102
@[reducible] def k0_t3_loop (i : grid0.Coords) : Scf.Loop 32 :=
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let v73 : BitVec 32 := Scalar.addi c0_i32_33 v72
  let c1_i32_36 : BitVec 32 := 1#32
  ⟨v76, v73, c1_i32_36⟩
def k0_mult12 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_85 : BitVec 32 := 1#32
  let v195 : BitVec 32 := Scalar.addi v194 c1_i32_85
  let c512_i32_86 : BitVec 32 := 512#32
  let v196 : BitVec 32 := Scalar.muli v195 c512_i32_86
  v196
def k0_off76 (i : grid0.Coords) (k0_t3 : Fin (k0_t3_loop i).trips) (c1_i32_85 : BitVec 32) : Fin 3 → Nat :=
  let c0_87 : Index := 0#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let v195 : BitVec 32 := Scalar.addi v194 c1_i32_85
  let c512_i32_86 : BitVec 32 := 512#32
  let v196 : BitVec 32 := Scalar.muli v195 c512_i32_86
  let v197 : BitVec 32 := v196
  let v198 : Index := Scalar.indexCast v197
  let c0_88 : Index := 0#32
  ![0, v198.toNat, 0]
def k0_mult13 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c512_i32_92 : BitVec 32 := 512#32
  let v205 : BitVec 32 := Scalar.muli v194 c512_i32_92
  let c0_i32_93 : BitVec 32 := 0#32
  let v206 : BitVec 32 := Scalar.addi v205 c0_i32_93
  v206
def k0_off77 (i : grid0.Coords) (k0_t3 : Fin (k0_t3_loop i).trips) (c0_i32_93 : BitVec 32) : Fin 2 → Nat :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c512_i32_92 : BitVec 32 := 512#32
  let v205 : BitVec 32 := Scalar.muli v194 c512_i32_92
  let v206 : BitVec 32 := Scalar.addi v205 c0_i32_93
  let v207 : BitVec 32 := v206
  let v286 : Index := Scalar.indexCast v207
  let c0_128 : Index := 0#32
  ![v286.toNat, 0]
def k0_mult14 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let c0_i32_364 : BitVec 32 := 0#32
  let v1078 : BitVec 32 := Scalar.addi v1077 c0_i32_364
  let c8_i32_365 : BitVec 32 := 8#32
  let v1079 : BitVec 32 := Scalar.muli v1078 c8_i32_365
  v1079
def k0_off78 (i : grid0.Coords) (k0_t3 : Fin (k0_t3_loop i).trips) (c0_i32_364 : BitVec 32) : Fin 3 → Nat :=
  let c0_366 : Index := 0#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1081 : Index := Scalar.indexCast v1080
  let c0_367 : Index := 0#32
  ![0, v1081.toNat, 0]
def k0_off79 (i : grid0.Coords) (k0_t3 : Fin (k0_t3_loop i).trips) (c0_i32_364 : BitVec 32) : Fin 3 → Nat :=
  let c1_368 : Index := 1#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1085 : Index := Scalar.indexCast v1080
  let c0_369 : Index := 0#32
  ![1, v1085.toNat, 0]
def k0_off80 (i : grid0.Coords) (k0_t3 : Fin (k0_t3_loop i).trips) (c0_i32_364 : BitVec 32) : Fin 3 → Nat :=
  let c2 : Index := 2#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1089 : Index := Scalar.indexCast v1080
  let c0_370 : Index := 0#32
  ![2, v1089.toNat, 0]
def k0_off81 (i : grid0.Coords) (k0_t3 : Fin (k0_t3_loop i).trips) (c0_i32_364 : BitVec 32) : Fin 3 → Nat :=
  let c3 : Index := 3#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1093 : Index := Scalar.indexCast v1080
  let c0_371 : Index := 0#32
  ![3, v1093.toNat, 0]
def k0_off82 (i : grid0.Coords) (k0_t3 : Fin (k0_t3_loop i).trips) (c0_i32_364 : BitVec 32) : Fin 3 → Nat :=
  let c4 : Index := 4#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1097 : Index := Scalar.indexCast v1080
  let c0_372 : Index := 0#32
  ![4, v1097.toNat, 0]
def k0_off83 (i : grid0.Coords) (k0_t3 : Fin (k0_t3_loop i).trips) (c0_i32_364 : BitVec 32) : Fin 3 → Nat :=
  let c5 : Index := 5#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1101 : Index := Scalar.indexCast v1080
  let c0_373 : Index := 0#32
  ![5, v1101.toNat, 0]
def k0_off84 (i : grid0.Coords) (k0_t3 : Fin (k0_t3_loop i).trips) (c0_i32_364 : BitVec 32) : Fin 3 → Nat :=
  let c6 : Index := 6#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1105 : Index := Scalar.indexCast v1080
  let c0_374 : Index := 0#32
  ![6, v1105.toNat, 0]
def k0_off85 (i : grid0.Coords) (k0_t3 : Fin (k0_t3_loop i).trips) (c0_i32_364 : BitVec 32) : Fin 3 → Nat :=
  let c7 : Index := 7#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1109 : Index := Scalar.indexCast v1080
  let c0_375 : Index := 0#32
  ![7, v1109.toNat, 0]
def k0_off86 (i : grid0.Coords) (k0_t3 : Fin (k0_t3_loop i).trips) (c0_i32_364 : BitVec 32) : Fin 3 → Nat :=
  let c8 : Index := 8#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1113 : Index := Scalar.indexCast v1080
  let c0_376 : Index := 0#32
  ![8, v1113.toNat, 0]
def k0_off87 (i : grid0.Coords) (k0_t3 : Fin (k0_t3_loop i).trips) (c0_i32_364 : BitVec 32) : Fin 3 → Nat :=
  let c9 : Index := 9#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1117 : Index := Scalar.indexCast v1080
  let c0_377 : Index := 0#32
  ![9, v1117.toNat, 0]
def k0_off88 (i : grid0.Coords) (k0_t3 : Fin (k0_t3_loop i).trips) (c0_i32_364 : BitVec 32) : Fin 3 → Nat :=
  let c10 : Index := 10#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1121 : Index := Scalar.indexCast v1080
  let c0_378 : Index := 0#32
  ![10, v1121.toNat, 0]
def k0_off89 (i : grid0.Coords) (k0_t3 : Fin (k0_t3_loop i).trips) (c0_i32_364 : BitVec 32) : Fin 3 → Nat :=
  let c11 : Index := 11#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1125 : Index := Scalar.indexCast v1080
  let c0_379 : Index := 0#32
  ![11, v1125.toNat, 0]
def k0_off90 (i : grid0.Coords) (k0_t3 : Fin (k0_t3_loop i).trips) (c0_i32_364 : BitVec 32) : Fin 3 → Nat :=
  let c12 : Index := 12#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1129 : Index := Scalar.indexCast v1080
  let c0_380 : Index := 0#32
  ![12, v1129.toNat, 0]
def k0_off91 (i : grid0.Coords) (k0_t3 : Fin (k0_t3_loop i).trips) (c0_i32_364 : BitVec 32) : Fin 3 → Nat :=
  let c13 : Index := 13#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1133 : Index := Scalar.indexCast v1080
  let c0_381 : Index := 0#32
  ![13, v1133.toNat, 0]
def k0_off92 (i : grid0.Coords) (k0_t3 : Fin (k0_t3_loop i).trips) (c0_i32_364 : BitVec 32) : Fin 3 → Nat :=
  let c14 : Index := 14#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1137 : Index := Scalar.indexCast v1080
  let c0_382 : Index := 0#32
  ![14, v1137.toNat, 0]
def k0_off93 (i : grid0.Coords) (k0_t3 : Fin (k0_t3_loop i).trips) (c0_i32_364 : BitVec 32) : Fin 3 → Nat :=
  let c15 : Index := 15#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1141 : Index := Scalar.indexCast v1080
  let c0_383 : Index := 0#32
  ![15, v1141.toNat, 0]
def k0_off94 (i : grid0.Coords) (k0_t3 : Fin (k0_t3_loop i).trips) (c0_i32_364 : BitVec 32) : Fin 3 → Nat :=
  let c16 : Index := 16#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1145 : Index := Scalar.indexCast v1080
  let c0_384 : Index := 0#32
  ![16, v1145.toNat, 0]
def k0_off95 (i : grid0.Coords) (k0_t3 : Fin (k0_t3_loop i).trips) (c0_i32_364 : BitVec 32) : Fin 3 → Nat :=
  let c17 : Index := 17#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1149 : Index := Scalar.indexCast v1080
  let c0_385 : Index := 0#32
  ![17, v1149.toNat, 0]
def k0_off96 (i : grid0.Coords) (k0_t3 : Fin (k0_t3_loop i).trips) (c0_i32_364 : BitVec 32) : Fin 3 → Nat :=
  let c18 : Index := 18#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1153 : Index := Scalar.indexCast v1080
  let c0_386 : Index := 0#32
  ![18, v1153.toNat, 0]
def k0_off97 (i : grid0.Coords) (k0_t3 : Fin (k0_t3_loop i).trips) (c0_i32_364 : BitVec 32) : Fin 3 → Nat :=
  let c19 : Index := 19#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1157 : Index := Scalar.indexCast v1080
  let c0_387 : Index := 0#32
  ![19, v1157.toNat, 0]
def k0_off98 (i : grid0.Coords) (k0_t3 : Fin (k0_t3_loop i).trips) (c0_i32_364 : BitVec 32) : Fin 3 → Nat :=
  let c20 : Index := 20#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1161 : Index := Scalar.indexCast v1080
  let c0_388 : Index := 0#32
  ![20, v1161.toNat, 0]
def k0_off99 (i : grid0.Coords) (k0_t3 : Fin (k0_t3_loop i).trips) (c0_i32_364 : BitVec 32) : Fin 3 → Nat :=
  let c21 : Index := 21#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1165 : Index := Scalar.indexCast v1080
  let c0_389 : Index := 0#32
  ![21, v1165.toNat, 0]
def k0_off100 (i : grid0.Coords) (k0_t3 : Fin (k0_t3_loop i).trips) (c0_i32_364 : BitVec 32) : Fin 3 → Nat :=
  let c22 : Index := 22#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1169 : Index := Scalar.indexCast v1080
  let c0_390 : Index := 0#32
  ![22, v1169.toNat, 0]
def k0_off101 (i : grid0.Coords) (k0_t3 : Fin (k0_t3_loop i).trips) (c0_i32_364 : BitVec 32) : Fin 3 → Nat :=
  let c23 : Index := 23#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1173 : Index := Scalar.indexCast v1080
  let c0_391 : Index := 0#32
  ![23, v1173.toNat, 0]
def k0_off102 (i : grid0.Coords) (k0_t3 : Fin (k0_t3_loop i).trips) (c0_i32_364 : BitVec 32) : Fin 3 → Nat :=
  let c24 : Index := 24#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1177 : Index := Scalar.indexCast v1080
  let c0_392 : Index := 0#32
  ![24, v1177.toNat, 0]
def k0_off103 (i : grid0.Coords) (k0_t3 : Fin (k0_t3_loop i).trips) (c0_i32_364 : BitVec 32) : Fin 3 → Nat :=
  let c25 : Index := 25#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1181 : Index := Scalar.indexCast v1080
  let c0_393 : Index := 0#32
  ![25, v1181.toNat, 0]
def k0_off104 (i : grid0.Coords) (k0_t3 : Fin (k0_t3_loop i).trips) (c0_i32_364 : BitVec 32) : Fin 3 → Nat :=
  let c26 : Index := 26#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1185 : Index := Scalar.indexCast v1080
  let c0_394 : Index := 0#32
  ![26, v1185.toNat, 0]
def k0_off105 (i : grid0.Coords) (k0_t3 : Fin (k0_t3_loop i).trips) (c0_i32_364 : BitVec 32) : Fin 3 → Nat :=
  let c27 : Index := 27#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1189 : Index := Scalar.indexCast v1080
  let c0_395 : Index := 0#32
  ![27, v1189.toNat, 0]
def k0_off106 (i : grid0.Coords) (k0_t3 : Fin (k0_t3_loop i).trips) (c0_i32_364 : BitVec 32) : Fin 3 → Nat :=
  let c28 : Index := 28#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1193 : Index := Scalar.indexCast v1080
  let c0_396 : Index := 0#32
  ![28, v1193.toNat, 0]
def k0_off107 (i : grid0.Coords) (k0_t3 : Fin (k0_t3_loop i).trips) (c0_i32_364 : BitVec 32) : Fin 3 → Nat :=
  let c29 : Index := 29#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1197 : Index := Scalar.indexCast v1080
  let c0_397 : Index := 0#32
  ![29, v1197.toNat, 0]
def k0_off108 (i : grid0.Coords) (k0_t3 : Fin (k0_t3_loop i).trips) (c0_i32_364 : BitVec 32) : Fin 3 → Nat :=
  let c30 : Index := 30#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1201 : Index := Scalar.indexCast v1080
  let c0_398 : Index := 0#32
  ![30, v1201.toNat, 0]
def k0_off109 (i : grid0.Coords) (k0_t3 : Fin (k0_t3_loop i).trips) (c0_i32_364 : BitVec 32) : Fin 3 → Nat :=
  let c31 : Index := 31#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_363 : BitVec 32 := 2#32
  let v1077 : BitVec 32 := Scalar.muli v194 c2_i32_363
  let v1078 : BitVec 32 := Scalar.addi v1077 c0_i32_364
  let c8_i32_365 : BitVec 32 := 8#32
  let v1079 : BitVec 32 := Scalar.muli v1078 c8_i32_365
  let v1080 : BitVec 32 := v1079
  let v1205 : Index := Scalar.indexCast v1080
  let c0_399 : Index := 0#32
  ![31, v1205.toNat, 0]
def k0_mult15 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c512_i32_400 : BitVec 32 := 512#32
  let v1209 : BitVec 32 := Scalar.muli v194 c512_i32_400
  let c256_i32_401 : BitVec 32 := 256#32
  let v1210 : BitVec 32 := Scalar.addi v1209 c256_i32_401
  v1210
def k0_mult16 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_680 : BitVec 32 := 2#32
  let v2081 : BitVec 32 := Scalar.muli v194 c2_i32_680
  let c1_i32_681 : BitVec 32 := 1#32
  let v2082 : BitVec 32 := Scalar.addi v2081 c1_i32_681
  let c8_i32_682 : BitVec 32 := 8#32
  let v2083 : BitVec 32 := Scalar.muli v2082 c8_i32_682
  v2083
def k0_mult17 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c2_i32_747 : BitVec 32 := 2#32
  let v2213 : BitVec 32 := Scalar.addi v194 c2_i32_747
  let c512_i32_748 : BitVec 32 := 512#32
  let v2214 : BitVec 32 := Scalar.muli v2213 c512_i32_748
  v2214
def k0_mult18 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c512_i32_756 : BitVec 32 := 512#32
  let v2224 : BitVec 32 := Scalar.muli v2223 c512_i32_756
  let c0_i32_757 : BitVec 32 := 0#32
  let v2225 : BitVec 32 := Scalar.addi v2224 c0_i32_757
  v2225
def k0_off110 (i : grid0.Coords) (k0_t3 : Fin (k0_t3_loop i).trips) (c0_i32_757 : BitVec 32) : Fin 2 → Nat :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c512_i32_756 : BitVec 32 := 512#32
  let v2224 : BitVec 32 := Scalar.muli v2223 c512_i32_756
  let v2225 : BitVec 32 := Scalar.addi v2224 c0_i32_757
  let v2226 : BitVec 32 := v2225
  let v2305 : Index := Scalar.indexCast v2226
  let c0_794 : Index := 0#32
  ![v2305.toNat, 0]
def k0_mult19 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let c0_i32_1037 : BitVec 32 := 0#32
  let v3097 : BitVec 32 := Scalar.addi v3096 c0_i32_1037
  let c8_i32_1038 : BitVec 32 := 8#32
  let v3098 : BitVec 32 := Scalar.muli v3097 c8_i32_1038
  v3098
def k0_off111 (i : grid0.Coords) (k0_t3 : Fin (k0_t3_loop i).trips) (c0_i32_1037 : BitVec 32) : Fin 3 → Nat :=
  let c0_1039 : Index := 0#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3100 : Index := Scalar.indexCast v3099
  let c0_1040 : Index := 0#32
  ![0, v3100.toNat, 0]
def k0_off112 (i : grid0.Coords) (k0_t3 : Fin (k0_t3_loop i).trips) (c0_i32_1037 : BitVec 32) : Fin 3 → Nat :=
  let c1_1041 : Index := 1#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3104 : Index := Scalar.indexCast v3099
  let c0_1042 : Index := 0#32
  ![1, v3104.toNat, 0]
def k0_off113 (i : grid0.Coords) (k0_t3 : Fin (k0_t3_loop i).trips) (c0_i32_1037 : BitVec 32) : Fin 3 → Nat :=
  let c2_1043 : Index := 2#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3108 : Index := Scalar.indexCast v3099
  let c0_1044 : Index := 0#32
  ![2, v3108.toNat, 0]
def k0_off114 (i : grid0.Coords) (k0_t3 : Fin (k0_t3_loop i).trips) (c0_i32_1037 : BitVec 32) : Fin 3 → Nat :=
  let c3_1045 : Index := 3#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3112 : Index := Scalar.indexCast v3099
  let c0_1046 : Index := 0#32
  ![3, v3112.toNat, 0]
def k0_off115 (i : grid0.Coords) (k0_t3 : Fin (k0_t3_loop i).trips) (c0_i32_1037 : BitVec 32) : Fin 3 → Nat :=
  let c4_1047 : Index := 4#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3116 : Index := Scalar.indexCast v3099
  let c0_1048 : Index := 0#32
  ![4, v3116.toNat, 0]
def k0_off116 (i : grid0.Coords) (k0_t3 : Fin (k0_t3_loop i).trips) (c0_i32_1037 : BitVec 32) : Fin 3 → Nat :=
  let c5_1049 : Index := 5#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3120 : Index := Scalar.indexCast v3099
  let c0_1050 : Index := 0#32
  ![5, v3120.toNat, 0]
def k0_off117 (i : grid0.Coords) (k0_t3 : Fin (k0_t3_loop i).trips) (c0_i32_1037 : BitVec 32) : Fin 3 → Nat :=
  let c6_1051 : Index := 6#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3124 : Index := Scalar.indexCast v3099
  let c0_1052 : Index := 0#32
  ![6, v3124.toNat, 0]
def k0_off118 (i : grid0.Coords) (k0_t3 : Fin (k0_t3_loop i).trips) (c0_i32_1037 : BitVec 32) : Fin 3 → Nat :=
  let c7_1053 : Index := 7#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3128 : Index := Scalar.indexCast v3099
  let c0_1054 : Index := 0#32
  ![7, v3128.toNat, 0]
def k0_off119 (i : grid0.Coords) (k0_t3 : Fin (k0_t3_loop i).trips) (c0_i32_1037 : BitVec 32) : Fin 3 → Nat :=
  let c8_1055 : Index := 8#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3132 : Index := Scalar.indexCast v3099
  let c0_1056 : Index := 0#32
  ![8, v3132.toNat, 0]
def k0_off120 (i : grid0.Coords) (k0_t3 : Fin (k0_t3_loop i).trips) (c0_i32_1037 : BitVec 32) : Fin 3 → Nat :=
  let c9_1057 : Index := 9#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3136 : Index := Scalar.indexCast v3099
  let c0_1058 : Index := 0#32
  ![9, v3136.toNat, 0]
def k0_off121 (i : grid0.Coords) (k0_t3 : Fin (k0_t3_loop i).trips) (c0_i32_1037 : BitVec 32) : Fin 3 → Nat :=
  let c10_1059 : Index := 10#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3140 : Index := Scalar.indexCast v3099
  let c0_1060 : Index := 0#32
  ![10, v3140.toNat, 0]
def k0_off122 (i : grid0.Coords) (k0_t3 : Fin (k0_t3_loop i).trips) (c0_i32_1037 : BitVec 32) : Fin 3 → Nat :=
  let c11_1061 : Index := 11#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3144 : Index := Scalar.indexCast v3099
  let c0_1062 : Index := 0#32
  ![11, v3144.toNat, 0]
def k0_off123 (i : grid0.Coords) (k0_t3 : Fin (k0_t3_loop i).trips) (c0_i32_1037 : BitVec 32) : Fin 3 → Nat :=
  let c12_1063 : Index := 12#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3148 : Index := Scalar.indexCast v3099
  let c0_1064 : Index := 0#32
  ![12, v3148.toNat, 0]
def k0_off124 (i : grid0.Coords) (k0_t3 : Fin (k0_t3_loop i).trips) (c0_i32_1037 : BitVec 32) : Fin 3 → Nat :=
  let c13_1065 : Index := 13#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3152 : Index := Scalar.indexCast v3099
  let c0_1066 : Index := 0#32
  ![13, v3152.toNat, 0]
def k0_off125 (i : grid0.Coords) (k0_t3 : Fin (k0_t3_loop i).trips) (c0_i32_1037 : BitVec 32) : Fin 3 → Nat :=
  let c14_1067 : Index := 14#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3156 : Index := Scalar.indexCast v3099
  let c0_1068 : Index := 0#32
  ![14, v3156.toNat, 0]
def k0_off126 (i : grid0.Coords) (k0_t3 : Fin (k0_t3_loop i).trips) (c0_i32_1037 : BitVec 32) : Fin 3 → Nat :=
  let c15_1069 : Index := 15#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3160 : Index := Scalar.indexCast v3099
  let c0_1070 : Index := 0#32
  ![15, v3160.toNat, 0]
def k0_off127 (i : grid0.Coords) (k0_t3 : Fin (k0_t3_loop i).trips) (c0_i32_1037 : BitVec 32) : Fin 3 → Nat :=
  let c16_1071 : Index := 16#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3164 : Index := Scalar.indexCast v3099
  let c0_1072 : Index := 0#32
  ![16, v3164.toNat, 0]
def k0_off128 (i : grid0.Coords) (k0_t3 : Fin (k0_t3_loop i).trips) (c0_i32_1037 : BitVec 32) : Fin 3 → Nat :=
  let c17_1073 : Index := 17#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3168 : Index := Scalar.indexCast v3099
  let c0_1074 : Index := 0#32
  ![17, v3168.toNat, 0]
def k0_off129 (i : grid0.Coords) (k0_t3 : Fin (k0_t3_loop i).trips) (c0_i32_1037 : BitVec 32) : Fin 3 → Nat :=
  let c18_1075 : Index := 18#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3172 : Index := Scalar.indexCast v3099
  let c0_1076 : Index := 0#32
  ![18, v3172.toNat, 0]
def k0_off130 (i : grid0.Coords) (k0_t3 : Fin (k0_t3_loop i).trips) (c0_i32_1037 : BitVec 32) : Fin 3 → Nat :=
  let c19_1077 : Index := 19#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3176 : Index := Scalar.indexCast v3099
  let c0_1078 : Index := 0#32
  ![19, v3176.toNat, 0]
def k0_off131 (i : grid0.Coords) (k0_t3 : Fin (k0_t3_loop i).trips) (c0_i32_1037 : BitVec 32) : Fin 3 → Nat :=
  let c20_1079 : Index := 20#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3180 : Index := Scalar.indexCast v3099
  let c0_1080 : Index := 0#32
  ![20, v3180.toNat, 0]
def k0_off132 (i : grid0.Coords) (k0_t3 : Fin (k0_t3_loop i).trips) (c0_i32_1037 : BitVec 32) : Fin 3 → Nat :=
  let c21_1081 : Index := 21#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3184 : Index := Scalar.indexCast v3099
  let c0_1082 : Index := 0#32
  ![21, v3184.toNat, 0]
def k0_off133 (i : grid0.Coords) (k0_t3 : Fin (k0_t3_loop i).trips) (c0_i32_1037 : BitVec 32) : Fin 3 → Nat :=
  let c22_1083 : Index := 22#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3188 : Index := Scalar.indexCast v3099
  let c0_1084 : Index := 0#32
  ![22, v3188.toNat, 0]
def k0_off134 (i : grid0.Coords) (k0_t3 : Fin (k0_t3_loop i).trips) (c0_i32_1037 : BitVec 32) : Fin 3 → Nat :=
  let c23_1085 : Index := 23#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3192 : Index := Scalar.indexCast v3099
  let c0_1086 : Index := 0#32
  ![23, v3192.toNat, 0]
def k0_off135 (i : grid0.Coords) (k0_t3 : Fin (k0_t3_loop i).trips) (c0_i32_1037 : BitVec 32) : Fin 3 → Nat :=
  let c24_1087 : Index := 24#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3196 : Index := Scalar.indexCast v3099
  let c0_1088 : Index := 0#32
  ![24, v3196.toNat, 0]
def k0_off136 (i : grid0.Coords) (k0_t3 : Fin (k0_t3_loop i).trips) (c0_i32_1037 : BitVec 32) : Fin 3 → Nat :=
  let c25_1089 : Index := 25#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3200 : Index := Scalar.indexCast v3099
  let c0_1090 : Index := 0#32
  ![25, v3200.toNat, 0]
def k0_off137 (i : grid0.Coords) (k0_t3 : Fin (k0_t3_loop i).trips) (c0_i32_1037 : BitVec 32) : Fin 3 → Nat :=
  let c26_1091 : Index := 26#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3204 : Index := Scalar.indexCast v3099
  let c0_1092 : Index := 0#32
  ![26, v3204.toNat, 0]
def k0_off138 (i : grid0.Coords) (k0_t3 : Fin (k0_t3_loop i).trips) (c0_i32_1037 : BitVec 32) : Fin 3 → Nat :=
  let c27_1093 : Index := 27#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3208 : Index := Scalar.indexCast v3099
  let c0_1094 : Index := 0#32
  ![27, v3208.toNat, 0]
def k0_off139 (i : grid0.Coords) (k0_t3 : Fin (k0_t3_loop i).trips) (c0_i32_1037 : BitVec 32) : Fin 3 → Nat :=
  let c28_1095 : Index := 28#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3212 : Index := Scalar.indexCast v3099
  let c0_1096 : Index := 0#32
  ![28, v3212.toNat, 0]
def k0_off140 (i : grid0.Coords) (k0_t3 : Fin (k0_t3_loop i).trips) (c0_i32_1037 : BitVec 32) : Fin 3 → Nat :=
  let c29_1097 : Index := 29#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3216 : Index := Scalar.indexCast v3099
  let c0_1098 : Index := 0#32
  ![29, v3216.toNat, 0]
def k0_off141 (i : grid0.Coords) (k0_t3 : Fin (k0_t3_loop i).trips) (c0_i32_1037 : BitVec 32) : Fin 3 → Nat :=
  let c30_1099 : Index := 30#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3220 : Index := Scalar.indexCast v3099
  let c0_1100 : Index := 0#32
  ![30, v3220.toNat, 0]
def k0_off142 (i : grid0.Coords) (k0_t3 : Fin (k0_t3_loop i).trips) (c0_i32_1037 : BitVec 32) : Fin 3 → Nat :=
  let c31_1101 : Index := 31#32
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1036 : BitVec 32 := 2#32
  let v3096 : BitVec 32 := Scalar.muli v2223 c2_i32_1036
  let v3097 : BitVec 32 := Scalar.addi v3096 c0_i32_1037
  let c8_i32_1038 : BitVec 32 := 8#32
  let v3098 : BitVec 32 := Scalar.muli v3097 c8_i32_1038
  let v3099 : BitVec 32 := v3098
  let v3224 : Index := Scalar.indexCast v3099
  let c0_1102 : Index := 0#32
  ![31, v3224.toNat, 0]
def k0_mult20 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c512_i32_1103 : BitVec 32 := 512#32
  let v3228 : BitVec 32 := Scalar.muli v2223 c512_i32_1103
  let c256_i32_1104 : BitVec 32 := 256#32
  let v3229 : BitVec 32 := Scalar.addi v3228 c256_i32_1104
  v3229
def k0_mult21 (i : grid0.Coords) (k0_t3 : Fin (k0_t3_loop i).trips) : BitVec 32 :=
  let c2_i32_84 : BitVec 32 := 2#32
  let c0_i32_33 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v72 : BitVec 32 := Scalar.subi v71 c0_i32_33
  let c1_i32_34 : BitVec 32 := 1#32
  let v74 : BitVec 32 := Scalar.divsi v72 c1_i32_34
  let v75 : BitVec 32 := Scalar.muli v74 c1_i32_34
  let v76 : BitVec 32 := Scalar.addi c0_i32_33 v75
  let c1_i32_36 : BitVec 32 := 1#32
  let arg23 : BitVec 32 := Scf.iv v76 c1_i32_36 k0_t3
  let v194 : BitVec 32 := Scalar.muli c2_i32_84 arg23
  let c1_i32_755 : BitVec 32 := 1#32
  let v2223 : BitVec 32 := Scalar.addi v194 c1_i32_755
  let c2_i32_1383 : BitVec 32 := 2#32
  let v4100 : BitVec 32 := Scalar.muli v2223 c2_i32_1383
  let c1_i32_1384 : BitVec 32 := 1#32
  let v4101 : BitVec 32 := Scalar.addi v4100 c1_i32_1384
  let c8_i32_1385 : BitVec 32 := 8#32
  let v4102 : BitVec 32 := Scalar.muli v4101 c8_i32_1385
  v4102
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_37 : BitVec 32 := 2#32
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let v78 : BitVec 32 := Scalar.subi v20 v77
  let c2_i32_38 : BitVec 32 := 2#32
  let v79 : BitVec 1 := Scalar.cmpi .eq v78 c2_i32_38
  let v80 : BitVec 32 := Scalar.extui v79
  let c0_i32_39 : BitVec 32 := 0#32
  let v81 : BitVec 1 := Scalar.cmpi .ne v80 c0_i32_39
  v81

def k0_mult22 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_84 : BitVec 32 := 1#32
  let v194 : BitVec 32 := Scalar.addi v77 c1_i32_84
  let c512_i32_85 : BitVec 32 := 512#32
  let v195 : BitVec 32 := Scalar.muli v194 c512_i32_85
  v195
def k0_off143 (i : grid0.Coords) : Fin 3 → Nat :=
  let c0_86 : Index := 0#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_84 : BitVec 32 := 1#32
  let v194 : BitVec 32 := Scalar.addi v77 c1_i32_84
  let c512_i32_85 : BitVec 32 := 512#32
  let v195 : BitVec 32 := Scalar.muli v194 c512_i32_85
  let v196 : BitVec 32 := v195
  let v197 : Index := Scalar.indexCast v196
  let c0_87 : Index := 0#32
  ![0, v197.toNat, 0]
def k0_mult23 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c512_i32_91 : BitVec 32 := 512#32
  let v204 : BitVec 32 := Scalar.muli v77 c512_i32_91
  let c0_i32_92 : BitVec 32 := 0#32
  let v205 : BitVec 32 := Scalar.addi v204 c0_i32_92
  v205
def k0_off144 (i : grid0.Coords) (c0_i32_92 : BitVec 32) : Fin 2 → Nat :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c512_i32_91 : BitVec 32 := 512#32
  let v204 : BitVec 32 := Scalar.muli v77 c512_i32_91
  let v205 : BitVec 32 := Scalar.addi v204 c0_i32_92
  let v206 : BitVec 32 := v205
  let v285 : Index := Scalar.indexCast v206
  let c0_127 : Index := 0#32
  ![v285.toNat, 0]
def k0_mult24 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let c0_i32_363 : BitVec 32 := 0#32
  let v1077 : BitVec 32 := Scalar.addi v1076 c0_i32_363
  let c8_i32_364 : BitVec 32 := 8#32
  let v1078 : BitVec 32 := Scalar.muli v1077 c8_i32_364
  v1078
def k0_off145 (i : grid0.Coords) (c0_i32_363 : BitVec 32) : Fin 3 → Nat :=
  let c0_365 : Index := 0#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1080 : Index := Scalar.indexCast v1079
  let c0_366 : Index := 0#32
  ![0, v1080.toNat, 0]
def k0_off146 (i : grid0.Coords) (c0_i32_363 : BitVec 32) : Fin 3 → Nat :=
  let c1_367 : Index := 1#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1084 : Index := Scalar.indexCast v1079
  let c0_368 : Index := 0#32
  ![1, v1084.toNat, 0]
def k0_off147 (i : grid0.Coords) (c0_i32_363 : BitVec 32) : Fin 3 → Nat :=
  let c2 : Index := 2#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1088 : Index := Scalar.indexCast v1079
  let c0_369 : Index := 0#32
  ![2, v1088.toNat, 0]
def k0_off148 (i : grid0.Coords) (c0_i32_363 : BitVec 32) : Fin 3 → Nat :=
  let c3 : Index := 3#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1092 : Index := Scalar.indexCast v1079
  let c0_370 : Index := 0#32
  ![3, v1092.toNat, 0]
def k0_off149 (i : grid0.Coords) (c0_i32_363 : BitVec 32) : Fin 3 → Nat :=
  let c4 : Index := 4#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1096 : Index := Scalar.indexCast v1079
  let c0_371 : Index := 0#32
  ![4, v1096.toNat, 0]
def k0_off150 (i : grid0.Coords) (c0_i32_363 : BitVec 32) : Fin 3 → Nat :=
  let c5 : Index := 5#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1100 : Index := Scalar.indexCast v1079
  let c0_372 : Index := 0#32
  ![5, v1100.toNat, 0]
def k0_off151 (i : grid0.Coords) (c0_i32_363 : BitVec 32) : Fin 3 → Nat :=
  let c6 : Index := 6#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1104 : Index := Scalar.indexCast v1079
  let c0_373 : Index := 0#32
  ![6, v1104.toNat, 0]
def k0_off152 (i : grid0.Coords) (c0_i32_363 : BitVec 32) : Fin 3 → Nat :=
  let c7 : Index := 7#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1108 : Index := Scalar.indexCast v1079
  let c0_374 : Index := 0#32
  ![7, v1108.toNat, 0]
def k0_off153 (i : grid0.Coords) (c0_i32_363 : BitVec 32) : Fin 3 → Nat :=
  let c8 : Index := 8#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1112 : Index := Scalar.indexCast v1079
  let c0_375 : Index := 0#32
  ![8, v1112.toNat, 0]
def k0_off154 (i : grid0.Coords) (c0_i32_363 : BitVec 32) : Fin 3 → Nat :=
  let c9 : Index := 9#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1116 : Index := Scalar.indexCast v1079
  let c0_376 : Index := 0#32
  ![9, v1116.toNat, 0]
def k0_off155 (i : grid0.Coords) (c0_i32_363 : BitVec 32) : Fin 3 → Nat :=
  let c10 : Index := 10#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1120 : Index := Scalar.indexCast v1079
  let c0_377 : Index := 0#32
  ![10, v1120.toNat, 0]
def k0_off156 (i : grid0.Coords) (c0_i32_363 : BitVec 32) : Fin 3 → Nat :=
  let c11 : Index := 11#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1124 : Index := Scalar.indexCast v1079
  let c0_378 : Index := 0#32
  ![11, v1124.toNat, 0]
def k0_off157 (i : grid0.Coords) (c0_i32_363 : BitVec 32) : Fin 3 → Nat :=
  let c12 : Index := 12#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1128 : Index := Scalar.indexCast v1079
  let c0_379 : Index := 0#32
  ![12, v1128.toNat, 0]
def k0_off158 (i : grid0.Coords) (c0_i32_363 : BitVec 32) : Fin 3 → Nat :=
  let c13 : Index := 13#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1132 : Index := Scalar.indexCast v1079
  let c0_380 : Index := 0#32
  ![13, v1132.toNat, 0]
def k0_off159 (i : grid0.Coords) (c0_i32_363 : BitVec 32) : Fin 3 → Nat :=
  let c14 : Index := 14#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1136 : Index := Scalar.indexCast v1079
  let c0_381 : Index := 0#32
  ![14, v1136.toNat, 0]
def k0_off160 (i : grid0.Coords) (c0_i32_363 : BitVec 32) : Fin 3 → Nat :=
  let c15 : Index := 15#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1140 : Index := Scalar.indexCast v1079
  let c0_382 : Index := 0#32
  ![15, v1140.toNat, 0]
def k0_off161 (i : grid0.Coords) (c0_i32_363 : BitVec 32) : Fin 3 → Nat :=
  let c16 : Index := 16#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1144 : Index := Scalar.indexCast v1079
  let c0_383 : Index := 0#32
  ![16, v1144.toNat, 0]
def k0_off162 (i : grid0.Coords) (c0_i32_363 : BitVec 32) : Fin 3 → Nat :=
  let c17 : Index := 17#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1148 : Index := Scalar.indexCast v1079
  let c0_384 : Index := 0#32
  ![17, v1148.toNat, 0]
def k0_off163 (i : grid0.Coords) (c0_i32_363 : BitVec 32) : Fin 3 → Nat :=
  let c18 : Index := 18#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1152 : Index := Scalar.indexCast v1079
  let c0_385 : Index := 0#32
  ![18, v1152.toNat, 0]
def k0_off164 (i : grid0.Coords) (c0_i32_363 : BitVec 32) : Fin 3 → Nat :=
  let c19 : Index := 19#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1156 : Index := Scalar.indexCast v1079
  let c0_386 : Index := 0#32
  ![19, v1156.toNat, 0]
def k0_off165 (i : grid0.Coords) (c0_i32_363 : BitVec 32) : Fin 3 → Nat :=
  let c20 : Index := 20#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1160 : Index := Scalar.indexCast v1079
  let c0_387 : Index := 0#32
  ![20, v1160.toNat, 0]
def k0_off166 (i : grid0.Coords) (c0_i32_363 : BitVec 32) : Fin 3 → Nat :=
  let c21 : Index := 21#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1164 : Index := Scalar.indexCast v1079
  let c0_388 : Index := 0#32
  ![21, v1164.toNat, 0]
def k0_off167 (i : grid0.Coords) (c0_i32_363 : BitVec 32) : Fin 3 → Nat :=
  let c22 : Index := 22#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1168 : Index := Scalar.indexCast v1079
  let c0_389 : Index := 0#32
  ![22, v1168.toNat, 0]
def k0_off168 (i : grid0.Coords) (c0_i32_363 : BitVec 32) : Fin 3 → Nat :=
  let c23 : Index := 23#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1172 : Index := Scalar.indexCast v1079
  let c0_390 : Index := 0#32
  ![23, v1172.toNat, 0]
def k0_off169 (i : grid0.Coords) (c0_i32_363 : BitVec 32) : Fin 3 → Nat :=
  let c24 : Index := 24#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1176 : Index := Scalar.indexCast v1079
  let c0_391 : Index := 0#32
  ![24, v1176.toNat, 0]
def k0_off170 (i : grid0.Coords) (c0_i32_363 : BitVec 32) : Fin 3 → Nat :=
  let c25 : Index := 25#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1180 : Index := Scalar.indexCast v1079
  let c0_392 : Index := 0#32
  ![25, v1180.toNat, 0]
def k0_off171 (i : grid0.Coords) (c0_i32_363 : BitVec 32) : Fin 3 → Nat :=
  let c26 : Index := 26#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1184 : Index := Scalar.indexCast v1079
  let c0_393 : Index := 0#32
  ![26, v1184.toNat, 0]
def k0_off172 (i : grid0.Coords) (c0_i32_363 : BitVec 32) : Fin 3 → Nat :=
  let c27 : Index := 27#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1188 : Index := Scalar.indexCast v1079
  let c0_394 : Index := 0#32
  ![27, v1188.toNat, 0]
def k0_off173 (i : grid0.Coords) (c0_i32_363 : BitVec 32) : Fin 3 → Nat :=
  let c28 : Index := 28#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1192 : Index := Scalar.indexCast v1079
  let c0_395 : Index := 0#32
  ![28, v1192.toNat, 0]
def k0_off174 (i : grid0.Coords) (c0_i32_363 : BitVec 32) : Fin 3 → Nat :=
  let c29 : Index := 29#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1196 : Index := Scalar.indexCast v1079
  let c0_396 : Index := 0#32
  ![29, v1196.toNat, 0]
def k0_off175 (i : grid0.Coords) (c0_i32_363 : BitVec 32) : Fin 3 → Nat :=
  let c30 : Index := 30#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1200 : Index := Scalar.indexCast v1079
  let c0_397 : Index := 0#32
  ![30, v1200.toNat, 0]
def k0_off176 (i : grid0.Coords) (c0_i32_363 : BitVec 32) : Fin 3 → Nat :=
  let c31 : Index := 31#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_362 : BitVec 32 := 2#32
  let v1076 : BitVec 32 := Scalar.muli v77 c2_i32_362
  let v1077 : BitVec 32 := Scalar.addi v1076 c0_i32_363
  let c8_i32_364 : BitVec 32 := 8#32
  let v1078 : BitVec 32 := Scalar.muli v1077 c8_i32_364
  let v1079 : BitVec 32 := v1078
  let v1204 : Index := Scalar.indexCast v1079
  let c0_398 : Index := 0#32
  ![31, v1204.toNat, 0]
def k0_mult25 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c512_i32_399 : BitVec 32 := 512#32
  let v1208 : BitVec 32 := Scalar.muli v77 c512_i32_399
  let c256_i32_400 : BitVec 32 := 256#32
  let v1209 : BitVec 32 := Scalar.addi v1208 c256_i32_400
  v1209
def k0_mult26 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_679 : BitVec 32 := 2#32
  let v2080 : BitVec 32 := Scalar.muli v77 c2_i32_679
  let c1_i32_680 : BitVec 32 := 1#32
  let v2081 : BitVec 32 := Scalar.addi v2080 c1_i32_680
  let c8_i32_681 : BitVec 32 := 8#32
  let v2082 : BitVec 32 := Scalar.muli v2081 c8_i32_681
  v2082
def k0_mult27 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c512_i32_747 : BitVec 32 := 512#32
  let v2213 : BitVec 32 := Scalar.muli v2212 c512_i32_747
  let c0_i32_748 : BitVec 32 := 0#32
  let v2214 : BitVec 32 := Scalar.addi v2213 c0_i32_748
  v2214
def k0_off177 (i : grid0.Coords) (c0_i32_748 : BitVec 32) : Fin 2 → Nat :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c512_i32_747 : BitVec 32 := 512#32
  let v2213 : BitVec 32 := Scalar.muli v2212 c512_i32_747
  let v2214 : BitVec 32 := Scalar.addi v2213 c0_i32_748
  let v2215 : BitVec 32 := v2214
  let v2294 : Index := Scalar.indexCast v2215
  let c0_785 : Index := 0#32
  ![v2294.toNat, 0]
def k0_mult28 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let c0_i32_1028 : BitVec 32 := 0#32
  let v3086 : BitVec 32 := Scalar.addi v3085 c0_i32_1028
  let c8_i32_1029 : BitVec 32 := 8#32
  let v3087 : BitVec 32 := Scalar.muli v3086 c8_i32_1029
  v3087
def k0_off178 (i : grid0.Coords) (c0_i32_1028 : BitVec 32) : Fin 3 → Nat :=
  let c0_1030 : Index := 0#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3089 : Index := Scalar.indexCast v3088
  let c0_1031 : Index := 0#32
  ![0, v3089.toNat, 0]
def k0_off179 (i : grid0.Coords) (c0_i32_1028 : BitVec 32) : Fin 3 → Nat :=
  let c1_1032 : Index := 1#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3093 : Index := Scalar.indexCast v3088
  let c0_1033 : Index := 0#32
  ![1, v3093.toNat, 0]
def k0_off180 (i : grid0.Coords) (c0_i32_1028 : BitVec 32) : Fin 3 → Nat :=
  let c2_1034 : Index := 2#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3097 : Index := Scalar.indexCast v3088
  let c0_1035 : Index := 0#32
  ![2, v3097.toNat, 0]
def k0_off181 (i : grid0.Coords) (c0_i32_1028 : BitVec 32) : Fin 3 → Nat :=
  let c3_1036 : Index := 3#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3101 : Index := Scalar.indexCast v3088
  let c0_1037 : Index := 0#32
  ![3, v3101.toNat, 0]
def k0_off182 (i : grid0.Coords) (c0_i32_1028 : BitVec 32) : Fin 3 → Nat :=
  let c4_1038 : Index := 4#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3105 : Index := Scalar.indexCast v3088
  let c0_1039 : Index := 0#32
  ![4, v3105.toNat, 0]
def k0_off183 (i : grid0.Coords) (c0_i32_1028 : BitVec 32) : Fin 3 → Nat :=
  let c5_1040 : Index := 5#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3109 : Index := Scalar.indexCast v3088
  let c0_1041 : Index := 0#32
  ![5, v3109.toNat, 0]
def k0_off184 (i : grid0.Coords) (c0_i32_1028 : BitVec 32) : Fin 3 → Nat :=
  let c6_1042 : Index := 6#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3113 : Index := Scalar.indexCast v3088
  let c0_1043 : Index := 0#32
  ![6, v3113.toNat, 0]
def k0_off185 (i : grid0.Coords) (c0_i32_1028 : BitVec 32) : Fin 3 → Nat :=
  let c7_1044 : Index := 7#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3117 : Index := Scalar.indexCast v3088
  let c0_1045 : Index := 0#32
  ![7, v3117.toNat, 0]
def k0_off186 (i : grid0.Coords) (c0_i32_1028 : BitVec 32) : Fin 3 → Nat :=
  let c8_1046 : Index := 8#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3121 : Index := Scalar.indexCast v3088
  let c0_1047 : Index := 0#32
  ![8, v3121.toNat, 0]
def k0_off187 (i : grid0.Coords) (c0_i32_1028 : BitVec 32) : Fin 3 → Nat :=
  let c9_1048 : Index := 9#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3125 : Index := Scalar.indexCast v3088
  let c0_1049 : Index := 0#32
  ![9, v3125.toNat, 0]
def k0_off188 (i : grid0.Coords) (c0_i32_1028 : BitVec 32) : Fin 3 → Nat :=
  let c10_1050 : Index := 10#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3129 : Index := Scalar.indexCast v3088
  let c0_1051 : Index := 0#32
  ![10, v3129.toNat, 0]
def k0_off189 (i : grid0.Coords) (c0_i32_1028 : BitVec 32) : Fin 3 → Nat :=
  let c11_1052 : Index := 11#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3133 : Index := Scalar.indexCast v3088
  let c0_1053 : Index := 0#32
  ![11, v3133.toNat, 0]
def k0_off190 (i : grid0.Coords) (c0_i32_1028 : BitVec 32) : Fin 3 → Nat :=
  let c12_1054 : Index := 12#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3137 : Index := Scalar.indexCast v3088
  let c0_1055 : Index := 0#32
  ![12, v3137.toNat, 0]
def k0_off191 (i : grid0.Coords) (c0_i32_1028 : BitVec 32) : Fin 3 → Nat :=
  let c13_1056 : Index := 13#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3141 : Index := Scalar.indexCast v3088
  let c0_1057 : Index := 0#32
  ![13, v3141.toNat, 0]
def k0_off192 (i : grid0.Coords) (c0_i32_1028 : BitVec 32) : Fin 3 → Nat :=
  let c14_1058 : Index := 14#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3145 : Index := Scalar.indexCast v3088
  let c0_1059 : Index := 0#32
  ![14, v3145.toNat, 0]
def k0_off193 (i : grid0.Coords) (c0_i32_1028 : BitVec 32) : Fin 3 → Nat :=
  let c15_1060 : Index := 15#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3149 : Index := Scalar.indexCast v3088
  let c0_1061 : Index := 0#32
  ![15, v3149.toNat, 0]
def k0_off194 (i : grid0.Coords) (c0_i32_1028 : BitVec 32) : Fin 3 → Nat :=
  let c16_1062 : Index := 16#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3153 : Index := Scalar.indexCast v3088
  let c0_1063 : Index := 0#32
  ![16, v3153.toNat, 0]
def k0_off195 (i : grid0.Coords) (c0_i32_1028 : BitVec 32) : Fin 3 → Nat :=
  let c17_1064 : Index := 17#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3157 : Index := Scalar.indexCast v3088
  let c0_1065 : Index := 0#32
  ![17, v3157.toNat, 0]
def k0_off196 (i : grid0.Coords) (c0_i32_1028 : BitVec 32) : Fin 3 → Nat :=
  let c18_1066 : Index := 18#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3161 : Index := Scalar.indexCast v3088
  let c0_1067 : Index := 0#32
  ![18, v3161.toNat, 0]
def k0_off197 (i : grid0.Coords) (c0_i32_1028 : BitVec 32) : Fin 3 → Nat :=
  let c19_1068 : Index := 19#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3165 : Index := Scalar.indexCast v3088
  let c0_1069 : Index := 0#32
  ![19, v3165.toNat, 0]
def k0_off198 (i : grid0.Coords) (c0_i32_1028 : BitVec 32) : Fin 3 → Nat :=
  let c20_1070 : Index := 20#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3169 : Index := Scalar.indexCast v3088
  let c0_1071 : Index := 0#32
  ![20, v3169.toNat, 0]
def k0_off199 (i : grid0.Coords) (c0_i32_1028 : BitVec 32) : Fin 3 → Nat :=
  let c21_1072 : Index := 21#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3173 : Index := Scalar.indexCast v3088
  let c0_1073 : Index := 0#32
  ![21, v3173.toNat, 0]
def k0_off200 (i : grid0.Coords) (c0_i32_1028 : BitVec 32) : Fin 3 → Nat :=
  let c22_1074 : Index := 22#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3177 : Index := Scalar.indexCast v3088
  let c0_1075 : Index := 0#32
  ![22, v3177.toNat, 0]
def k0_off201 (i : grid0.Coords) (c0_i32_1028 : BitVec 32) : Fin 3 → Nat :=
  let c23_1076 : Index := 23#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3181 : Index := Scalar.indexCast v3088
  let c0_1077 : Index := 0#32
  ![23, v3181.toNat, 0]
def k0_off202 (i : grid0.Coords) (c0_i32_1028 : BitVec 32) : Fin 3 → Nat :=
  let c24_1078 : Index := 24#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3185 : Index := Scalar.indexCast v3088
  let c0_1079 : Index := 0#32
  ![24, v3185.toNat, 0]
def k0_off203 (i : grid0.Coords) (c0_i32_1028 : BitVec 32) : Fin 3 → Nat :=
  let c25_1080 : Index := 25#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3189 : Index := Scalar.indexCast v3088
  let c0_1081 : Index := 0#32
  ![25, v3189.toNat, 0]
def k0_off204 (i : grid0.Coords) (c0_i32_1028 : BitVec 32) : Fin 3 → Nat :=
  let c26_1082 : Index := 26#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3193 : Index := Scalar.indexCast v3088
  let c0_1083 : Index := 0#32
  ![26, v3193.toNat, 0]
def k0_off205 (i : grid0.Coords) (c0_i32_1028 : BitVec 32) : Fin 3 → Nat :=
  let c27_1084 : Index := 27#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3197 : Index := Scalar.indexCast v3088
  let c0_1085 : Index := 0#32
  ![27, v3197.toNat, 0]
def k0_off206 (i : grid0.Coords) (c0_i32_1028 : BitVec 32) : Fin 3 → Nat :=
  let c28_1086 : Index := 28#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3201 : Index := Scalar.indexCast v3088
  let c0_1087 : Index := 0#32
  ![28, v3201.toNat, 0]
def k0_off207 (i : grid0.Coords) (c0_i32_1028 : BitVec 32) : Fin 3 → Nat :=
  let c29_1088 : Index := 29#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3205 : Index := Scalar.indexCast v3088
  let c0_1089 : Index := 0#32
  ![29, v3205.toNat, 0]
def k0_off208 (i : grid0.Coords) (c0_i32_1028 : BitVec 32) : Fin 3 → Nat :=
  let c30_1090 : Index := 30#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3209 : Index := Scalar.indexCast v3088
  let c0_1091 : Index := 0#32
  ![30, v3209.toNat, 0]
def k0_off209 (i : grid0.Coords) (c0_i32_1028 : BitVec 32) : Fin 3 → Nat :=
  let c31_1092 : Index := 31#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1027 : BitVec 32 := 2#32
  let v3085 : BitVec 32 := Scalar.muli v2212 c2_i32_1027
  let v3086 : BitVec 32 := Scalar.addi v3085 c0_i32_1028
  let c8_i32_1029 : BitVec 32 := 8#32
  let v3087 : BitVec 32 := Scalar.muli v3086 c8_i32_1029
  let v3088 : BitVec 32 := v3087
  let v3213 : Index := Scalar.indexCast v3088
  let c0_1093 : Index := 0#32
  ![31, v3213.toNat, 0]
def k0_mult29 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c512_i32_1094 : BitVec 32 := 512#32
  let v3217 : BitVec 32 := Scalar.muli v2212 c512_i32_1094
  let c256_i32_1095 : BitVec 32 := 256#32
  let v3218 : BitVec 32 := Scalar.addi v3217 c256_i32_1095
  v3218
def k0_mult30 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c1_i32_746 : BitVec 32 := 1#32
  let v2212 : BitVec 32 := Scalar.addi v77 c1_i32_746
  let c2_i32_1374 : BitVec 32 := 2#32
  let v4089 : BitVec 32 := Scalar.muli v2212 c2_i32_1374
  let c1_i32_1375 : BitVec 32 := 1#32
  let v4090 : BitVec 32 := Scalar.addi v4089 c1_i32_1375
  let c8_i32_1376 : BitVec 32 := 8#32
  let v4091 : BitVec 32 := Scalar.muli v4090 c8_i32_1376
  v4091
def k0_mult31 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c512_i32_84 : BitVec 32 := 512#32
  let v194 : BitVec 32 := Scalar.muli v77 c512_i32_84
  let c0_i32_85 : BitVec 32 := 0#32
  let v195 : BitVec 32 := Scalar.addi v194 c0_i32_85
  v195
def k0_off210 (i : grid0.Coords) (c0_i32_85 : BitVec 32) : Fin 2 → Nat :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c512_i32_84 : BitVec 32 := 512#32
  let v194 : BitVec 32 := Scalar.muli v77 c512_i32_84
  let v195 : BitVec 32 := Scalar.addi v194 c0_i32_85
  let v196 : BitVec 32 := v195
  let v275 : Index := Scalar.indexCast v196
  let c0_120 : Index := 0#32
  ![v275.toNat, 0]
def k0_mult32 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let c0_i32_356 : BitVec 32 := 0#32
  let v1067 : BitVec 32 := Scalar.addi v1066 c0_i32_356
  let c8_i32_357 : BitVec 32 := 8#32
  let v1068 : BitVec 32 := Scalar.muli v1067 c8_i32_357
  v1068
def k0_off211 (i : grid0.Coords) (c0_i32_356 : BitVec 32) : Fin 3 → Nat :=
  let c0_358 : Index := 0#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1070 : Index := Scalar.indexCast v1069
  let c0_359 : Index := 0#32
  ![0, v1070.toNat, 0]
def k0_off212 (i : grid0.Coords) (c0_i32_356 : BitVec 32) : Fin 3 → Nat :=
  let c1 : Index := 1#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1074 : Index := Scalar.indexCast v1069
  let c0_360 : Index := 0#32
  ![1, v1074.toNat, 0]
def k0_off213 (i : grid0.Coords) (c0_i32_356 : BitVec 32) : Fin 3 → Nat :=
  let c2 : Index := 2#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1078 : Index := Scalar.indexCast v1069
  let c0_361 : Index := 0#32
  ![2, v1078.toNat, 0]
def k0_off214 (i : grid0.Coords) (c0_i32_356 : BitVec 32) : Fin 3 → Nat :=
  let c3 : Index := 3#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1082 : Index := Scalar.indexCast v1069
  let c0_362 : Index := 0#32
  ![3, v1082.toNat, 0]
def k0_off215 (i : grid0.Coords) (c0_i32_356 : BitVec 32) : Fin 3 → Nat :=
  let c4 : Index := 4#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1086 : Index := Scalar.indexCast v1069
  let c0_363 : Index := 0#32
  ![4, v1086.toNat, 0]
def k0_off216 (i : grid0.Coords) (c0_i32_356 : BitVec 32) : Fin 3 → Nat :=
  let c5 : Index := 5#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1090 : Index := Scalar.indexCast v1069
  let c0_364 : Index := 0#32
  ![5, v1090.toNat, 0]
def k0_off217 (i : grid0.Coords) (c0_i32_356 : BitVec 32) : Fin 3 → Nat :=
  let c6 : Index := 6#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1094 : Index := Scalar.indexCast v1069
  let c0_365 : Index := 0#32
  ![6, v1094.toNat, 0]
def k0_off218 (i : grid0.Coords) (c0_i32_356 : BitVec 32) : Fin 3 → Nat :=
  let c7 : Index := 7#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1098 : Index := Scalar.indexCast v1069
  let c0_366 : Index := 0#32
  ![7, v1098.toNat, 0]
def k0_off219 (i : grid0.Coords) (c0_i32_356 : BitVec 32) : Fin 3 → Nat :=
  let c8 : Index := 8#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1102 : Index := Scalar.indexCast v1069
  let c0_367 : Index := 0#32
  ![8, v1102.toNat, 0]
def k0_off220 (i : grid0.Coords) (c0_i32_356 : BitVec 32) : Fin 3 → Nat :=
  let c9 : Index := 9#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1106 : Index := Scalar.indexCast v1069
  let c0_368 : Index := 0#32
  ![9, v1106.toNat, 0]
def k0_off221 (i : grid0.Coords) (c0_i32_356 : BitVec 32) : Fin 3 → Nat :=
  let c10 : Index := 10#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1110 : Index := Scalar.indexCast v1069
  let c0_369 : Index := 0#32
  ![10, v1110.toNat, 0]
def k0_off222 (i : grid0.Coords) (c0_i32_356 : BitVec 32) : Fin 3 → Nat :=
  let c11 : Index := 11#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1114 : Index := Scalar.indexCast v1069
  let c0_370 : Index := 0#32
  ![11, v1114.toNat, 0]
def k0_off223 (i : grid0.Coords) (c0_i32_356 : BitVec 32) : Fin 3 → Nat :=
  let c12 : Index := 12#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1118 : Index := Scalar.indexCast v1069
  let c0_371 : Index := 0#32
  ![12, v1118.toNat, 0]
def k0_off224 (i : grid0.Coords) (c0_i32_356 : BitVec 32) : Fin 3 → Nat :=
  let c13 : Index := 13#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1122 : Index := Scalar.indexCast v1069
  let c0_372 : Index := 0#32
  ![13, v1122.toNat, 0]
def k0_off225 (i : grid0.Coords) (c0_i32_356 : BitVec 32) : Fin 3 → Nat :=
  let c14 : Index := 14#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1126 : Index := Scalar.indexCast v1069
  let c0_373 : Index := 0#32
  ![14, v1126.toNat, 0]
def k0_off226 (i : grid0.Coords) (c0_i32_356 : BitVec 32) : Fin 3 → Nat :=
  let c15 : Index := 15#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1130 : Index := Scalar.indexCast v1069
  let c0_374 : Index := 0#32
  ![15, v1130.toNat, 0]
def k0_off227 (i : grid0.Coords) (c0_i32_356 : BitVec 32) : Fin 3 → Nat :=
  let c16 : Index := 16#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1134 : Index := Scalar.indexCast v1069
  let c0_375 : Index := 0#32
  ![16, v1134.toNat, 0]
def k0_off228 (i : grid0.Coords) (c0_i32_356 : BitVec 32) : Fin 3 → Nat :=
  let c17 : Index := 17#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1138 : Index := Scalar.indexCast v1069
  let c0_376 : Index := 0#32
  ![17, v1138.toNat, 0]
def k0_off229 (i : grid0.Coords) (c0_i32_356 : BitVec 32) : Fin 3 → Nat :=
  let c18 : Index := 18#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1142 : Index := Scalar.indexCast v1069
  let c0_377 : Index := 0#32
  ![18, v1142.toNat, 0]
def k0_off230 (i : grid0.Coords) (c0_i32_356 : BitVec 32) : Fin 3 → Nat :=
  let c19 : Index := 19#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1146 : Index := Scalar.indexCast v1069
  let c0_378 : Index := 0#32
  ![19, v1146.toNat, 0]
def k0_off231 (i : grid0.Coords) (c0_i32_356 : BitVec 32) : Fin 3 → Nat :=
  let c20 : Index := 20#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1150 : Index := Scalar.indexCast v1069
  let c0_379 : Index := 0#32
  ![20, v1150.toNat, 0]
def k0_off232 (i : grid0.Coords) (c0_i32_356 : BitVec 32) : Fin 3 → Nat :=
  let c21 : Index := 21#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1154 : Index := Scalar.indexCast v1069
  let c0_380 : Index := 0#32
  ![21, v1154.toNat, 0]
def k0_off233 (i : grid0.Coords) (c0_i32_356 : BitVec 32) : Fin 3 → Nat :=
  let c22 : Index := 22#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1158 : Index := Scalar.indexCast v1069
  let c0_381 : Index := 0#32
  ![22, v1158.toNat, 0]
def k0_off234 (i : grid0.Coords) (c0_i32_356 : BitVec 32) : Fin 3 → Nat :=
  let c23 : Index := 23#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1162 : Index := Scalar.indexCast v1069
  let c0_382 : Index := 0#32
  ![23, v1162.toNat, 0]
def k0_off235 (i : grid0.Coords) (c0_i32_356 : BitVec 32) : Fin 3 → Nat :=
  let c24 : Index := 24#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1166 : Index := Scalar.indexCast v1069
  let c0_383 : Index := 0#32
  ![24, v1166.toNat, 0]
def k0_off236 (i : grid0.Coords) (c0_i32_356 : BitVec 32) : Fin 3 → Nat :=
  let c25 : Index := 25#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1170 : Index := Scalar.indexCast v1069
  let c0_384 : Index := 0#32
  ![25, v1170.toNat, 0]
def k0_off237 (i : grid0.Coords) (c0_i32_356 : BitVec 32) : Fin 3 → Nat :=
  let c26 : Index := 26#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1174 : Index := Scalar.indexCast v1069
  let c0_385 : Index := 0#32
  ![26, v1174.toNat, 0]
def k0_off238 (i : grid0.Coords) (c0_i32_356 : BitVec 32) : Fin 3 → Nat :=
  let c27 : Index := 27#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1178 : Index := Scalar.indexCast v1069
  let c0_386 : Index := 0#32
  ![27, v1178.toNat, 0]
def k0_off239 (i : grid0.Coords) (c0_i32_356 : BitVec 32) : Fin 3 → Nat :=
  let c28 : Index := 28#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1182 : Index := Scalar.indexCast v1069
  let c0_387 : Index := 0#32
  ![28, v1182.toNat, 0]
def k0_off240 (i : grid0.Coords) (c0_i32_356 : BitVec 32) : Fin 3 → Nat :=
  let c29 : Index := 29#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1186 : Index := Scalar.indexCast v1069
  let c0_388 : Index := 0#32
  ![29, v1186.toNat, 0]
def k0_off241 (i : grid0.Coords) (c0_i32_356 : BitVec 32) : Fin 3 → Nat :=
  let c30 : Index := 30#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1190 : Index := Scalar.indexCast v1069
  let c0_389 : Index := 0#32
  ![30, v1190.toNat, 0]
def k0_off242 (i : grid0.Coords) (c0_i32_356 : BitVec 32) : Fin 3 → Nat :=
  let c31 : Index := 31#32
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_355 : BitVec 32 := 2#32
  let v1066 : BitVec 32 := Scalar.muli v77 c2_i32_355
  let v1067 : BitVec 32 := Scalar.addi v1066 c0_i32_356
  let c8_i32_357 : BitVec 32 := 8#32
  let v1068 : BitVec 32 := Scalar.muli v1067 c8_i32_357
  let v1069 : BitVec 32 := v1068
  let v1194 : Index := Scalar.indexCast v1069
  let c0_390 : Index := 0#32
  ![31, v1194.toNat, 0]
def k0_mult33 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c512_i32_391 : BitVec 32 := 512#32
  let v1198 : BitVec 32 := Scalar.muli v77 c512_i32_391
  let c256_i32_392 : BitVec 32 := 256#32
  let v1199 : BitVec 32 := Scalar.addi v1198 c256_i32_392
  v1199
def k0_mult34 (i : grid0.Coords) : BitVec 32 :=
  let c2_i32_37 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_25 : BitVec 32 := 1#32
  let v54 : BitVec 32 := Scalar.subi v20 c1_i32_25
  let c0_i32_26 : BitVec 32 := 0#32
  let v56 : BitVec 1 := Scalar.cmpi .sgt v54 c0_i32_26
  let v57 : BitVec 32 := Scalar.extui v56
  let c0_i32_27 : BitVec 32 := 0#32
  let v58 : BitVec 1 := Scalar.cmpi .slt v54 c0_i32_27
  let v59 : BitVec 32 := Scalar.extui v58
  let v60 : BitVec 32 := Scalar.subi v57 v59
  let c2_i32 : BitVec 32 := 2#32
  let c0_i32_28 : BitVec 32 := 0#32
  let v61 : BitVec 1 := Scalar.cmpi .sgt c2_i32 c0_i32_28
  let v62 : BitVec 32 := Scalar.extui v61
  let c0_i32_29 : BitVec 32 := 0#32
  let v63 : BitVec 1 := Scalar.cmpi .slt c2_i32 c0_i32_29
  let v64 : BitVec 32 := Scalar.extui v63
  let v65 : BitVec 32 := Scalar.subi v62 v64
  let v66 : BitVec 1 := Scalar.cmpi .ne v60 v65
  let v67 : BitVec 32 := Scalar.remsi v54 c2_i32
  let c0_i32_30 : BitVec 32 := 0#32
  let v68 : BitVec 1 := Scalar.cmpi .ne v67 c0_i32_30
  let v69 : BitVec 1 := Scalar.andi v66 v68
  let v55 : BitVec 32 := Scalar.divsi v54 c2_i32
  let c1_i32_31 : BitVec 32 := 1#32
  let v70 : BitVec 32 := Scalar.subi v55 c1_i32_31
  let v71 : BitVec 32 := Scalar.select v69 v70 v55
  let v77 : BitVec 32 := Scalar.muli c2_i32_37 v71
  let c2_i32_671 : BitVec 32 := 2#32
  let v2070 : BitVec 32 := Scalar.muli v77 c2_i32_671
  let c1_i32_672 : BitVec 32 := 1#32
  let v2071 : BitVec 32 := Scalar.addi v2070 c1_i32_672
  let c8_i32_673 : BitVec 32 := 8#32
  let v2072 : BitVec 32 := Scalar.muli v2071 c8_i32_673
  v2072
@[reducible] def k0_t4_loop : Scf.Loop 32 :=
  let c0_i32_42 : BitVec 32 := 0#32
  let c32_i32 : BitVec 32 := 32#32
  let v91 : BitVec 32 := Scalar.addi c0_i32_42 c32_i32
  let c1_i32_43 : BitVec 32 := 1#32
  ⟨c0_i32_42, v91, c1_i32_43⟩
def k0_off243 (k0_t4 : Fin k0_t4_loop.trips) : Fin 3 → Nat :=
  let c31_i32 : BitVec 32 := 31#32
  let c0_i32_42 : BitVec 32 := 0#32
  let c1_i32_43 : BitVec 32 := 1#32
  let arg23 : BitVec 32 := Scf.iv c0_i32_42 c1_i32_43 k0_t4
  let v194 : BitVec 32 := Scalar.subi c31_i32 arg23
  let v195 : Index := Scalar.indexCast v194
  let c0_84 : Index := 0#32
  let c0_85 : Index := 0#32
  ![v195.toNat, 0, 0]
def k0_mult35 : BitVec 32 :=
  let c0_i32_85 : BitVec 32 := 0#32
  c0_i32_85
def k0_off244 (i : grid0.Coords) (c0_i32_98 : BitVec 32) : Fin 4 → Nat :=
  let c2_i32_100 : BitVec 32 := 2#32
  let c0_i32_99 : BitVec 32 := 0#32
  let arg1 : BitVec 32 := BitVec.ofNat 32 (i 1).val
  let v226 : BitVec 32 := Scalar.subi arg1 c0_i32_98
  let v227 : BitVec 32 := Scalar.maxsi c0_i32_99 v226
  let v228 : BitVec 32 := Scalar.minsi c2_i32_100 v227
  let v241 : Index := Scalar.indexCast v228
  let c0_112 : Index := 0#32
  let c0_113 : Index := 0#32
  let c0_114 : Index := 0#32
  ![v241.toNat, 0, 0, 0]
def k0_off245 (i : grid0.Coords) (c0_i32_98 : BitVec 32) : Fin 4 → Nat :=
  let c2_i32_100 : BitVec 32 := 2#32
  let c0_i32_99 : BitVec 32 := 0#32
  let arg1 : BitVec 32 := BitVec.ofNat 32 (i 1).val
  let v226 : BitVec 32 := Scalar.subi arg1 c0_i32_98
  let v227 : BitVec 32 := Scalar.maxsi c0_i32_99 v226
  let v228 : BitVec 32 := Scalar.minsi c2_i32_100 v227
  let v307 : Index := Scalar.indexCast v228
  let c1 : Index := 1#32
  let c0_151 : Index := 0#32
  let c0_152 : Index := 0#32
  ![v307.toNat, 1, 0, 0]
def k0_off246 (i : grid0.Coords) (c0_i32_98 : BitVec 32) : Fin 4 → Nat :=
  let c2_i32_100 : BitVec 32 := 2#32
  let c0_i32_99 : BitVec 32 := 0#32
  let arg1 : BitVec 32 := BitVec.ofNat 32 (i 1).val
  let v226 : BitVec 32 := Scalar.subi arg1 c0_i32_98
  let v227 : BitVec 32 := Scalar.maxsi c0_i32_99 v226
  let v228 : BitVec 32 := Scalar.minsi c2_i32_100 v227
  let v375 : Index := Scalar.indexCast v228
  let c2 : Index := 2#32
  let c0_192 : Index := 0#32
  let c0_193 : Index := 0#32
  ![v375.toNat, 2, 0, 0]
def k0_off247 (i : grid0.Coords) (c0_i32_98 : BitVec 32) : Fin 4 → Nat :=
  let c2_i32_100 : BitVec 32 := 2#32
  let c0_i32_99 : BitVec 32 := 0#32
  let arg1 : BitVec 32 := BitVec.ofNat 32 (i 1).val
  let v226 : BitVec 32 := Scalar.subi arg1 c0_i32_98
  let v227 : BitVec 32 := Scalar.maxsi c0_i32_99 v226
  let v228 : BitVec 32 := Scalar.minsi c2_i32_100 v227
  let v441 : Index := Scalar.indexCast v228
  let c3 : Index := 3#32
  let c0_230 : Index := 0#32
  let c0_231 : Index := 0#32
  ![v441.toNat, 3, 0, 0]
def k0_off248 (i : grid0.Coords) (c0_i32_98 : BitVec 32) : Fin 4 → Nat :=
  let c2_i32_100 : BitVec 32 := 2#32
  let c0_i32_99 : BitVec 32 := 0#32
  let arg1 : BitVec 32 := BitVec.ofNat 32 (i 1).val
  let v226 : BitVec 32 := Scalar.subi arg1 c0_i32_98
  let v227 : BitVec 32 := Scalar.maxsi c0_i32_99 v226
  let v228 : BitVec 32 := Scalar.minsi c2_i32_100 v227
  let v509 : Index := Scalar.indexCast v228
  let c4 : Index := 4#32
  let c0_271 : Index := 0#32
  let c0_272 : Index := 0#32
  ![v509.toNat, 4, 0, 0]
def k0_off249 (i : grid0.Coords) (c0_i32_98 : BitVec 32) : Fin 4 → Nat :=
  let c2_i32_100 : BitVec 32 := 2#32
  let c0_i32_99 : BitVec 32 := 0#32
  let arg1 : BitVec 32 := BitVec.ofNat 32 (i 1).val
  let v226 : BitVec 32 := Scalar.subi arg1 c0_i32_98
  let v227 : BitVec 32 := Scalar.maxsi c0_i32_99 v226
  let v228 : BitVec 32 := Scalar.minsi c2_i32_100 v227
  let v575 : Index := Scalar.indexCast v228
  let c5 : Index := 5#32
  let c0_309 : Index := 0#32
  let c0_310 : Index := 0#32
  ![v575.toNat, 5, 0, 0]
def k0_off250 (i : grid0.Coords) (c0_i32_98 : BitVec 32) : Fin 4 → Nat :=
  let c2_i32_100 : BitVec 32 := 2#32
  let c0_i32_99 : BitVec 32 := 0#32
  let arg1 : BitVec 32 := BitVec.ofNat 32 (i 1).val
  let v226 : BitVec 32 := Scalar.subi arg1 c0_i32_98
  let v227 : BitVec 32 := Scalar.maxsi c0_i32_99 v226
  let v228 : BitVec 32 := Scalar.minsi c2_i32_100 v227
  let v643 : Index := Scalar.indexCast v228
  let c6 : Index := 6#32
  let c0_350 : Index := 0#32
  let c0_351 : Index := 0#32
  ![v643.toNat, 6, 0, 0]
def k0_off251 (i : grid0.Coords) (c0_i32_98 : BitVec 32) : Fin 4 → Nat :=
  let c2_i32_100 : BitVec 32 := 2#32
  let c0_i32_99 : BitVec 32 := 0#32
  let arg1 : BitVec 32 := BitVec.ofNat 32 (i 1).val
  let v226 : BitVec 32 := Scalar.subi arg1 c0_i32_98
  let v227 : BitVec 32 := Scalar.maxsi c0_i32_99 v226
  let v228 : BitVec 32 := Scalar.minsi c2_i32_100 v227
  let v709 : Index := Scalar.indexCast v228
  let c7 : Index := 7#32
  let c0_388 : Index := 0#32
  let c0_389 : Index := 0#32
  ![v709.toNat, 7, 0, 0]
@[reducible] def k0_t5_loop (i : grid0.Coords) : Scf.Loop 32 :=
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_436 : BitVec 32 := 1#32
  ⟨c0_i32_434, v796, c1_i32_436⟩
def k0_mult36 (i : grid0.Coords) (k0_t5 : Fin (k0_t5_loop i).trips) : BitVec 32 :=
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let c1_i32_442 : BitVec 32 := 1#32
  let v805 : BitVec 32 := Scalar.addi v804 c1_i32_442
  let c512_i32_443 : BitVec 32 := 512#32
  let v806 : BitVec 32 := Scalar.muli v805 c512_i32_443
  v806
def k0_off252 (i : grid0.Coords) (k0_t5 : Fin (k0_t5_loop i).trips) (c1_i32_442 : BitVec 32) : Fin 2 → Nat :=
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c512_i32_443 : BitVec 32 := 512#32
  let v806 : BitVec 32 := Scalar.muli v805 c512_i32_443
  let v807 : BitVec 32 := v806
  let v808 : Index := Scalar.indexCast v807
  let c0_444 : Index := 0#32
  ![v808.toNat, 0]
def k0_off253 (i : grid0.Coords) (k0_t5 : Fin (k0_t5_loop i).trips) (c1_i32_442 : BitVec 32) : Fin 3 → Nat :=
  let c0_454 : Index := 0#32
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c512_i32_443 : BitVec 32 := 512#32
  let v806 : BitVec 32 := Scalar.muli v805 c512_i32_443
  let v807 : BitVec 32 := v806
  let v835 : Index := Scalar.indexCast v807
  let c0_455 : Index := 0#32
  ![0, v835.toNat, 0]
def k0_off254 (i : grid0.Coords) (k0_t5 : Fin (k0_t5_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v861 : Index := Scalar.indexCast v842
  let c0_474 : Index := 0#32
  let c0_475 : Index := 0#32
  let c0_476 : Index := 0#32
  ![v861.toNat, 0, 0, 0]
def k0_off255 (i : grid0.Coords) (k0_t5 : Fin (k0_t5_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v927 : Index := Scalar.indexCast v842
  let c1_513 : Index := 1#32
  let c0_514 : Index := 0#32
  let c0_515 : Index := 0#32
  ![v927.toNat, 1, 0, 0]
def k0_off256 (i : grid0.Coords) (k0_t5 : Fin (k0_t5_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v995 : Index := Scalar.indexCast v842
  let c2_555 : Index := 2#32
  let c0_556 : Index := 0#32
  let c0_557 : Index := 0#32
  ![v995.toNat, 2, 0, 0]
def k0_off257 (i : grid0.Coords) (k0_t5 : Fin (k0_t5_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1061 : Index := Scalar.indexCast v842
  let c3_594 : Index := 3#32
  let c0_595 : Index := 0#32
  let c0_596 : Index := 0#32
  ![v1061.toNat, 3, 0, 0]
def k0_off258 (i : grid0.Coords) (k0_t5 : Fin (k0_t5_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1129 : Index := Scalar.indexCast v842
  let c4_636 : Index := 4#32
  let c0_637 : Index := 0#32
  let c0_638 : Index := 0#32
  ![v1129.toNat, 4, 0, 0]
def k0_off259 (i : grid0.Coords) (k0_t5 : Fin (k0_t5_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1195 : Index := Scalar.indexCast v842
  let c5_675 : Index := 5#32
  let c0_676 : Index := 0#32
  let c0_677 : Index := 0#32
  ![v1195.toNat, 5, 0, 0]
def k0_off260 (i : grid0.Coords) (k0_t5 : Fin (k0_t5_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1263 : Index := Scalar.indexCast v842
  let c6_717 : Index := 6#32
  let c0_718 : Index := 0#32
  let c0_719 : Index := 0#32
  ![v1263.toNat, 6, 0, 0]
def k0_off261 (i : grid0.Coords) (k0_t5 : Fin (k0_t5_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1329 : Index := Scalar.indexCast v842
  let c7_756 : Index := 7#32
  let c0_757 : Index := 0#32
  let c0_758 : Index := 0#32
  ![v1329.toNat, 7, 0, 0]
def k0_mult37 (i : grid0.Coords) (k0_t5 : Fin (k0_t5_loop i).trips) : BitVec 32 :=
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let c512_i32_795 : BitVec 32 := 512#32
  let v1394 : BitVec 32 := Scalar.muli v804 c512_i32_795
  v1394
def k0_off262 (i : grid0.Coords) (k0_t5 : Fin (k0_t5_loop i).trips) : Fin 2 → Nat :=
  let c0_796 : Index := 0#32
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let c512_i32_795 : BitVec 32 := 512#32
  let v1394 : BitVec 32 := Scalar.muli v804 c512_i32_795
  let v1395 : BitVec 32 := v1394
  let v1396 : Index := Scalar.indexCast v1395
  ![0, v1396.toNat]
def k0_mult38 (i : grid0.Coords) (k0_t5 : Fin (k0_t5_loop i).trips) : BitVec 32 :=
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let c2_i32_853 : BitVec 32 := 2#32
  let v1470 : BitVec 32 := Scalar.addi v804 c2_i32_853
  let c512_i32_854 : BitVec 32 := 512#32
  let v1471 : BitVec 32 := Scalar.muli v1470 c512_i32_854
  v1471
def k0_mult39 (i : grid0.Coords) (k0_t5 : Fin (k0_t5_loop i).trips) : BitVec 32 :=
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let c1_i32_1207 : BitVec 32 := 1#32
  let v2059 : BitVec 32 := Scalar.addi v804 c1_i32_1207
  let c512_i32_1208 : BitVec 32 := 512#32
  let v2060 : BitVec 32 := Scalar.muli v2059 c512_i32_1208
  v2060
def k0_off263 (i : grid0.Coords) (k0_t5 : Fin (k0_t5_loop i).trips) : Fin 2 → Nat :=
  let c0_1209 : Index := 0#32
  let c2_i32_441 : BitVec 32 := 2#32
  let c0_i32_434 : BitVec 32 := 0#32
  let c1_i32_436 : BitVec 32 := 1#32
  let arg23 : BitVec 32 := Scf.iv c0_i32_434 c1_i32_436 k0_t5
  let v804 : BitVec 32 := Scalar.muli c2_i32_441 arg23
  let c1_i32_1207 : BitVec 32 := 1#32
  let v2059 : BitVec 32 := Scalar.addi v804 c1_i32_1207
  let c512_i32_1208 : BitVec 32 := 512#32
  let v2060 : BitVec 32 := Scalar.muli v2059 c512_i32_1208
  let v2061 : BitVec 32 := v2060
  let v2062 : Index := Scalar.indexCast v2061
  ![0, v2062.toNat]
@[reducible] def k0_t6_loop (i : grid0.Coords) : Scf.Loop 32 :=
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let v793 : BitVec 32 := Scalar.addi c0_i32_434 v792
  let c1_i32_437 : BitVec 32 := 1#32
  ⟨v796, v793, c1_i32_437⟩
def k0_mult40 (i : grid0.Coords) (k0_t6 : Fin (k0_t6_loop i).trips) : BitVec 32 :=
  let c2_i32_441 : BitVec 32 := 2#32
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let c1_i32_442 : BitVec 32 := 1#32
  let v805 : BitVec 32 := Scalar.addi v804 c1_i32_442
  let c512_i32_443 : BitVec 32 := 512#32
  let v806 : BitVec 32 := Scalar.muli v805 c512_i32_443
  v806
def k0_off264 (i : grid0.Coords) (k0_t6 : Fin (k0_t6_loop i).trips) (c1_i32_442 : BitVec 32) : Fin 2 → Nat :=
  let c2_i32_441 : BitVec 32 := 2#32
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c512_i32_443 : BitVec 32 := 512#32
  let v806 : BitVec 32 := Scalar.muli v805 c512_i32_443
  let v807 : BitVec 32 := v806
  let v808 : Index := Scalar.indexCast v807
  let c0_444 : Index := 0#32
  ![v808.toNat, 0]
def k0_off265 (i : grid0.Coords) (k0_t6 : Fin (k0_t6_loop i).trips) (c1_i32_442 : BitVec 32) : Fin 3 → Nat :=
  let c0_454 : Index := 0#32
  let c2_i32_441 : BitVec 32 := 2#32
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c512_i32_443 : BitVec 32 := 512#32
  let v806 : BitVec 32 := Scalar.muli v805 c512_i32_443
  let v807 : BitVec 32 := v806
  let v835 : Index := Scalar.indexCast v807
  let c0_455 : Index := 0#32
  ![0, v835.toNat, 0]
def k0_off266 (i : grid0.Coords) (k0_t6 : Fin (k0_t6_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v861 : Index := Scalar.indexCast v842
  let c0_474 : Index := 0#32
  let c0_475 : Index := 0#32
  let c0_476 : Index := 0#32
  ![v861.toNat, 0, 0, 0]
def k0_off267 (i : grid0.Coords) (k0_t6 : Fin (k0_t6_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v927 : Index := Scalar.indexCast v842
  let c1_513 : Index := 1#32
  let c0_514 : Index := 0#32
  let c0_515 : Index := 0#32
  ![v927.toNat, 1, 0, 0]
def k0_off268 (i : grid0.Coords) (k0_t6 : Fin (k0_t6_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v995 : Index := Scalar.indexCast v842
  let c2_555 : Index := 2#32
  let c0_556 : Index := 0#32
  let c0_557 : Index := 0#32
  ![v995.toNat, 2, 0, 0]
def k0_off269 (i : grid0.Coords) (k0_t6 : Fin (k0_t6_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1061 : Index := Scalar.indexCast v842
  let c3_594 : Index := 3#32
  let c0_595 : Index := 0#32
  let c0_596 : Index := 0#32
  ![v1061.toNat, 3, 0, 0]
def k0_off270 (i : grid0.Coords) (k0_t6 : Fin (k0_t6_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1129 : Index := Scalar.indexCast v842
  let c4_636 : Index := 4#32
  let c0_637 : Index := 0#32
  let c0_638 : Index := 0#32
  ![v1129.toNat, 4, 0, 0]
def k0_off271 (i : grid0.Coords) (k0_t6 : Fin (k0_t6_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1195 : Index := Scalar.indexCast v842
  let c5_675 : Index := 5#32
  let c0_676 : Index := 0#32
  let c0_677 : Index := 0#32
  ![v1195.toNat, 5, 0, 0]
def k0_off272 (i : grid0.Coords) (k0_t6 : Fin (k0_t6_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1263 : Index := Scalar.indexCast v842
  let c6_717 : Index := 6#32
  let c0_718 : Index := 0#32
  let c0_719 : Index := 0#32
  ![v1263.toNat, 6, 0, 0]
def k0_off273 (i : grid0.Coords) (k0_t6 : Fin (k0_t6_loop i).trips) (c1_i32_442 : BitVec 32) (c0_i32_456 : BitVec 32) : Fin 4 → Nat :=
  let c2_i32_458 : BitVec 32 := 2#32
  let c0_i32_457 : BitVec 32 := 0#32
  let arg1 : BitVec 32 := BitVec.ofNat 32 (i 1).val
  let c2_i32_441 : BitVec 32 := 2#32
  let c0_i32_434 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let v805 : BitVec 32 := Scalar.addi v804 c1_i32_442
  let c4_i32 : BitVec 32 := 4#32
  let v838 : BitVec 32 := Scalar.muli v805 c4_i32
  let v839 : BitVec 32 := Scalar.addi v838 c0_i32_456
  let v840 : BitVec 32 := Scalar.subi arg1 v839
  let v841 : BitVec 32 := Scalar.maxsi c0_i32_457 v840
  let v842 : BitVec 32 := Scalar.minsi c2_i32_458 v841
  let v1329 : Index := Scalar.indexCast v842
  let c7_756 : Index := 7#32
  let c0_757 : Index := 0#32
  let c0_758 : Index := 0#32
  ![v1329.toNat, 7, 0, 0]
def k0_mult41 (i : grid0.Coords) (k0_t6 : Fin (k0_t6_loop i).trips) : BitVec 32 :=
  let c2_i32_441 : BitVec 32 := 2#32
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let c512_i32_795 : BitVec 32 := 512#32
  let v1394 : BitVec 32 := Scalar.muli v804 c512_i32_795
  v1394
def k0_off274 (i : grid0.Coords) (k0_t6 : Fin (k0_t6_loop i).trips) : Fin 2 → Nat :=
  let c0_796 : Index := 0#32
  let c2_i32_441 : BitVec 32 := 2#32
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let c512_i32_795 : BitVec 32 := 512#32
  let v1394 : BitVec 32 := Scalar.muli v804 c512_i32_795
  let v1395 : BitVec 32 := v1394
  let v1396 : Index := Scalar.indexCast v1395
  ![0, v1396.toNat]
def k0_mult42 (i : grid0.Coords) (k0_t6 : Fin (k0_t6_loop i).trips) : BitVec 32 :=
  let c2_i32_441 : BitVec 32 := 2#32
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let c2_i32_853 : BitVec 32 := 2#32
  let v1470 : BitVec 32 := Scalar.addi v804 c2_i32_853
  let c512_i32_854 : BitVec 32 := 512#32
  let v1471 : BitVec 32 := Scalar.muli v1470 c512_i32_854
  v1471
def k0_mult43 (i : grid0.Coords) (k0_t6 : Fin (k0_t6_loop i).trips) : BitVec 32 :=
  let c2_i32_441 : BitVec 32 := 2#32
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let c1_i32_1207 : BitVec 32 := 1#32
  let v2059 : BitVec 32 := Scalar.addi v804 c1_i32_1207
  let c512_i32_1208 : BitVec 32 := 512#32
  let v2060 : BitVec 32 := Scalar.muli v2059 c512_i32_1208
  v2060
def k0_off275 (i : grid0.Coords) (k0_t6 : Fin (k0_t6_loop i).trips) : Fin 2 → Nat :=
  let c0_1209 : Index := 0#32
  let c2_i32_441 : BitVec 32 := 2#32
  let c0_i32_434 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v792 : BitVec 32 := Scalar.subi v791 c0_i32_434
  let c1_i32_435 : BitVec 32 := 1#32
  let v794 : BitVec 32 := Scalar.divsi v792 c1_i32_435
  let v795 : BitVec 32 := Scalar.muli v794 c1_i32_435
  let v796 : BitVec 32 := Scalar.addi c0_i32_434 v795
  let c1_i32_437 : BitVec 32 := 1#32
  let arg23 : BitVec 32 := Scf.iv v796 c1_i32_437 k0_t6
  let v804 : BitVec 32 := Scalar.muli c2_i32_441 arg23
  let c1_i32_1207 : BitVec 32 := 1#32
  let v2059 : BitVec 32 := Scalar.addi v804 c1_i32_1207
  let c512_i32_1208 : BitVec 32 := 512#32
  let v2060 : BitVec 32 := Scalar.muli v2059 c512_i32_1208
  let v2061 : BitVec 32 := v2060
  let v2062 : Index := Scalar.indexCast v2061
  ![0, v2062.toNat]
def k0_cond4 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_438 : BitVec 32 := 2#32
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let v800 : BitVec 32 := Scalar.subi v20 v799
  let c2_i32_439 : BitVec 32 := 2#32
  let v801 : BitVec 1 := Scalar.cmpi .eq v800 c2_i32_439
  let v802 : BitVec 32 := Scalar.extui v801
  let c0_i32_440 : BitVec 32 := 0#32
  let v803 : BitVec 1 := Scalar.cmpi .ne v802 c0_i32_440
  v803

def k0_mult44 (i : grid0.Coords) : BitVec 32 :=
  let c2_i32_438 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c512_i32_442 : BitVec 32 := 512#32
  let v805 : BitVec 32 := Scalar.muli v804 c512_i32_442
  v805
def k0_off276 (i : grid0.Coords) : Fin 2 → Nat :=
  let c2_i32_438 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c512_i32_442 : BitVec 32 := 512#32
  let v805 : BitVec 32 := Scalar.muli v804 c512_i32_442
  let v806 : BitVec 32 := v805
  let v807 : Index := Scalar.indexCast v806
  let c0_443 : Index := 0#32
  ![v807.toNat, 0]
def k0_off277 (i : grid0.Coords) : Fin 3 → Nat :=
  let c0_451 : Index := 0#32
  let c2_i32_438 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c512_i32_442 : BitVec 32 := 512#32
  let v805 : BitVec 32 := Scalar.muli v804 c512_i32_442
  let v806 : BitVec 32 := v805
  let v829 : Index := Scalar.indexCast v806
  let c0_452 : Index := 0#32
  ![0, v829.toNat, 0]
def k0_off278 (i : grid0.Coords) (c0_i32_453 : BitVec 32) : Fin 4 → Nat :=
  let c2_i32_455 : BitVec 32 := 2#32
  let c0_i32_454 : BitVec 32 := 0#32
  let arg1 : BitVec 32 := BitVec.ofNat 32 (i 1).val
  let c2_i32_438 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c4_i32 : BitVec 32 := 4#32
  let v832 : BitVec 32 := Scalar.muli v804 c4_i32
  let v833 : BitVec 32 := Scalar.addi v832 c0_i32_453
  let v834 : BitVec 32 := Scalar.subi arg1 v833
  let v835 : BitVec 32 := Scalar.maxsi c0_i32_454 v834
  let v836 : BitVec 32 := Scalar.minsi c2_i32_455 v835
  let v855 : Index := Scalar.indexCast v836
  let c0_471 : Index := 0#32
  let c0_472 : Index := 0#32
  let c0_473 : Index := 0#32
  ![v855.toNat, 0, 0, 0]
def k0_off279 (i : grid0.Coords) (c0_i32_453 : BitVec 32) : Fin 4 → Nat :=
  let c2_i32_455 : BitVec 32 := 2#32
  let c0_i32_454 : BitVec 32 := 0#32
  let arg1 : BitVec 32 := BitVec.ofNat 32 (i 1).val
  let c2_i32_438 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c4_i32 : BitVec 32 := 4#32
  let v832 : BitVec 32 := Scalar.muli v804 c4_i32
  let v833 : BitVec 32 := Scalar.addi v832 c0_i32_453
  let v834 : BitVec 32 := Scalar.subi arg1 v833
  let v835 : BitVec 32 := Scalar.maxsi c0_i32_454 v834
  let v836 : BitVec 32 := Scalar.minsi c2_i32_455 v835
  let v921 : Index := Scalar.indexCast v836
  let c1_510 : Index := 1#32
  let c0_511 : Index := 0#32
  let c0_512 : Index := 0#32
  ![v921.toNat, 1, 0, 0]
def k0_off280 (i : grid0.Coords) (c0_i32_453 : BitVec 32) : Fin 4 → Nat :=
  let c2_i32_455 : BitVec 32 := 2#32
  let c0_i32_454 : BitVec 32 := 0#32
  let arg1 : BitVec 32 := BitVec.ofNat 32 (i 1).val
  let c2_i32_438 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c4_i32 : BitVec 32 := 4#32
  let v832 : BitVec 32 := Scalar.muli v804 c4_i32
  let v833 : BitVec 32 := Scalar.addi v832 c0_i32_453
  let v834 : BitVec 32 := Scalar.subi arg1 v833
  let v835 : BitVec 32 := Scalar.maxsi c0_i32_454 v834
  let v836 : BitVec 32 := Scalar.minsi c2_i32_455 v835
  let v989 : Index := Scalar.indexCast v836
  let c2_552 : Index := 2#32
  let c0_553 : Index := 0#32
  let c0_554 : Index := 0#32
  ![v989.toNat, 2, 0, 0]
def k0_off281 (i : grid0.Coords) (c0_i32_453 : BitVec 32) : Fin 4 → Nat :=
  let c2_i32_455 : BitVec 32 := 2#32
  let c0_i32_454 : BitVec 32 := 0#32
  let arg1 : BitVec 32 := BitVec.ofNat 32 (i 1).val
  let c2_i32_438 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c4_i32 : BitVec 32 := 4#32
  let v832 : BitVec 32 := Scalar.muli v804 c4_i32
  let v833 : BitVec 32 := Scalar.addi v832 c0_i32_453
  let v834 : BitVec 32 := Scalar.subi arg1 v833
  let v835 : BitVec 32 := Scalar.maxsi c0_i32_454 v834
  let v836 : BitVec 32 := Scalar.minsi c2_i32_455 v835
  let v1055 : Index := Scalar.indexCast v836
  let c3_591 : Index := 3#32
  let c0_592 : Index := 0#32
  let c0_593 : Index := 0#32
  ![v1055.toNat, 3, 0, 0]
def k0_off282 (i : grid0.Coords) (c0_i32_453 : BitVec 32) : Fin 4 → Nat :=
  let c2_i32_455 : BitVec 32 := 2#32
  let c0_i32_454 : BitVec 32 := 0#32
  let arg1 : BitVec 32 := BitVec.ofNat 32 (i 1).val
  let c2_i32_438 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c4_i32 : BitVec 32 := 4#32
  let v832 : BitVec 32 := Scalar.muli v804 c4_i32
  let v833 : BitVec 32 := Scalar.addi v832 c0_i32_453
  let v834 : BitVec 32 := Scalar.subi arg1 v833
  let v835 : BitVec 32 := Scalar.maxsi c0_i32_454 v834
  let v836 : BitVec 32 := Scalar.minsi c2_i32_455 v835
  let v1123 : Index := Scalar.indexCast v836
  let c4_633 : Index := 4#32
  let c0_634 : Index := 0#32
  let c0_635 : Index := 0#32
  ![v1123.toNat, 4, 0, 0]
def k0_off283 (i : grid0.Coords) (c0_i32_453 : BitVec 32) : Fin 4 → Nat :=
  let c2_i32_455 : BitVec 32 := 2#32
  let c0_i32_454 : BitVec 32 := 0#32
  let arg1 : BitVec 32 := BitVec.ofNat 32 (i 1).val
  let c2_i32_438 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c4_i32 : BitVec 32 := 4#32
  let v832 : BitVec 32 := Scalar.muli v804 c4_i32
  let v833 : BitVec 32 := Scalar.addi v832 c0_i32_453
  let v834 : BitVec 32 := Scalar.subi arg1 v833
  let v835 : BitVec 32 := Scalar.maxsi c0_i32_454 v834
  let v836 : BitVec 32 := Scalar.minsi c2_i32_455 v835
  let v1189 : Index := Scalar.indexCast v836
  let c5_672 : Index := 5#32
  let c0_673 : Index := 0#32
  let c0_674 : Index := 0#32
  ![v1189.toNat, 5, 0, 0]
def k0_off284 (i : grid0.Coords) (c0_i32_453 : BitVec 32) : Fin 4 → Nat :=
  let c2_i32_455 : BitVec 32 := 2#32
  let c0_i32_454 : BitVec 32 := 0#32
  let arg1 : BitVec 32 := BitVec.ofNat 32 (i 1).val
  let c2_i32_438 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c4_i32 : BitVec 32 := 4#32
  let v832 : BitVec 32 := Scalar.muli v804 c4_i32
  let v833 : BitVec 32 := Scalar.addi v832 c0_i32_453
  let v834 : BitVec 32 := Scalar.subi arg1 v833
  let v835 : BitVec 32 := Scalar.maxsi c0_i32_454 v834
  let v836 : BitVec 32 := Scalar.minsi c2_i32_455 v835
  let v1257 : Index := Scalar.indexCast v836
  let c6_714 : Index := 6#32
  let c0_715 : Index := 0#32
  let c0_716 : Index := 0#32
  ![v1257.toNat, 6, 0, 0]
def k0_off285 (i : grid0.Coords) (c0_i32_453 : BitVec 32) : Fin 4 → Nat :=
  let c2_i32_455 : BitVec 32 := 2#32
  let c0_i32_454 : BitVec 32 := 0#32
  let arg1 : BitVec 32 := BitVec.ofNat 32 (i 1).val
  let c2_i32_438 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_441 : BitVec 32 := 1#32
  let v804 : BitVec 32 := Scalar.addi v799 c1_i32_441
  let c4_i32 : BitVec 32 := 4#32
  let v832 : BitVec 32 := Scalar.muli v804 c4_i32
  let v833 : BitVec 32 := Scalar.addi v832 c0_i32_453
  let v834 : BitVec 32 := Scalar.subi arg1 v833
  let v835 : BitVec 32 := Scalar.maxsi c0_i32_454 v834
  let v836 : BitVec 32 := Scalar.minsi c2_i32_455 v835
  let v1323 : Index := Scalar.indexCast v836
  let c7_753 : Index := 7#32
  let c0_754 : Index := 0#32
  let c0_755 : Index := 0#32
  ![v1323.toNat, 7, 0, 0]
def k0_mult45 (i : grid0.Coords) : BitVec 32 :=
  let c2_i32_438 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c512_i32_792 : BitVec 32 := 512#32
  let v1388 : BitVec 32 := Scalar.muli v799 c512_i32_792
  v1388
def k0_off286 (i : grid0.Coords) : Fin 2 → Nat :=
  let c0_793 : Index := 0#32
  let c2_i32_438 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c512_i32_792 : BitVec 32 := 512#32
  let v1388 : BitVec 32 := Scalar.muli v799 c512_i32_792
  let v1389 : BitVec 32 := v1388
  let v1390 : Index := Scalar.indexCast v1389
  ![0, v1390.toNat]
def k0_mult46 (i : grid0.Coords) : BitVec 32 :=
  let c2_i32_438 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_850 : BitVec 32 := 1#32
  let v1464 : BitVec 32 := Scalar.addi v799 c1_i32_850
  let c512_i32_851 : BitVec 32 := 512#32
  let v1465 : BitVec 32 := Scalar.muli v1464 c512_i32_851
  v1465
def k0_off287 (i : grid0.Coords) : Fin 2 → Nat :=
  let c0_852 : Index := 0#32
  let c2_i32_438 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c1_i32_850 : BitVec 32 := 1#32
  let v1464 : BitVec 32 := Scalar.addi v799 c1_i32_850
  let c512_i32_851 : BitVec 32 := 512#32
  let v1465 : BitVec 32 := Scalar.muli v1464 c512_i32_851
  let v1466 : BitVec 32 := v1465
  let v1467 : Index := Scalar.indexCast v1466
  ![0, v1467.toNat]
def k0_mult47 (i : grid0.Coords) : BitVec 32 :=
  let c2_i32_438 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c512_i32_441 : BitVec 32 := 512#32
  let v804 : BitVec 32 := Scalar.muli v799 c512_i32_441
  v804
def k0_off288 (i : grid0.Coords) : Fin 2 → Nat :=
  let c0_442 : Index := 0#32
  let c2_i32_438 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_426 : BitVec 32 := 1#32
  let v774 : BitVec 32 := Scalar.subi v20 c1_i32_426
  let c0_i32_428 : BitVec 32 := 0#32
  let v776 : BitVec 1 := Scalar.cmpi .sgt v774 c0_i32_428
  let v777 : BitVec 32 := Scalar.extui v776
  let c0_i32_429 : BitVec 32 := 0#32
  let v778 : BitVec 1 := Scalar.cmpi .slt v774 c0_i32_429
  let v779 : BitVec 32 := Scalar.extui v778
  let v780 : BitVec 32 := Scalar.subi v777 v779
  let c2_i32_427 : BitVec 32 := 2#32
  let c0_i32_430 : BitVec 32 := 0#32
  let v781 : BitVec 1 := Scalar.cmpi .sgt c2_i32_427 c0_i32_430
  let v782 : BitVec 32 := Scalar.extui v781
  let c0_i32_431 : BitVec 32 := 0#32
  let v783 : BitVec 1 := Scalar.cmpi .slt c2_i32_427 c0_i32_431
  let v784 : BitVec 32 := Scalar.extui v783
  let v785 : BitVec 32 := Scalar.subi v782 v784
  let v786 : BitVec 1 := Scalar.cmpi .ne v780 v785
  let v787 : BitVec 32 := Scalar.remsi v774 c2_i32_427
  let c0_i32_432 : BitVec 32 := 0#32
  let v788 : BitVec 1 := Scalar.cmpi .ne v787 c0_i32_432
  let v789 : BitVec 1 := Scalar.andi v786 v788
  let v775 : BitVec 32 := Scalar.divsi v774 c2_i32_427
  let c1_i32_433 : BitVec 32 := 1#32
  let v790 : BitVec 32 := Scalar.subi v775 c1_i32_433
  let v791 : BitVec 32 := Scalar.select v789 v790 v775
  let v799 : BitVec 32 := Scalar.muli c2_i32_438 v791
  let c512_i32_441 : BitVec 32 := 512#32
  let v804 : BitVec 32 := Scalar.muli v799 c512_i32_441
  let v805 : BitVec 32 := v804
  let v806 : Index := Scalar.indexCast v805
  ![0, v806.toNat]
def k0_mult48 : BitVec 32 :=
  let c0_i32_85 : BitVec 32 := 0#32
  c0_i32_85
def k0_off289 (i : grid0.Coords) (c0_i32_91 : BitVec 32) : Fin 4 → Nat :=
  let c2_i32_93 : BitVec 32 := 2#32
  let c0_i32_92 : BitVec 32 := 0#32
  let arg1 : BitVec 32 := BitVec.ofNat 32 (i 1).val
  let v208 : BitVec 32 := Scalar.subi arg1 c0_i32_91
  let v209 : BitVec 32 := Scalar.maxsi c0_i32_92 v208
  let v210 : BitVec 32 := Scalar.minsi c2_i32_93 v209
  let v223 : Index := Scalar.indexCast v210
  let c0_105 : Index := 0#32
  let c0_106 : Index := 0#32
  let c0_107 : Index := 0#32
  ![v223.toNat, 0, 0, 0]
def k0_off290 (i : grid0.Coords) (c0_i32_91 : BitVec 32) : Fin 4 → Nat :=
  let c2_i32_93 : BitVec 32 := 2#32
  let c0_i32_92 : BitVec 32 := 0#32
  let arg1 : BitVec 32 := BitVec.ofNat 32 (i 1).val
  let v208 : BitVec 32 := Scalar.subi arg1 c0_i32_91
  let v209 : BitVec 32 := Scalar.maxsi c0_i32_92 v208
  let v210 : BitVec 32 := Scalar.minsi c2_i32_93 v209
  let v289 : Index := Scalar.indexCast v210
  let c1 : Index := 1#32
  let c0_144 : Index := 0#32
  let c0_145 : Index := 0#32
  ![v289.toNat, 1, 0, 0]
def k0_off291 (i : grid0.Coords) (c0_i32_91 : BitVec 32) : Fin 4 → Nat :=
  let c2_i32_93 : BitVec 32 := 2#32
  let c0_i32_92 : BitVec 32 := 0#32
  let arg1 : BitVec 32 := BitVec.ofNat 32 (i 1).val
  let v208 : BitVec 32 := Scalar.subi arg1 c0_i32_91
  let v209 : BitVec 32 := Scalar.maxsi c0_i32_92 v208
  let v210 : BitVec 32 := Scalar.minsi c2_i32_93 v209
  let v357 : Index := Scalar.indexCast v210
  let c2 : Index := 2#32
  let c0_185 : Index := 0#32
  let c0_186 : Index := 0#32
  ![v357.toNat, 2, 0, 0]
def k0_off292 (i : grid0.Coords) (c0_i32_91 : BitVec 32) : Fin 4 → Nat :=
  let c2_i32_93 : BitVec 32 := 2#32
  let c0_i32_92 : BitVec 32 := 0#32
  let arg1 : BitVec 32 := BitVec.ofNat 32 (i 1).val
  let v208 : BitVec 32 := Scalar.subi arg1 c0_i32_91
  let v209 : BitVec 32 := Scalar.maxsi c0_i32_92 v208
  let v210 : BitVec 32 := Scalar.minsi c2_i32_93 v209
  let v423 : Index := Scalar.indexCast v210
  let c3 : Index := 3#32
  let c0_223 : Index := 0#32
  let c0_224 : Index := 0#32
  ![v423.toNat, 3, 0, 0]
def k0_off293 (i : grid0.Coords) (c0_i32_91 : BitVec 32) : Fin 4 → Nat :=
  let c2_i32_93 : BitVec 32 := 2#32
  let c0_i32_92 : BitVec 32 := 0#32
  let arg1 : BitVec 32 := BitVec.ofNat 32 (i 1).val
  let v208 : BitVec 32 := Scalar.subi arg1 c0_i32_91
  let v209 : BitVec 32 := Scalar.maxsi c0_i32_92 v208
  let v210 : BitVec 32 := Scalar.minsi c2_i32_93 v209
  let v491 : Index := Scalar.indexCast v210
  let c4 : Index := 4#32
  let c0_264 : Index := 0#32
  let c0_265 : Index := 0#32
  ![v491.toNat, 4, 0, 0]
def k0_off294 (i : grid0.Coords) (c0_i32_91 : BitVec 32) : Fin 4 → Nat :=
  let c2_i32_93 : BitVec 32 := 2#32
  let c0_i32_92 : BitVec 32 := 0#32
  let arg1 : BitVec 32 := BitVec.ofNat 32 (i 1).val
  let v208 : BitVec 32 := Scalar.subi arg1 c0_i32_91
  let v209 : BitVec 32 := Scalar.maxsi c0_i32_92 v208
  let v210 : BitVec 32 := Scalar.minsi c2_i32_93 v209
  let v557 : Index := Scalar.indexCast v210
  let c5 : Index := 5#32
  let c0_302 : Index := 0#32
  let c0_303 : Index := 0#32
  ![v557.toNat, 5, 0, 0]
def k0_off295 (i : grid0.Coords) (c0_i32_91 : BitVec 32) : Fin 4 → Nat :=
  let c2_i32_93 : BitVec 32 := 2#32
  let c0_i32_92 : BitVec 32 := 0#32
  let arg1 : BitVec 32 := BitVec.ofNat 32 (i 1).val
  let v208 : BitVec 32 := Scalar.subi arg1 c0_i32_91
  let v209 : BitVec 32 := Scalar.maxsi c0_i32_92 v208
  let v210 : BitVec 32 := Scalar.minsi c2_i32_93 v209
  let v625 : Index := Scalar.indexCast v210
  let c6 : Index := 6#32
  let c0_343 : Index := 0#32
  let c0_344 : Index := 0#32
  ![v625.toNat, 6, 0, 0]
def k0_off296 (i : grid0.Coords) (c0_i32_91 : BitVec 32) : Fin 4 → Nat :=
  let c2_i32_93 : BitVec 32 := 2#32
  let c0_i32_92 : BitVec 32 := 0#32
  let arg1 : BitVec 32 := BitVec.ofNat 32 (i 1).val
  let v208 : BitVec 32 := Scalar.subi arg1 c0_i32_91
  let v209 : BitVec 32 := Scalar.maxsi c0_i32_92 v208
  let v210 : BitVec 32 := Scalar.minsi c2_i32_93 v209
  let v691 : Index := Scalar.indexCast v210
  let c7 : Index := 7#32
  let c0_381 : Index := 0#32
  let c0_382 : Index := 0#32
  ![v691.toNat, 7, 0, 0]
@[reducible] def k0_t7_loop (i : grid0.Coords) : Scf.Loop 32 :=
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_429 : BitVec 32 := 1#32
  ⟨c0_i32_427, v778, c1_i32_429⟩
def k0_mult49 (i : grid0.Coords) (k0_t7 : Fin (k0_t7_loop i).trips) : BitVec 32 :=
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let c1_i32_435 : BitVec 32 := 1#32
  let v785 : BitVec 32 := Scalar.addi v784 c1_i32_435
  let c512_i32_436 : BitVec 32 := 512#32
  let v786 : BitVec 32 := Scalar.muli v785 c512_i32_436
  v786
def k0_off297 (i : grid0.Coords) (k0_t7 : Fin (k0_t7_loop i).trips) (c1_i32_435 : BitVec 32) : Fin 2 → Nat :=
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c512_i32_436 : BitVec 32 := 512#32
  let v786 : BitVec 32 := Scalar.muli v785 c512_i32_436
  let v787 : BitVec 32 := v786
  let v788 : Index := Scalar.indexCast v787
  let c0_437 : Index := 0#32
  ![v788.toNat, 0]
def k0_off298 (i : grid0.Coords) (k0_t7 : Fin (k0_t7_loop i).trips) (c1_i32_435 : BitVec 32) : Fin 3 → Nat :=
  let c0_441 : Index := 0#32
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c512_i32_436 : BitVec 32 := 512#32
  let v786 : BitVec 32 := Scalar.muli v785 c512_i32_436
  let v787 : BitVec 32 := v786
  let v797 : Index := Scalar.indexCast v787
  let c0_442 : Index := 0#32
  ![0, v797.toNat, 0]
def k0_off299 (i : grid0.Coords) (k0_t7 : Fin (k0_t7_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v823 : Index := Scalar.indexCast v804
  let c0_461 : Index := 0#32
  let c0_462 : Index := 0#32
  let c0_463 : Index := 0#32
  ![v823.toNat, 0, 0, 0]
def k0_off300 (i : grid0.Coords) (k0_t7 : Fin (k0_t7_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v889 : Index := Scalar.indexCast v804
  let c1_500 : Index := 1#32
  let c0_501 : Index := 0#32
  let c0_502 : Index := 0#32
  ![v889.toNat, 1, 0, 0]
def k0_off301 (i : grid0.Coords) (k0_t7 : Fin (k0_t7_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v957 : Index := Scalar.indexCast v804
  let c2_542 : Index := 2#32
  let c0_543 : Index := 0#32
  let c0_544 : Index := 0#32
  ![v957.toNat, 2, 0, 0]
def k0_off302 (i : grid0.Coords) (k0_t7 : Fin (k0_t7_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1023 : Index := Scalar.indexCast v804
  let c3_581 : Index := 3#32
  let c0_582 : Index := 0#32
  let c0_583 : Index := 0#32
  ![v1023.toNat, 3, 0, 0]
def k0_off303 (i : grid0.Coords) (k0_t7 : Fin (k0_t7_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1091 : Index := Scalar.indexCast v804
  let c4_623 : Index := 4#32
  let c0_624 : Index := 0#32
  let c0_625 : Index := 0#32
  ![v1091.toNat, 4, 0, 0]
def k0_off304 (i : grid0.Coords) (k0_t7 : Fin (k0_t7_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1157 : Index := Scalar.indexCast v804
  let c5_662 : Index := 5#32
  let c0_663 : Index := 0#32
  let c0_664 : Index := 0#32
  ![v1157.toNat, 5, 0, 0]
def k0_off305 (i : grid0.Coords) (k0_t7 : Fin (k0_t7_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1225 : Index := Scalar.indexCast v804
  let c6_704 : Index := 6#32
  let c0_705 : Index := 0#32
  let c0_706 : Index := 0#32
  ![v1225.toNat, 6, 0, 0]
def k0_off306 (i : grid0.Coords) (k0_t7 : Fin (k0_t7_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1291 : Index := Scalar.indexCast v804
  let c7_743 : Index := 7#32
  let c0_744 : Index := 0#32
  let c0_745 : Index := 0#32
  ![v1291.toNat, 7, 0, 0]
def k0_mult50 (i : grid0.Coords) (k0_t7 : Fin (k0_t7_loop i).trips) : BitVec 32 :=
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let c512_i32_782 : BitVec 32 := 512#32
  let v1356 : BitVec 32 := Scalar.muli v784 c512_i32_782
  v1356
def k0_off307 (i : grid0.Coords) (k0_t7 : Fin (k0_t7_loop i).trips) : Fin 2 → Nat :=
  let c0_783 : Index := 0#32
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let c512_i32_782 : BitVec 32 := 512#32
  let v1356 : BitVec 32 := Scalar.muli v784 c512_i32_782
  let v1357 : BitVec 32 := v1356
  let v1358 : Index := Scalar.indexCast v1357
  ![0, v1358.toNat]
def k0_mult51 (i : grid0.Coords) (k0_t7 : Fin (k0_t7_loop i).trips) : BitVec 32 :=
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let c2_i32_840 : BitVec 32 := 2#32
  let v1432 : BitVec 32 := Scalar.addi v784 c2_i32_840
  let c512_i32_841 : BitVec 32 := 512#32
  let v1433 : BitVec 32 := Scalar.muli v1432 c512_i32_841
  v1433
def k0_mult52 (i : grid0.Coords) (k0_t7 : Fin (k0_t7_loop i).trips) : BitVec 32 :=
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let c1_i32_1188 : BitVec 32 := 1#32
  let v2003 : BitVec 32 := Scalar.addi v784 c1_i32_1188
  let c512_i32_1189 : BitVec 32 := 512#32
  let v2004 : BitVec 32 := Scalar.muli v2003 c512_i32_1189
  v2004
def k0_off308 (i : grid0.Coords) (k0_t7 : Fin (k0_t7_loop i).trips) : Fin 2 → Nat :=
  let c0_1190 : Index := 0#32
  let c2_i32_434 : BitVec 32 := 2#32
  let c0_i32_427 : BitVec 32 := 0#32
  let c1_i32_429 : BitVec 32 := 1#32
  let arg23 : BitVec 32 := Scf.iv c0_i32_427 c1_i32_429 k0_t7
  let v784 : BitVec 32 := Scalar.muli c2_i32_434 arg23
  let c1_i32_1188 : BitVec 32 := 1#32
  let v2003 : BitVec 32 := Scalar.addi v784 c1_i32_1188
  let c512_i32_1189 : BitVec 32 := 512#32
  let v2004 : BitVec 32 := Scalar.muli v2003 c512_i32_1189
  let v2005 : BitVec 32 := v2004
  let v2006 : Index := Scalar.indexCast v2005
  ![0, v2006.toNat]
@[reducible] def k0_t8_loop (i : grid0.Coords) : Scf.Loop 32 :=
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let v775 : BitVec 32 := Scalar.addi c0_i32_427 v774
  let c1_i32_430 : BitVec 32 := 1#32
  ⟨v778, v775, c1_i32_430⟩
def k0_mult53 (i : grid0.Coords) (k0_t8 : Fin (k0_t8_loop i).trips) : BitVec 32 :=
  let c2_i32_434 : BitVec 32 := 2#32
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let c1_i32_435 : BitVec 32 := 1#32
  let v785 : BitVec 32 := Scalar.addi v784 c1_i32_435
  let c512_i32_436 : BitVec 32 := 512#32
  let v786 : BitVec 32 := Scalar.muli v785 c512_i32_436
  v786
def k0_off309 (i : grid0.Coords) (k0_t8 : Fin (k0_t8_loop i).trips) (c1_i32_435 : BitVec 32) : Fin 2 → Nat :=
  let c2_i32_434 : BitVec 32 := 2#32
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c512_i32_436 : BitVec 32 := 512#32
  let v786 : BitVec 32 := Scalar.muli v785 c512_i32_436
  let v787 : BitVec 32 := v786
  let v788 : Index := Scalar.indexCast v787
  let c0_437 : Index := 0#32
  ![v788.toNat, 0]
def k0_off310 (i : grid0.Coords) (k0_t8 : Fin (k0_t8_loop i).trips) (c1_i32_435 : BitVec 32) : Fin 3 → Nat :=
  let c0_441 : Index := 0#32
  let c2_i32_434 : BitVec 32 := 2#32
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c512_i32_436 : BitVec 32 := 512#32
  let v786 : BitVec 32 := Scalar.muli v785 c512_i32_436
  let v787 : BitVec 32 := v786
  let v797 : Index := Scalar.indexCast v787
  let c0_442 : Index := 0#32
  ![0, v797.toNat, 0]
def k0_off311 (i : grid0.Coords) (k0_t8 : Fin (k0_t8_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v823 : Index := Scalar.indexCast v804
  let c0_461 : Index := 0#32
  let c0_462 : Index := 0#32
  let c0_463 : Index := 0#32
  ![v823.toNat, 0, 0, 0]
def k0_off312 (i : grid0.Coords) (k0_t8 : Fin (k0_t8_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v889 : Index := Scalar.indexCast v804
  let c1_500 : Index := 1#32
  let c0_501 : Index := 0#32
  let c0_502 : Index := 0#32
  ![v889.toNat, 1, 0, 0]
def k0_off313 (i : grid0.Coords) (k0_t8 : Fin (k0_t8_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v957 : Index := Scalar.indexCast v804
  let c2_542 : Index := 2#32
  let c0_543 : Index := 0#32
  let c0_544 : Index := 0#32
  ![v957.toNat, 2, 0, 0]
def k0_off314 (i : grid0.Coords) (k0_t8 : Fin (k0_t8_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1023 : Index := Scalar.indexCast v804
  let c3_581 : Index := 3#32
  let c0_582 : Index := 0#32
  let c0_583 : Index := 0#32
  ![v1023.toNat, 3, 0, 0]
def k0_off315 (i : grid0.Coords) (k0_t8 : Fin (k0_t8_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1091 : Index := Scalar.indexCast v804
  let c4_623 : Index := 4#32
  let c0_624 : Index := 0#32
  let c0_625 : Index := 0#32
  ![v1091.toNat, 4, 0, 0]
def k0_off316 (i : grid0.Coords) (k0_t8 : Fin (k0_t8_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1157 : Index := Scalar.indexCast v804
  let c5_662 : Index := 5#32
  let c0_663 : Index := 0#32
  let c0_664 : Index := 0#32
  ![v1157.toNat, 5, 0, 0]
def k0_off317 (i : grid0.Coords) (k0_t8 : Fin (k0_t8_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1225 : Index := Scalar.indexCast v804
  let c6_704 : Index := 6#32
  let c0_705 : Index := 0#32
  let c0_706 : Index := 0#32
  ![v1225.toNat, 6, 0, 0]
def k0_off318 (i : grid0.Coords) (k0_t8 : Fin (k0_t8_loop i).trips) (c1_i32_435 : BitVec 32) (c0_i32_443 : BitVec 32) : Fin 4 → Nat :=
  let c2_i32_445 : BitVec 32 := 2#32
  let c0_i32_444 : BitVec 32 := 0#32
  let arg1 : BitVec 32 := BitVec.ofNat 32 (i 1).val
  let c2_i32_434 : BitVec 32 := 2#32
  let c0_i32_427 : BitVec 32 := 0#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let v785 : BitVec 32 := Scalar.addi v784 c1_i32_435
  let c4_i32 : BitVec 32 := 4#32
  let v800 : BitVec 32 := Scalar.muli v785 c4_i32
  let v801 : BitVec 32 := Scalar.addi v800 c0_i32_443
  let v802 : BitVec 32 := Scalar.subi arg1 v801
  let v803 : BitVec 32 := Scalar.maxsi c0_i32_444 v802
  let v804 : BitVec 32 := Scalar.minsi c2_i32_445 v803
  let v1291 : Index := Scalar.indexCast v804
  let c7_743 : Index := 7#32
  let c0_744 : Index := 0#32
  let c0_745 : Index := 0#32
  ![v1291.toNat, 7, 0, 0]
def k0_mult54 (i : grid0.Coords) (k0_t8 : Fin (k0_t8_loop i).trips) : BitVec 32 :=
  let c2_i32_434 : BitVec 32 := 2#32
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let c512_i32_782 : BitVec 32 := 512#32
  let v1356 : BitVec 32 := Scalar.muli v784 c512_i32_782
  v1356
def k0_off319 (i : grid0.Coords) (k0_t8 : Fin (k0_t8_loop i).trips) : Fin 2 → Nat :=
  let c0_783 : Index := 0#32
  let c2_i32_434 : BitVec 32 := 2#32
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let c512_i32_782 : BitVec 32 := 512#32
  let v1356 : BitVec 32 := Scalar.muli v784 c512_i32_782
  let v1357 : BitVec 32 := v1356
  let v1358 : Index := Scalar.indexCast v1357
  ![0, v1358.toNat]
def k0_mult55 (i : grid0.Coords) (k0_t8 : Fin (k0_t8_loop i).trips) : BitVec 32 :=
  let c2_i32_434 : BitVec 32 := 2#32
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let c2_i32_840 : BitVec 32 := 2#32
  let v1432 : BitVec 32 := Scalar.addi v784 c2_i32_840
  let c512_i32_841 : BitVec 32 := 512#32
  let v1433 : BitVec 32 := Scalar.muli v1432 c512_i32_841
  v1433
def k0_mult56 (i : grid0.Coords) (k0_t8 : Fin (k0_t8_loop i).trips) : BitVec 32 :=
  let c2_i32_434 : BitVec 32 := 2#32
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let c1_i32_1188 : BitVec 32 := 1#32
  let v2003 : BitVec 32 := Scalar.addi v784 c1_i32_1188
  let c512_i32_1189 : BitVec 32 := 512#32
  let v2004 : BitVec 32 := Scalar.muli v2003 c512_i32_1189
  v2004
def k0_off320 (i : grid0.Coords) (k0_t8 : Fin (k0_t8_loop i).trips) : Fin 2 → Nat :=
  let c0_1190 : Index := 0#32
  let c2_i32_434 : BitVec 32 := 2#32
  let c0_i32_427 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v774 : BitVec 32 := Scalar.subi v773 c0_i32_427
  let c1_i32_428 : BitVec 32 := 1#32
  let v776 : BitVec 32 := Scalar.divsi v774 c1_i32_428
  let v777 : BitVec 32 := Scalar.muli v776 c1_i32_428
  let v778 : BitVec 32 := Scalar.addi c0_i32_427 v777
  let c1_i32_430 : BitVec 32 := 1#32
  let arg23 : BitVec 32 := Scf.iv v778 c1_i32_430 k0_t8
  let v784 : BitVec 32 := Scalar.muli c2_i32_434 arg23
  let c1_i32_1188 : BitVec 32 := 1#32
  let v2003 : BitVec 32 := Scalar.addi v784 c1_i32_1188
  let c512_i32_1189 : BitVec 32 := 512#32
  let v2004 : BitVec 32 := Scalar.muli v2003 c512_i32_1189
  let v2005 : BitVec 32 := v2004
  let v2006 : Index := Scalar.indexCast v2005
  ![0, v2006.toNat]
def k0_cond5 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c2_i32_431 : BitVec 32 := 2#32
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let v780 : BitVec 32 := Scalar.subi v20 v779
  let c2_i32_432 : BitVec 32 := 2#32
  let v781 : BitVec 1 := Scalar.cmpi .eq v780 c2_i32_432
  let v782 : BitVec 32 := Scalar.extui v781
  let c0_i32_433 : BitVec 32 := 0#32
  let v783 : BitVec 1 := Scalar.cmpi .ne v782 c0_i32_433
  v783

def k0_mult57 (i : grid0.Coords) : BitVec 32 :=
  let c2_i32_431 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c512_i32_435 : BitVec 32 := 512#32
  let v785 : BitVec 32 := Scalar.muli v784 c512_i32_435
  v785
def k0_off321 (i : grid0.Coords) : Fin 2 → Nat :=
  let c2_i32_431 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c512_i32_435 : BitVec 32 := 512#32
  let v785 : BitVec 32 := Scalar.muli v784 c512_i32_435
  let v786 : BitVec 32 := v785
  let v787 : Index := Scalar.indexCast v786
  let c0_436 : Index := 0#32
  ![v787.toNat, 0]
def k0_off322 (i : grid0.Coords) : Fin 3 → Nat :=
  let c0_440 : Index := 0#32
  let c2_i32_431 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c512_i32_435 : BitVec 32 := 512#32
  let v785 : BitVec 32 := Scalar.muli v784 c512_i32_435
  let v786 : BitVec 32 := v785
  let v796 : Index := Scalar.indexCast v786
  let c0_441 : Index := 0#32
  ![0, v796.toNat, 0]
def k0_off323 (i : grid0.Coords) (c0_i32_442 : BitVec 32) : Fin 4 → Nat :=
  let c2_i32_444 : BitVec 32 := 2#32
  let c0_i32_443 : BitVec 32 := 0#32
  let arg1 : BitVec 32 := BitVec.ofNat 32 (i 1).val
  let c2_i32_431 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c4_i32 : BitVec 32 := 4#32
  let v799 : BitVec 32 := Scalar.muli v784 c4_i32
  let v800 : BitVec 32 := Scalar.addi v799 c0_i32_442
  let v801 : BitVec 32 := Scalar.subi arg1 v800
  let v802 : BitVec 32 := Scalar.maxsi c0_i32_443 v801
  let v803 : BitVec 32 := Scalar.minsi c2_i32_444 v802
  let v822 : Index := Scalar.indexCast v803
  let c0_460 : Index := 0#32
  let c0_461 : Index := 0#32
  let c0_462 : Index := 0#32
  ![v822.toNat, 0, 0, 0]
def k0_off324 (i : grid0.Coords) (c0_i32_442 : BitVec 32) : Fin 4 → Nat :=
  let c2_i32_444 : BitVec 32 := 2#32
  let c0_i32_443 : BitVec 32 := 0#32
  let arg1 : BitVec 32 := BitVec.ofNat 32 (i 1).val
  let c2_i32_431 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c4_i32 : BitVec 32 := 4#32
  let v799 : BitVec 32 := Scalar.muli v784 c4_i32
  let v800 : BitVec 32 := Scalar.addi v799 c0_i32_442
  let v801 : BitVec 32 := Scalar.subi arg1 v800
  let v802 : BitVec 32 := Scalar.maxsi c0_i32_443 v801
  let v803 : BitVec 32 := Scalar.minsi c2_i32_444 v802
  let v888 : Index := Scalar.indexCast v803
  let c1_499 : Index := 1#32
  let c0_500 : Index := 0#32
  let c0_501 : Index := 0#32
  ![v888.toNat, 1, 0, 0]
def k0_off325 (i : grid0.Coords) (c0_i32_442 : BitVec 32) : Fin 4 → Nat :=
  let c2_i32_444 : BitVec 32 := 2#32
  let c0_i32_443 : BitVec 32 := 0#32
  let arg1 : BitVec 32 := BitVec.ofNat 32 (i 1).val
  let c2_i32_431 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c4_i32 : BitVec 32 := 4#32
  let v799 : BitVec 32 := Scalar.muli v784 c4_i32
  let v800 : BitVec 32 := Scalar.addi v799 c0_i32_442
  let v801 : BitVec 32 := Scalar.subi arg1 v800
  let v802 : BitVec 32 := Scalar.maxsi c0_i32_443 v801
  let v803 : BitVec 32 := Scalar.minsi c2_i32_444 v802
  let v956 : Index := Scalar.indexCast v803
  let c2_541 : Index := 2#32
  let c0_542 : Index := 0#32
  let c0_543 : Index := 0#32
  ![v956.toNat, 2, 0, 0]
def k0_off326 (i : grid0.Coords) (c0_i32_442 : BitVec 32) : Fin 4 → Nat :=
  let c2_i32_444 : BitVec 32 := 2#32
  let c0_i32_443 : BitVec 32 := 0#32
  let arg1 : BitVec 32 := BitVec.ofNat 32 (i 1).val
  let c2_i32_431 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c4_i32 : BitVec 32 := 4#32
  let v799 : BitVec 32 := Scalar.muli v784 c4_i32
  let v800 : BitVec 32 := Scalar.addi v799 c0_i32_442
  let v801 : BitVec 32 := Scalar.subi arg1 v800
  let v802 : BitVec 32 := Scalar.maxsi c0_i32_443 v801
  let v803 : BitVec 32 := Scalar.minsi c2_i32_444 v802
  let v1022 : Index := Scalar.indexCast v803
  let c3_580 : Index := 3#32
  let c0_581 : Index := 0#32
  let c0_582 : Index := 0#32
  ![v1022.toNat, 3, 0, 0]
def k0_off327 (i : grid0.Coords) (c0_i32_442 : BitVec 32) : Fin 4 → Nat :=
  let c2_i32_444 : BitVec 32 := 2#32
  let c0_i32_443 : BitVec 32 := 0#32
  let arg1 : BitVec 32 := BitVec.ofNat 32 (i 1).val
  let c2_i32_431 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c4_i32 : BitVec 32 := 4#32
  let v799 : BitVec 32 := Scalar.muli v784 c4_i32
  let v800 : BitVec 32 := Scalar.addi v799 c0_i32_442
  let v801 : BitVec 32 := Scalar.subi arg1 v800
  let v802 : BitVec 32 := Scalar.maxsi c0_i32_443 v801
  let v803 : BitVec 32 := Scalar.minsi c2_i32_444 v802
  let v1090 : Index := Scalar.indexCast v803
  let c4_622 : Index := 4#32
  let c0_623 : Index := 0#32
  let c0_624 : Index := 0#32
  ![v1090.toNat, 4, 0, 0]
def k0_off328 (i : grid0.Coords) (c0_i32_442 : BitVec 32) : Fin 4 → Nat :=
  let c2_i32_444 : BitVec 32 := 2#32
  let c0_i32_443 : BitVec 32 := 0#32
  let arg1 : BitVec 32 := BitVec.ofNat 32 (i 1).val
  let c2_i32_431 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c4_i32 : BitVec 32 := 4#32
  let v799 : BitVec 32 := Scalar.muli v784 c4_i32
  let v800 : BitVec 32 := Scalar.addi v799 c0_i32_442
  let v801 : BitVec 32 := Scalar.subi arg1 v800
  let v802 : BitVec 32 := Scalar.maxsi c0_i32_443 v801
  let v803 : BitVec 32 := Scalar.minsi c2_i32_444 v802
  let v1156 : Index := Scalar.indexCast v803
  let c5_661 : Index := 5#32
  let c0_662 : Index := 0#32
  let c0_663 : Index := 0#32
  ![v1156.toNat, 5, 0, 0]
def k0_off329 (i : grid0.Coords) (c0_i32_442 : BitVec 32) : Fin 4 → Nat :=
  let c2_i32_444 : BitVec 32 := 2#32
  let c0_i32_443 : BitVec 32 := 0#32
  let arg1 : BitVec 32 := BitVec.ofNat 32 (i 1).val
  let c2_i32_431 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c4_i32 : BitVec 32 := 4#32
  let v799 : BitVec 32 := Scalar.muli v784 c4_i32
  let v800 : BitVec 32 := Scalar.addi v799 c0_i32_442
  let v801 : BitVec 32 := Scalar.subi arg1 v800
  let v802 : BitVec 32 := Scalar.maxsi c0_i32_443 v801
  let v803 : BitVec 32 := Scalar.minsi c2_i32_444 v802
  let v1224 : Index := Scalar.indexCast v803
  let c6_703 : Index := 6#32
  let c0_704 : Index := 0#32
  let c0_705 : Index := 0#32
  ![v1224.toNat, 6, 0, 0]
def k0_off330 (i : grid0.Coords) (c0_i32_442 : BitVec 32) : Fin 4 → Nat :=
  let c2_i32_444 : BitVec 32 := 2#32
  let c0_i32_443 : BitVec 32 := 0#32
  let arg1 : BitVec 32 := BitVec.ofNat 32 (i 1).val
  let c2_i32_431 : BitVec 32 := 2#32
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_434 : BitVec 32 := 1#32
  let v784 : BitVec 32 := Scalar.addi v779 c1_i32_434
  let c4_i32 : BitVec 32 := 4#32
  let v799 : BitVec 32 := Scalar.muli v784 c4_i32
  let v800 : BitVec 32 := Scalar.addi v799 c0_i32_442
  let v801 : BitVec 32 := Scalar.subi arg1 v800
  let v802 : BitVec 32 := Scalar.maxsi c0_i32_443 v801
  let v803 : BitVec 32 := Scalar.minsi c2_i32_444 v802
  let v1290 : Index := Scalar.indexCast v803
  let c7_742 : Index := 7#32
  let c0_743 : Index := 0#32
  let c0_744 : Index := 0#32
  ![v1290.toNat, 7, 0, 0]
def k0_mult58 (i : grid0.Coords) : BitVec 32 :=
  let c2_i32_431 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c512_i32_781 : BitVec 32 := 512#32
  let v1355 : BitVec 32 := Scalar.muli v779 c512_i32_781
  v1355
def k0_off331 (i : grid0.Coords) : Fin 2 → Nat :=
  let c0_782 : Index := 0#32
  let c2_i32_431 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c512_i32_781 : BitVec 32 := 512#32
  let v1355 : BitVec 32 := Scalar.muli v779 c512_i32_781
  let v1356 : BitVec 32 := v1355
  let v1357 : Index := Scalar.indexCast v1356
  ![0, v1357.toNat]
def k0_mult59 (i : grid0.Coords) : BitVec 32 :=
  let c2_i32_431 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_839 : BitVec 32 := 1#32
  let v1431 : BitVec 32 := Scalar.addi v779 c1_i32_839
  let c512_i32_840 : BitVec 32 := 512#32
  let v1432 : BitVec 32 := Scalar.muli v1431 c512_i32_840
  v1432
def k0_off332 (i : grid0.Coords) : Fin 2 → Nat :=
  let c0_841 : Index := 0#32
  let c2_i32_431 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c1_i32_839 : BitVec 32 := 1#32
  let v1431 : BitVec 32 := Scalar.addi v779 c1_i32_839
  let c512_i32_840 : BitVec 32 := 512#32
  let v1432 : BitVec 32 := Scalar.muli v1431 c512_i32_840
  let v1433 : BitVec 32 := v1432
  let v1434 : Index := Scalar.indexCast v1433
  ![0, v1434.toNat]
def k0_mult60 (i : grid0.Coords) : BitVec 32 :=
  let c2_i32_431 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c512_i32_434 : BitVec 32 := 512#32
  let v784 : BitVec 32 := Scalar.muli v779 c512_i32_434
  v784
def k0_off333 (i : grid0.Coords) : Fin 2 → Nat :=
  let c0_435 : Index := 0#32
  let c2_i32_431 : BitVec 32 := 2#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_419 : BitVec 32 := 1#32
  let v756 : BitVec 32 := Scalar.subi v20 c1_i32_419
  let c0_i32_421 : BitVec 32 := 0#32
  let v758 : BitVec 1 := Scalar.cmpi .sgt v756 c0_i32_421
  let v759 : BitVec 32 := Scalar.extui v758
  let c0_i32_422 : BitVec 32 := 0#32
  let v760 : BitVec 1 := Scalar.cmpi .slt v756 c0_i32_422
  let v761 : BitVec 32 := Scalar.extui v760
  let v762 : BitVec 32 := Scalar.subi v759 v761
  let c2_i32_420 : BitVec 32 := 2#32
  let c0_i32_423 : BitVec 32 := 0#32
  let v763 : BitVec 1 := Scalar.cmpi .sgt c2_i32_420 c0_i32_423
  let v764 : BitVec 32 := Scalar.extui v763
  let c0_i32_424 : BitVec 32 := 0#32
  let v765 : BitVec 1 := Scalar.cmpi .slt c2_i32_420 c0_i32_424
  let v766 : BitVec 32 := Scalar.extui v765
  let v767 : BitVec 32 := Scalar.subi v764 v766
  let v768 : BitVec 1 := Scalar.cmpi .ne v762 v767
  let v769 : BitVec 32 := Scalar.remsi v756 c2_i32_420
  let c0_i32_425 : BitVec 32 := 0#32
  let v770 : BitVec 1 := Scalar.cmpi .ne v769 c0_i32_425
  let v771 : BitVec 1 := Scalar.andi v768 v770
  let v757 : BitVec 32 := Scalar.divsi v756 c2_i32_420
  let c1_i32_426 : BitVec 32 := 1#32
  let v772 : BitVec 32 := Scalar.subi v757 c1_i32_426
  let v773 : BitVec 32 := Scalar.select v771 v772 v757
  let v779 : BitVec 32 := Scalar.muli c2_i32_431 v773
  let c512_i32_434 : BitVec 32 := 512#32
  let v784 : BitVec 32 := Scalar.muli v779 c512_i32_434
  let v785 : BitVec 32 := v784
  let v786 : Index := Scalar.indexCast v785
  ![0, v786.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S144x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x128x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S32x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel2.lean ====
abbrev S8x4096x1024 : Shape := ⟨3, ![8, 4096, 1024]⟩
abbrev S1024x5632 : Shape := ⟨2, ![1024, 5632]⟩
abbrev S2816x1024 : Shape := ⟨2, ![2816, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S1024x5632 : Shape := ⟨2, ![1024, 5632]⟩
abbrev S2816x1024 : Shape := ⟨2, ![2816, 1024]⟩
abbrev S1024 : Shape := ⟨1, ![1024]⟩
abbrev S8x4096x5632 : Shape := ⟨3, ![8, 4096, 5632]⟩
abbrev S8x4096x2816 : Shape := ⟨3, ![8, 4096, 2816]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S8x4096x5632, .f32⟩
  | .hbm, ⟨6, _⟩ => ⟨S8x4096x2816, .f32⟩
  | .hbm, ⟨7, _⟩ => ⟨S8x4096x2816, .f32⟩
  | .hbm, ⟨8, _⟩ => ⟨S_, .f32⟩
  | .hbm, ⟨9, _⟩ => ⟨S8x4096x1024, .f32⟩
  | .hbm, ⟨10, _⟩ => ⟨S8x4096x1024, .f32⟩
  | .hbm, ⟨11, _⟩ => ⟨S8x4096x2816, .f32⟩
  | .hbm, ⟨12, _⟩ => ⟨S8x4096x2816, .f32⟩
  | .hbm, ⟨13, _⟩ => ⟨S_, .f32⟩
  | .hbm, ⟨14, _⟩ => ⟨S8x4096x2816, .f32⟩
  | .hbm, ⟨15, _⟩ => ⟨S8x4096x2816, .f32⟩
  | .hbm, ⟨16, _⟩ => ⟨S_, .f32⟩
  | .hbm, ⟨17, _⟩ => ⟨S8x4096x2816, .f32⟩
  | .hbm, ⟨18, _⟩ => ⟨S8x4096x2816, .f32⟩
  | .hbm, ⟨19, _⟩ => ⟨S8x4096x2816, .f32⟩
  | .hbm, ⟨20, _⟩ => ⟨S8x4096x2816, .f32⟩
  | .hbm, ⟨21, _⟩ => ⟨S8x4096x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S1024x7368 : Shape := ⟨2, ![1024, 7368]⟩
abbrev S3x1024 : Shape := ⟨2, ![3, 1024]⟩
abbrev S3x512 : Shape := ⟨2, ![3, 512]⟩
abbrev S3x512x1024 : Shape := ⟨3, ![3, 512, 1024]⟩
abbrev S1024x1024 : Shape := ⟨2, ![1024, 1024]⟩
abbrev S1024 : Shape := ⟨1, ![1024]⟩
abbrev S32768x1024 : Shape := ⟨2, ![32768, 1024]⟩
abbrev S32768x512 : Shape := ⟨2, ![32768, 512]⟩
abbrev S1024x4608 : Shape := ⟨2, ![1024, 4608]⟩
abbrev S1x1024 : Shape := ⟨2, ![1, 1024]⟩
abbrev S512x1024 : Shape := ⟨2, ![512, 1024]⟩
abbrev S512x512 : Shape := ⟨2, ![512, 512]⟩
abbrev S8x512 : Shape := ⟨2, ![8, 512]⟩
abbrev S1024x512 : Shape := ⟨2, ![1024, 512]⟩
abbrev S1x512 : Shape := ⟨2, ![1, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 20
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S1024x7368, .f32⟩
  | .hbm, ⟨4, _⟩ => ⟨S3x1024, .f32⟩
  | .hbm, ⟨5, _⟩ => ⟨S3x512, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S32768x1024, .f32⟩
  | .hbm, ⟨11, _⟩ => ⟨S32768x512, .bf16⟩
  | .hbm, ⟨12, _⟩ => ⟨S32768x512, .bf16⟩
  | .hbm, ⟨13, _⟩ => ⟨S1024x4608, .f32⟩
  | .hbm, ⟨14, _⟩ => ⟨S1024x4608, .bf16⟩
  | .hbm, ⟨15, _⟩ => ⟨S3x512x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x4608, .bf16⟩
  | .local _ .vmem, ⟨7, _⟩ => ⟨S3x512, .f32⟩
  | .local _ .vmem, ⟨8, _⟩ => ⟨S3x1024, .f32⟩
  | .local _ .vmem, ⟨9, _⟩ => ⟨S3x512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x4096x1024 : Shape := ⟨3, ![8, 4096, 1024]⟩
abbrev S8x4096x512 : Shape := ⟨3, ![8, 4096, 512]⟩
abbrev S1024x7368 : Shape := ⟨2, ![1024, 7368]⟩
abbrev S3x1024 : Shape := ⟨2, ![3, 1024]⟩
abbrev S3x512 : Shape := ⟨2, ![3, 512]⟩
abbrev S3x512x1024 : Shape := ⟨3, ![3, 512, 1024]⟩
abbrev S1024x1024 : Shape := ⟨2, ![1024, 1024]⟩
abbrev S1024 : Shape := ⟨1, ![1024]⟩
abbrev S1024x4608 : Shape := ⟨2, ![1024, 4608]⟩
abbrev S8x4096x4608 : Shape := ⟨3, ![8, 4096, 4608]⟩
abbrev S_ : Shape := ⟨0, ![]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S1x1024 : Shape := ⟨2, ![1, 1024]⟩
abbrev S1x1x1024 : Shape := ⟨3, ![1, 1, 1024]⟩
abbrev S1x512x1024 : Shape := ⟨3, ![1, 512, 1024]⟩
abbrev S512x1024 : Shape := ⟨2, ![512, 1024]⟩
abbrev S8x4096 : Shape := ⟨2, ![8, 4096]⟩
abbrev S8x4096x1 : Shape := ⟨3, ![8, 4096, 1]⟩
abbrev S32768x1024 : Shape := ⟨2, ![32768, 1024]⟩

abbrev nBuf : Space → Nat
  | .hbm => 133
  | .vmem => 0
  | .smem => 0
  | _ => 0

abbrev hbmTy0_0 (i : Nat) : BufTy := match i % 128 with
  | 0 => ⟨S8x4096x1024, .f32⟩
  | 1 => ⟨S8x4096x512, .bf16⟩
  | 2 => ⟨S8x4096x512, .bf16⟩
  | 3 => ⟨S1024x7368, .f32⟩
  | 4 => ⟨S3x1024, .f32⟩
  | 5 => ⟨S3x512, .f32⟩
  | 6 => ⟨S3x512x1024, .f32⟩
  | 7 => ⟨S1024x1024, .f32⟩
  | 8 => ⟨S1024, .f32⟩
  | 9 => ⟨S1024, .f32⟩
  | 10 => ⟨S1024x4608, .f32⟩
  | 11 => ⟨S8x4096x4608, .f32⟩
  | 12 => ⟨S8x4096x512, .f32⟩
  | 13 => ⟨S8x4096x512, .f32⟩
  | 14 => ⟨S8x4096x512, .f32⟩
  | 15 => ⟨S8x4096x1024, .f32⟩
  | 16 => ⟨S8x4096x1024, .f32⟩
  | 17 => ⟨S8x4096x1024, .f32⟩
  | 18 => ⟨S8x4096x512, .f32⟩
  | 19 => ⟨S_, .i32⟩
  | 20 => ⟨S_, .f32⟩
  | 21 => ⟨S8x4098x512, .f32⟩
  | 22 => ⟨S1x512, .f32⟩
  | 23 => ⟨S512, .f32⟩
  | 24 => ⟨S8x4096x512, .f32⟩
  | 25 => ⟨S1x1x512, .f32⟩
  | 26 => ⟨S8x4096x512, .f32⟩
  | 27 => ⟨S8x4096x512, .f32⟩
  | 28 => ⟨S1x512, .f32⟩
  | 29 => ⟨S512, .f32⟩
  | 30 => ⟨S8x4096x512, .f32⟩
  | 31 => ⟨S1x1x512, .f32⟩
  | 32 => ⟨S8x4096x512, .f32⟩
  | 33 => ⟨S8x4096x512, .f32⟩
  | 34 => ⟨S8x4096x512, .f32⟩
  | 35 => ⟨S1x512, .f32⟩
  | 36 => ⟨S512, .f32⟩
  | 37 => ⟨S8x4096x512, .f32⟩
  | 38 => ⟨S1x1x512, .f32⟩
  | 39 => ⟨S8x4096x512, .f32⟩
  | 40 => ⟨S8x4096x512, .f32⟩
  | 41 => ⟨S8x4096x512, .f32⟩
  | 42 => ⟨S8x4096x512, .f32⟩
  | 43 => ⟨S1x1024, .f32⟩
  | 44 => ⟨S1024, .f32⟩
  | 45 => ⟨S1x1x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S_, .f32⟩
  | 51 => ⟨S8x4096x1024, .f32⟩
  | 52 => ⟨S8x4096x1024, .f32⟩
  | 53 => ⟨S_, .f32⟩
  | 54 => ⟨S8x4096x1024, .f32⟩
  | 55 => ⟨S8x4096x1024, .f32⟩
  | 56 => ⟨S8x4096x512, .f32⟩
  | 57 => ⟨S1x512x1024, .f32⟩
  | 58 => ⟨S512x1024, .f32⟩
  | 59 => ⟨S8x4096x1024, .f32⟩
  | 60 => ⟨S8x4096x1024, .f32⟩
  | 61 => ⟨S1x1024, .f32⟩
  | 62 => ⟨S1024, .f32⟩
  | 63 => ⟨S1x1x1024, .f32⟩
  | 64 => ⟨S8x4096x1024, .f32⟩
  | 65 => ⟨S8x4096x1024, .f32⟩
  | 66 => ⟨S8x4096x1024, .f32⟩
  | 67 => ⟨S8x4096x1024, .f32⟩
  | 68 => ⟨S_, .f32⟩
  | 69 => ⟨S8x4096x1024, .f32⟩
  | 70 => ⟨S8x4096x1024, .f32⟩
  | 71 => ⟨S_, .f32⟩
  | 72 => ⟨S8x4096x1024, .f32⟩
  | 73 => ⟨S8x4096x1024, .f32⟩
  | 74 => ⟨S8x4096x512, .f32⟩
  | 75 => ⟨S1x512x1024, .f32⟩
  | 76 => ⟨S512x1024, .f32⟩
  | 77 => ⟨S8x4096x1024, .f32⟩
  | 78 => ⟨S8x4096x1024, .f32⟩
  | 79 => ⟨S8x4096x1024, .f32⟩
  | 80 => ⟨S1x1024, .f32⟩
  | 81 => ⟨S1024, .f32⟩
  | 82 => ⟨S1x1x1024, .f32⟩
  | 83 => ⟨S8x4096x1024, .f32⟩
  | 84 => ⟨S8x4096x1024, .f32⟩
  | 85 => ⟨S8x4096x1024, .f32⟩
  | 86 => ⟨S8x4096x1024, .f32⟩
  | 87 => ⟨S_, .f32⟩
  | 88 => ⟨S8x4096x1024, .f32⟩
  | 89 => ⟨S8x4096x1024, .f32⟩
  | 90 => ⟨S_, .f32⟩
  | 91 => ⟨S8x4096x1024, .f32⟩
  | 92 => ⟨S8x4096x1024, .f32⟩
  | 93 => ⟨S1x512x1024, .f32⟩
  | 94 => ⟨S512x1024, .f32⟩
  | 95 => ⟨S8x4096x1024, .f32⟩
  | 96 => ⟨S8x4096x1024, .f32⟩
  | 97 => ⟨S8x4096x1024, .f32⟩
  | 98 => ⟨S_, .f32⟩
  | 99 => ⟨S8x4096x1024, .f32⟩
  | 100 => ⟨S8x4096x1024, .f32⟩
  | 101 => ⟨S8x4096x1024, .f32⟩
  | 102 => ⟨S8x4096x1024, .f32⟩
  | 103 => ⟨S_, .f32⟩
  | 104 => ⟨S8x4096, .f32⟩
  | 105 => ⟨S8x4096x1, .f32⟩
  | 106 => ⟨S_, .f32⟩
  | 107 => ⟨S8x4096x1, .f32⟩
  | 108 => ⟨S8x4096x1, .f32⟩
  | 109 => ⟨S8x4096x1024, .f32⟩
  | 110 => ⟨S8x4096x1024, .f32⟩
  | 111 => ⟨S8x4096x1024, .f32⟩
  | 112 => ⟨S_, .f32⟩
  | 113 => ⟨S8x4096, .f32⟩
  | 114 => ⟨S8x4096x1, .f32⟩
  | 115 => ⟨S_, .f32⟩
  | 116 => ⟨S8x4096x1, .f32⟩
  | 117 => ⟨S8x4096x1, .f32⟩
  | 118 => ⟨S8x4096x1024, .f32⟩
  | 119 => ⟨S8x4096x1024, .f32⟩
  | 120 => ⟨S_, .f32⟩
  | 121 => ⟨S8x4096x1, .f32⟩
  | 122 => ⟨S8x4096x1, .f32⟩
  | 123 => ⟨S8x4096x1, .f32⟩
  | 124 => ⟨S8x4096x1024, .f32⟩
  | 125 => ⟨S8x4096x1024, .f32⟩
  | 126 => ⟨S1x1x1024, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S1x1x1024, .f32⟩
  | 2 => ⟨S8x4096x1024, .f32⟩
  | 3 => ⟨S8x4096x1024, .f32⟩
  | 4 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst : Ref sig .tc := ⟨.hbm, 50, rfl⟩
abbrev main_v38 : Ref sig .tc := ⟨.hbm, 51, rfl⟩
abbrev main_v39 : Ref sig .tc := ⟨.hbm, 52, rfl⟩
abbrev main_cst_0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_1 : Ref sig .tc := ⟨.hbm, 68, rfl⟩
abbrev main_v54 : Ref sig .tc := ⟨.hbm, 69, rfl⟩
abbrev main_v55 : Ref sig .tc := ⟨.hbm, 70, rfl⟩
abbrev main_cst_2 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_3 : Ref sig .tc := ⟨.hbm, 87, rfl⟩
abbrev main_v71 : Ref sig .tc := ⟨.hbm, 88, rfl⟩
abbrev main_v72 : Ref sig .tc := ⟨.hbm, 89, rfl⟩
abbrev main_cst_4 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_5 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_6 : Ref sig .tc := ⟨.hbm, 103, rfl⟩
abbrev main_v84 : Ref sig .tc := ⟨.hbm, 104, rfl⟩
abbrev main_v85 : Ref sig .tc := ⟨.hbm, 105, rfl⟩
abbrev main_cst_7 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_8 : Ref sig .tc := ⟨.hbm, 112, rfl⟩
abbrev main_v91 : Ref sig .tc := ⟨.hbm, 113, rfl⟩
abbrev main_v92 : Ref sig .tc := ⟨.hbm, 114, rfl⟩
abbrev main_cst_9 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_10 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x256x512 : Shape := ⟨3, ![8, 256, 512]⟩
abbrev S1024x512 : Shape := ⟨2, ![1024, 512]⟩
abbrev S512x1024 : Shape := ⟨2, ![512, 1024]⟩
abbrev S1024 : Shape := ⟨1, ![1024]⟩
abbrev S32768x1024 : Shape := ⟨2, ![32768, 1024]⟩
abbrev S1x1024 : Shape := ⟨2, ![1, 1024]⟩
abbrev S1x256x512 : Shape := ⟨3, ![1, 256, 512]⟩
abbrev S512x512 : Shape := ⟨2, ![512, 512]⟩
abbrev S256x512 : Shape := ⟨2, ![256, 512]⟩
abbrev S256x128 : Shape := ⟨2, ![256, 128]⟩
abbrev S512x128 : Shape := ⟨2, ![512, 128]⟩
abbrev S512 : Shape := ⟨1, ![512]⟩
abbrev S1x512 : Shape := ⟨2, ![1, 512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x256x512, .bf16⟩
  | .hbm, ⟨2, _⟩ => ⟨S8x256x512, .bf16⟩
  | .hbm, ⟨3, _⟩ => ⟨S1024x512, .f32⟩
  | .hbm, ⟨4, _⟩ => ⟨S512x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S1024x512, .bf16⟩
  | .hbm, ⟨9, _⟩ => ⟨S512x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1024x512, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x4096x1024 : Shape := ⟨3, ![8, 4096, 1024]⟩
abbrev S8x256x512 : Shape := ⟨3, ![8, 256, 512]⟩
abbrev S1024x512 : Shape := ⟨2, ![1024, 512]⟩
abbrev S512x1024 : Shape := ⟨2, ![512, 1024]⟩
abbrev S1024 : Shape := ⟨1, ![1024]⟩
abbrev S8x4096x512 : Shape := ⟨3, ![8, 4096, 512]⟩
abbrev S8x4096x4x128 : Shape := ⟨4, ![8, 4096, 4, 128]⟩
abbrev S8x256x4x128 : Shape := ⟨4, ![8, 256, 4, 128]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x512, .bf16⟩
  | .hbm, ⟨2, _⟩ => ⟨S8x256x512, .bf16⟩
  | .hbm, ⟨3, _⟩ => ⟨S1024x512, .f32⟩
  | .hbm, ⟨4, _⟩ => ⟨S512x1024, .f32⟩
  | .hbm, ⟨5, _⟩ => ⟨S1024, .f32⟩
  | .hbm, ⟨6, _⟩ => ⟨S1024, .f32⟩
  | .hbm, ⟨7, _⟩ => ⟨S8x4096x512, .f32⟩
  | .hbm, ⟨8, _⟩ => ⟨S8x4096x4x128, .f32⟩
  | .hbm, ⟨9, _⟩ => ⟨S8x256x512, .f32⟩
  | .hbm, ⟨10, _⟩ => ⟨S8x256x4x128, .f32⟩
  | .hbm, ⟨11, _⟩ => ⟨S8x256x512, .f32⟩
  | .hbm, ⟨12, _⟩ => ⟨S8x256x4x128, .f32⟩
  | .hbm, ⟨13, _⟩ => ⟨S8x4x4096x256, .f32⟩
  | .hbm, ⟨14, _⟩ => ⟨S_, .f32⟩
  | .hbm, ⟨15, _⟩ => ⟨S8x4x4096x256, .f32⟩
  | .hbm, ⟨16, _⟩ => ⟨S8x4x4096x256, .f32⟩
  | .hbm, ⟨17, _⟩ => ⟨S_, .f32⟩
  | .hbm, ⟨18, _⟩ => ⟨S8x4x4096, .f32⟩
  | .hbm, ⟨19, _⟩ => ⟨S_, .f32⟩
  | .hbm, ⟨20, _⟩ => ⟨S8x4x4096, .f32⟩
  | .hbm, ⟨21, _⟩ => ⟨S8x4x4096, .f32⟩
  | .hbm, ⟨22, _⟩ => ⟨S8x4x4096x1, .f32⟩
  | .hbm, ⟨23, _⟩ => ⟨S8x4x4096x256, .f32⟩
  | .hbm, ⟨24, _⟩ => ⟨S8x4x4096x256, .f32⟩
  | .hbm, ⟨25, _⟩ => ⟨S8x4x4096x256, .f32⟩
  | .hbm, ⟨26, _⟩ => ⟨S_, .f32⟩
  | .hbm, ⟨27, _⟩ => ⟨S8x4x4096, .f32⟩
  | .hbm, ⟨28, _⟩ => ⟨S8x4x4096x1, .f32⟩
  | .hbm, ⟨29, _⟩ => ⟨S8x4x4096x256, .f32⟩
  | .hbm, ⟨30, _⟩ => ⟨S8x4x4096x256, .f32⟩
  | .hbm, ⟨31, _⟩ => ⟨S8x4x128x4096, .f32⟩
  | .hbm, ⟨32, _⟩ => ⟨S8x4096x4x128, .f32⟩
  | .hbm, ⟨33, _⟩ => ⟨S8x4096x512, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x1024, .f32⟩
  | .hbm, ⟨61, _⟩ => ⟨S8x4096x1024, .f32⟩
  | .hbm, ⟨62, _⟩ => ⟨S1x1x1024, .f32⟩
  | .hbm, ⟨63, _⟩ => ⟨S8x4096x1024, .f32⟩
  | .hbm, ⟨64, _⟩ => ⟨S8x4096x1024, .f32⟩
  | .hbm, ⟨65, _⟩ => ⟨S1x1x1024, .f32⟩
  | .hbm, ⟨66, _⟩ => ⟨S8x4096x1024, .f32⟩
  | .hbm, ⟨67, _⟩ => ⟨S8x4096x1024, .f32⟩
  | .hbm, ⟨68, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024x7368 : Shape := ⟨2, ![1024, 7368]⟩
abbrev S128 : Shape := ⟨1, ![128]⟩
abbrev S_ : Shape := ⟨0, ![]⟩
abbrev S1024x56 : Shape := ⟨2, ![1024, 56]⟩
abbrev S1024x512 : Shape := ⟨2, ![1024, 512]⟩
abbrev S1024x128 : Shape := ⟨2, ![1024, 128]⟩
abbrev S1024x72 : Shape := ⟨2, ![1024, 72]⟩
abbrev S1024x2816 : Shape := ⟨2, ![1024, 2816]⟩
abbrev S32768x1024 : Shape := ⟨2, ![32768, 1024]⟩
abbrev S1x128 : Shape := ⟨2, ![1, 128]⟩
abbrev S32768x512 : Shape := ⟨2, ![32768, 512]⟩
abbrev S32768x128 : Shape := ⟨2, ![32768, 128]⟩
abbrev S144x32768 : Shape := ⟨2, ![144, 32768]⟩
abbrev S512x1024 : Shape := ⟨2, ![512, 1024]⟩
abbrev S512x512 : Shape := ⟨2, ![512, 512]⟩
abbrev S512x128 : Shape := ⟨2, ![512, 128]⟩
abbrev S144x512 : Shape := ⟨2, ![144, 512]⟩
abbrev S512 : Shape := ⟨1, ![512]⟩
abbrev S512x1 : Shape := ⟨2, ![512, 1]⟩
abbrev S16x512 : Shape := ⟨2, ![16, 512]⟩
abbrev S128x512 : Shape := ⟨2, ![128, 512]⟩

abbrev nBuf : Space → Nat
  | .hbm => 24
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S1024x7368, .f32⟩
  | .hbm, ⟨2, _⟩ => ⟨S128, .f32⟩
  | .hbm, ⟨3, _⟩ => ⟨S_, .f32⟩
  | .hbm, ⟨4, _⟩ => ⟨S1024x56, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x128, .f32⟩
  | .hbm, ⟨11, _⟩ => ⟨S1024x72, .f32⟩
  | .hbm, ⟨12, _⟩ => ⟨S1024x2816, .f32⟩
  | .hbm, ⟨13, _⟩ => ⟨S32768x1024, .f32⟩
  | .hbm, ⟨14, _⟩ => ⟨S1024x2816, .bf16⟩
  | .hbm, ⟨15, _⟩ => ⟨S1x128, .f32⟩
  | .hbm, ⟨16, _⟩ => ⟨S32768x512, .bf16⟩
  | .hbm, ⟨17, _⟩ => ⟨S32768x512, .bf16⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S32768x128, .bf16⟩
  | .hbm, ⟨22, _⟩ => ⟨S144x32768, .bf16⟩
  | .hbm, ⟨23, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1x128, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x128, .bf16⟩
  | .local _ .vmem, ⟨15, _⟩ => ⟨S512x128, .bf16⟩
  | .local _ .vmem, ⟨16, _⟩ => ⟨S144x512, .bf16⟩
  | .local _ .vmem, ⟨17, _⟩ => ⟨S144x512, .bf16⟩
  | .local _ .vmem, ⟨18, _⟩ => ⟨S512x128, .f32⟩
  | .local _ .vmem, ⟨19, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev main_v12_5 : Ref sig .tc := ⟨.hbm, 21, rfl⟩
abbrev main_v12_6 : Ref sig .tc := ⟨.hbm, 22, rfl⟩
abbrev main_v12_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S144x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S8x4096x1024 : Shape := ⟨3, ![8, 4096, 1024]⟩
abbrev S1024x7368 : Shape := ⟨2, ![1024, 7368]⟩
abbrev S128 : Shape := ⟨1, ![128]⟩
abbrev S1024x2760 : Shape := ⟨2, ![1024, 2760]⟩
abbrev S8x4096x2760 : Shape := ⟨3, ![8, 4096, 2760]⟩
abbrev S8x4096x512 : Shape := ⟨3, ![8, 4096, 512]⟩
abbrev S8x4096x128 : Shape := ⟨3, ![8, 4096, 128]⟩
abbrev S8x4096x64 : Shape := ⟨3, ![8, 4096, 64]⟩
abbrev S8x4096x8 : Shape := ⟨3, ![8, 4096, 8]⟩
abbrev S_ : Shape := ⟨0, ![]⟩
abbrev S8x4096 : Shape := ⟨2, ![8, 4096]⟩
abbrev S8x4096x1 : Shape := ⟨3, ![8, 4096, 1]⟩
abbrev S1x1x128 : Shape := ⟨3, ![1, 1, 128]⟩
abbrev S32768x128 : Shape := ⟨2, ![32768, 128]⟩
abbrev S128x32768 : Shape := ⟨2, ![128, 32768]⟩
abbrev S16x32768 : Shape := ⟨2, ![16, 32768]⟩
abbrev S144x32768 : Shape := ⟨2, ![144, 32768]⟩
abbrev S32768x64 : Shape := ⟨2, ![32768, 64]⟩
abbrev S32768x8 : Shape := ⟨2, ![32768, 8]⟩
abbrev S32768x56 : Shape := ⟨2, ![32768, 56]⟩
abbrev S32768x512 : Shape := ⟨2, ![32768, 512]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x7368, .f32⟩
  | .hbm, ⟨2, _⟩ => ⟨S128, .f32⟩
  | .hbm, ⟨3, _⟩ => ⟨S1024x2760, .f32⟩
  | .hbm, ⟨4, _⟩ => ⟨S8x4096x2760, .f32⟩
  | .hbm, ⟨5, _⟩ => ⟨S8x4096x512, .f32⟩
  | .hbm, ⟨6, _⟩ => ⟨S8x4096x128, .f32⟩
  | .hbm, ⟨7, _⟩ => ⟨S8x4096x512, .f32⟩
  | .hbm, ⟨8, _⟩ => ⟨S8x4096x64, .f32⟩
  | .hbm, ⟨9, _⟩ => ⟨S8x4096x8, .f32⟩
  | .hbm, ⟨10, _⟩ => ⟨S8x4096x512, .f32⟩
  | .hbm, ⟨11, _⟩ => ⟨S8x4096x512, .f32⟩
  | .hbm, ⟨12, _⟩ => ⟨S8x4096x512, .f32⟩
  | .hbm, ⟨13, _⟩ => ⟨S8x4096x128, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x128, .f32⟩
  | .hbm, ⟨25, _⟩ => ⟨S8x4096x128, .f32⟩
  | .hbm, ⟨26, _⟩ => ⟨S1x1x128, .f32⟩
  | .hbm, ⟨27, _⟩ => ⟨S8x4096x128, .f32⟩
  | .hbm, ⟨28, _⟩ => ⟨S8x4096x128, .f32⟩
  | .hbm, ⟨29, _⟩ => ⟨S32768x128, .f32⟩
  | .hbm, ⟨30, _⟩ => ⟨S128x32768, .f32⟩
  | .hbm, ⟨31, _⟩ => ⟨S_, .f32⟩
  | .hbm, ⟨32, _⟩ => ⟨S16x32768, .f32⟩
  | .hbm, ⟨33, _⟩ => ⟨S144x32768, .f32⟩
  | .hbm, ⟨34, _⟩ => ⟨S32768x64, .f32⟩
  | .hbm, ⟨35, _⟩ => ⟨S32768x8, .f32⟩
  | .hbm, ⟨36, _⟩ => ⟨S_, .f32⟩
  | .hbm, ⟨37, _⟩ => ⟨S32768x56, .f32⟩
  | .hbm, ⟨38, _⟩ => ⟨S32768x128, .f32⟩
  | .hbm, ⟨39, _⟩ => ⟨S32768x512, .f32⟩
  | .hbm, ⟨40, _⟩ => ⟨S32768x512, .bf16⟩
  | .hbm, ⟨41, _⟩ => ⟨S32768x512, .f32⟩
  | .hbm, ⟨42, _⟩ => ⟨S32768x512, .bf16⟩
  | .hbm, ⟨43, _⟩ => ⟨S32768x512, .f32⟩
  | .hbm, ⟨44, _⟩ => ⟨S32768x512, .bf16⟩
  | .hbm, ⟨45, _⟩ => ⟨S32768x512, .f32⟩
  | .hbm, ⟨46, _⟩ => ⟨S32768x512, .bf16⟩
  | .hbm, ⟨47, _⟩ => ⟨S32768x512, .f32⟩
  | .hbm, ⟨48, _⟩ => ⟨S32768x512, .bf16⟩
  | .hbm, ⟨49, _⟩ => ⟨S32768x128, .f32⟩
  | .hbm, ⟨50, _⟩ => ⟨S32768x128, .bf16⟩
  | .hbm, ⟨51, _⟩ => ⟨S144x32768, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Kernel6.lean ====
abbrev S8x256x1024 : Shape := ⟨3, ![8, 256, 1024]⟩
abbrev S1024x1024 : Shape := ⟨2, ![1024, 1024]⟩
abbrev S8x256x512 : Shape := ⟨3, ![8, 256, 512]⟩
abbrev S1x256x1024 : Shape := ⟨3, ![1, 256, 1024]⟩
abbrev S1x256x512 : Shape := ⟨3, ![1, 256, 512]⟩
abbrev S256x1024 : Shape := ⟨2, ![256, 1024]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .bf16⟩
  | .hbm, ⟨3, _⟩ => ⟨S8x256x512, .bf16⟩
  | .hbm, ⟨4, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x256x1024 : Shape := ⟨3, ![8, 256, 1024]⟩
abbrev S1024x1024 : Shape := ⟨2, ![1024, 1024]⟩
abbrev S8x256x512 : Shape := ⟨3, ![8, 256, 512]⟩

abbrev nBuf : Space → Nat
  | .hbm => 7
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S8x256x1024, .f32⟩
  | .hbm, ⟨3, _⟩ => ⟨S8x256x512, .f32⟩
  | .hbm, ⟨4, _⟩ => ⟨S8x256x512, .f32⟩
  | .hbm, ⟨5, _⟩ => ⟨S8x256x512, .bf16⟩
  | .hbm, ⟨6, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Held.lean ====
/-
  Programs of one core that only read and write buffers it holds.

  `Safe R p` says that from the resources `R` the program `p` runs to its end without a fault and hands `R` back. `R` names which
  buffers are held, and at which contents where that matters; for a buffer the program writes `R` says "at some contents". Every
  statement below is about the shape of a program (a load, a store, a sequence, a branch, a counted loop), so the check that a long
  body is safe is one pass over its text, and nothing is said of the values it computes.
-/
module

public import Idealize.ShloMosaic.Lib.Pipeline.FrameBody
public import Idealize.ShloMosaic.Lib.Pipeline.Kit
public import Idealize.ShloMosaic.Lib.Scf
public import Idealize.ShloMosaic.Lib.Tactic

@[expose] public section

noncomputable section

namespace Cert.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {defs : Defs nD τ sig Val Λ}

local notation "𝕄" => MT nD τ sig Unit Val ℕ (UR sig nD τ) ℕ

variable {c : Dev nD}

/-- `R` holds the buffer of `m` to read. -/
class Reads (c : Dev nD) (R : sProp 𝕄) {sp : Space} {s : Shape} {e : EltTy} (m : Memref sig .tc sp s e) : Prop where
  take : R ⊢ iprop(∃ (q : PosShare TreeShare) (f : Buf Val (m.view.loc (c : Thread nD τ))),
    (m.view.loc (c : Thread nD τ) ↦[m.view.set]{q} f) ∗ ((m.view.loc (c : Thread nD τ) ↦[m.view.set]{q} f) -∗ R))

/-- `R` holds the buffer of `m` to write: whatever is left in it, `R` is had again. -/
class Writes (c : Dev nD) (R : sProp 𝕄) {sp : Space} {s : Shape} {e : EltTy} (m : Memref sig .tc sp s e) : Prop where
  take : R ⊢ iprop(∃ (f : Buf Val (m.view.loc (c : Thread nD τ))),
    (m.view.loc (c : Thread nD τ) ↦[m.view.set]{fullShare} f)
      ∗ (∀ f' : Buf Val (m.view.loc (c : Thread nD τ)), (m.view.loc (c : Thread nD τ) ↦[m.view.set]{fullShare} f') -∗ R))

/-- The buffer of `m` is held at some contents. -/
def Loose (c : Dev nD) {sp : Space} {s : Shape} {e : EltTy} (m : Memref sig .tc sp s e) : sProp 𝕄 :=
  iprop(∃ X, owns (c : Thread nD τ) m fullShare X)

section Members

variable {sp : Space} {s : Shape} {e : EltTy} (m : Memref sig .tc sp s e)

instance reads_owns (q : PosShare TreeShare) (X : s.Idx → Val e) : Reads c (owns (c : Thread nD τ) m q X : sProp 𝕄) m where
  take := by
    unfold owns
    iintro ⟨%f, %hf, H⟩
    iexists q, f
    isplitl [H]; · iexact H
    iintro H
    iexists f
    isplitr; · ipureintro; exact hf
    iexact H

instance writes_loose : Writes c (Loose c m : sProp 𝕄) m where
  take := by
    unfold Loose owns
    iintro ⟨%X, %f, -, H⟩
    iexists f
    isplitl [H]; · iexact H
    iintro %f' H
    iexists _, f'
    isplitr; swap; · iexact H
    ipureintro; rfl

instance reads_of_writes (R : sProp 𝕄) [h : Writes c R m] : Reads c R m where
  take := by
    refine h.take.trans ?_
    iintro ⟨%f, H, K⟩
    iexists fullShare, f
    isplitl [H]; · iexact H
    iintro H
    iapply K $$ H

instance reads_left (P Q : sProp 𝕄) [h : Reads c P m] : Reads c iprop(P ∗ Q) m where
  take := by
    refine (sep_mono_left h.take).trans ?_
    iintro ⟨⟨%q, %f, H, K⟩, HQ⟩
    iexists q, f
    isplitl [H]; · iexact H
    iintro H
    isplitl [K H]; · iapply K $$ H
    iexact HQ

instance reads_right (P Q : sProp 𝕄) [h : Reads c Q m] : Reads c iprop(P ∗ Q) m where
  take := by
    refine (sep_mono_right h.take).trans ?_
    iintro ⟨HP, ⟨%q, %f, H, K⟩⟩
    iexists q, f
    isplitl [H]; · iexact H
    iintro H
    isplitl [HP]; · iexact HP
    iapply K $$ H

instance writes_left (P Q : sProp 𝕄) [h : Writes c P m] : Writes c iprop(P ∗ Q) m where
  take := by
    refine (sep_mono_left h.take).trans ?_
    iintro ⟨⟨%f, H, K⟩, HQ⟩
    iexists f
    isplitl [H]; · iexact H
    iintro %f' H
    isplitl [K H]; · iapply K $$ H
    iexact HQ

instance writes_right (P Q : sProp 𝕄) [h : Writes c Q m] : Writes c iprop(P ∗ Q) m where
  take := by
    refine (sep_mono_right h.take).trans ?_
    iintro ⟨HP, ⟨%f, H, K⟩⟩
    iexists f
    isplitl [H]; · iexact H
    iintro %f' H
    isplitl [HP]; · iexact HP
    iapply K $$ H

end Members

/-- From `R` the program runs to its end and hands `R` back. -/
class Safe (defs : Defs nD τ sig Val Λ) (c : Dev nD) (R : sProp 𝕄) {α : Type} (p : Prog (TpuEff nD τ sig Val Λ .tc) α) : Prop where
  run : R ⊢ wp frame (wpE defs Variants.none (c : Thread nD τ) none) Set.univ p (fun _ => R)

variable {α β : Type}

instance safe_ret {R : sProp 𝕄} (a : α) : Safe defs c R (.ret a : Prog (TpuEff nD τ sig Val Λ .tc) α) where
  run := by rw [wp_ret]; iintro H; imodintro; iexact H

instance safe_pure {R : sProp 𝕄} (a : α) : Safe defs c R (pure a : Prog (TpuEff nD τ sig Val Λ .tc) α) := safe_ret a

instance safe_bind {R : sProp 𝕄} (p : Prog (TpuEff nD τ sig Val Λ .tc) α) (k : α → Prog (TpuEff nD τ sig Val Λ .tc) β)
    [hp : Safe defs c R p] [hk : ∀ a, Safe defs c R (k a)] : Safe defs c R (p >>= k) where
  run := by rw [wp_bind]; exact hp.run.trans (wp_mono _ _ _ fun a => (hk a).run)

instance safe_dite {R : sProp 𝕄} (b : Prop) [Decidable b] (p : b → Prog (TpuEff nD τ sig Val Λ .tc) α) (q : ¬ b → Prog (TpuEff nD τ sig Val Λ .tc) α)
    [hp : ∀ h, Safe defs c R (p h)] [hq : ∀ h, Safe defs c R (q h)] : Safe defs c R (if h : b then p h else q h) := by
  by_cases h : b
  · rw [dif_pos h]; exact hp h
  · rw [dif_neg h]; exact hq h

instance safe_ite {R : sProp 𝕄} (b : Prop) [Decidable b] (p q : Prog (TpuEff nD τ sig Val Λ .tc) α)
    [hp : Safe defs c R p] [hq : Safe defs c R q] : Safe defs c R (if b then p else q) := by
  by_cases h : b
  · rw [if_pos h]; exact hp
  · rw [if_neg h]; exact hq

instance safe_for {R : sProp 𝕄} {w : Nat} (lb ub st : BitVec w) (hok : Scf.OK lb ub st) (init : α)
    (body : Fin (Scf.trips lb ub st) → α → Prog (TpuEff nD τ sig Val Λ .tc) α)
    [hb : ∀ k a, Safe defs c R (body k a)] : Safe defs c R (Scf.for lb ub st hok init body) where
  run := by
    refine .trans ?_ (Scf.wp_for _ _ _ lb ub st hok init body (fun _ _ => R) fun k a => (hb k a).run)
    iintro H
    isplitl [H]; · iexact H
    iintro %a H
    iexact H

section Access

variable {cs : CoreSpace} {s : Shape} {e : EltTy} (m : Memref sig .tc cs s e)

instance safe_load {R : sProp 𝕄} (r : LoadRect s) (hl : m.view.LoadsAt r) [h : Reads c R m] :
    Safe defs c R (α := no_index (r.shape.Idx → Val e)) (no_index (Prog.lift (.load m r hl) : Prog (TpuEff nD τ sig Val Λ .tc) _)) where
  run := by
    refine h.take.trans ?_
    iintro ⟨%q, %f, H, K⟩
    iapply (wp_load Variants.none (c : Thread nD τ) none Set.univ (m := m) (S := m.view.set) (f := f) (q := q) ?_) $$ H
    · exact m.view.setOn_subset_set _
    iintro H
    rw [wp_ret]; imodintro
    iapply K $$ H

instance safe_store {R : sProp 𝕄} (r : Rect s) (w : r.shape.Idx → Val e) (Mk : Finset r.shape.Idx) (hx : (m.access r).Stores Mk)
    (hm : Mk = Finset.univ ∨ ∀ a, r.stride a = 1) [h : Writes c R m] :
    Safe defs c R (no_index (Prog.lift (.store m r w Mk hx hm) : Prog (TpuEff nD τ sig Val Λ .tc) PUnit)) where
  run := by
    refine h.take.trans ?_
    iintro ⟨%f, H, K⟩
    iapply (wp_store Variants.none (c : Thread nD τ) none Set.univ (m := m) (r := r) (S := m.view.set) (f := f) ?_) $$ H
    · exact Memref.setOn_access_subset m r Mk
    iintro H
    rw [wp_ret]; imodintro
    iapply K $$ H

instance safe_smemLoad {R : sProp 𝕄} (m : Memref sig .tc .smem s e) (r : Rect s) (h1 : r.shape.numel = 1) (hp : e.packing = 1)
    [h : Reads c R m] :
    Safe defs c R (α := no_index (Val e)) (no_index (smemLoad m r h1 hp : Prog (TpuEff nD τ sig Val Λ .tc) (Val e))) where
  run := by
    refine h.take.trans ?_
    unfold smemLoad smemLoadElt
    iintro ⟨%q, %f, H, K⟩
    iapply (wp_load Variants.none (c : Thread nD τ) none Set.univ (m := m) (S := m.view.set) (f := f) (q := q) ?_) $$ H
    · exact m.view.setOn_subset_set _
    iintro H
    rw [wp_ret]; imodintro
    iapply K $$ H

end Access

end Cert.Held

end
-- ==== Proof.Bufs.lean ====
/-
  The buffers the sparse-attention body is handed, and what is held of them while it runs.

  The body is printed in parts, each a function of the same twenty-one buffers and of values computed before it. `Bufs` collects the
  buffers, `Own` is the resource held through the body: each operand at its contents, the result's buffer and the scratch buffers at
  some contents.
-/
module

public import proofs.«01_k».proof.Kernel
public import proofs.«01_k».proof.Proof.Held

@[expose] public section

set_option synthInstance.maxHeartbeats 400000
set_option synthInstance.maxSize 4000

noncomputable section

namespace Cert.Kernel.Hand

open Cert.Kernel Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The buffers one call of the body works on, each a whole buffer. -/
structure Bufs where
  a2 : Memref sig .tc .vmem S1x128x512 .bf16
  h2 : a2.IsWhole
  a3 : Memref sig .tc .vmem S1x128x512 .bf16
  h3 : a3.IsWhole
  a4 : Memref sig .tc .vmem S1x8x128 .f32
  h4 : a4.IsWhole
  a5 : Memref sig .tc .vmem S1x4096x64 .bf16
  h5 : a5.IsWhole
  a6 : Memref sig .tc .vmem S1x4096x128 .bf16
  h6 : a6.IsWhole
  a7 : Memref sig .tc .vmem S144x4096 .bf16
  h7 : a7.IsWhole
  a8 : Memref sig .tc .vmem S1024x512 .bf16
  h8 : a8.IsWhole
  a9 : Memref sig .tc .vmem S1024x512 .bf16
  h9 : a9.IsWhole
  a10 : Memref sig .tc .vmem S3x128x128 .i32
  h10 : a10.IsWhole
  a11 : Memref sig .tc .smem S32x8 .f32
  h11 : a11.IsWhole
  a12 : Memref sig .tc .vmem S512x512 .bf16
  h12 : a12.IsWhole
  a13 : Memref sig .tc .vmem S1x128x512 .bf16
  h13 : a13.IsWhole
  a14 : Memref sig .tc .vmem S4096x128 .i32
  h14 : a14.IsWhole
  a15 : Memref sig .tc .vmem S32x128x128 .i32
  h15 : a15.IsWhole
  a16 : Memref sig .tc .vmem S3x8x128x128 .f32
  h16 : a16.IsWhole
  a17 : Memref sig .tc .vmem S128x1024 .bf16
  h17 : a17.IsWhole
  a18 : Memref sig .tc .vmem S2x512x1024 .f32
  h18 : a18.IsWhole
  a19 : Memref sig .tc .vmem S2x1x1024 .f32
  h19 : a19.IsWhole
  a20 : Memref sig .tc .vmem S2x1x1024 .f32
  h20 : a20.IsWhole
  a21 : Memref sig .tc .vmem S144x1024 .f32
  h21 : a21.IsWhole
  a22 : Memref sig .tc .vmem S1x1024 .f32
  h22 : a22.IsWhole

/-- What the eleven operands hold. -/
structure Ins (F : FTy → Type) where
  x2 : S1x128x512.Idx → Elt F .bf16
  x3 : S1x128x512.Idx → Elt F .bf16
  x4 : S1x8x128.Idx → Elt F .f32
  x5 : S1x4096x64.Idx → Elt F .bf16
  x6 : S1x4096x128.Idx → Elt F .bf16
  x7 : S144x4096.Idx → Elt F .bf16
  x8 : S1024x512.Idx → Elt F .bf16
  x9 : S1024x512.Idx → Elt F .bf16
  x10 : S3x128x128.Idx → Elt F .i32
  x11 : S32x8.Idx → Elt F .f32
  x12 : S512x512.Idx → Elt F .bf16

/-- A function of the twenty-one buffers at those of `B`. -/
abbrev Bufs.on.{u} {β : Sort u} (B : Bufs)
    (f : (a2 : Memref sig .tc .vmem S1x128x512 .bf16) → a2.IsWhole → (a3 : Memref sig .tc .vmem S1x128x512 .bf16) → a3.IsWhole → (a4 : Memref sig .tc .vmem S1x8x128 .f32) → a4.IsWhole → (a5 : Memref sig .tc .vmem S1x4096x64 .bf16) → a5.IsWhole → (a6 : Memref sig .tc .vmem S1x4096x128 .bf16) → a6.IsWhole → (a7 : Memref sig .tc .vmem S144x4096 .bf16) → a7.IsWhole → (a8 : Memref sig .tc .vmem S1024x512 .bf16) → a8.IsWhole → (a9 : Memref sig .tc .vmem S1024x512 .bf16) → a9.IsWhole → (a10 : Memref sig .tc .vmem S3x128x128 .i32) → a10.IsWhole → (a11 : Memref sig .tc .smem S32x8 .f32) → a11.IsWhole → (a12 : Memref sig .tc .vmem S512x512 .bf16) → a12.IsWhole → (a13 : Memref sig .tc .vmem S1x128x512 .bf16) → a13.IsWhole → (a14 : Memref sig .tc .vmem S4096x128 .i32) → a14.IsWhole → (a15 : Memref sig .tc .vmem S32x128x128 .i32) → a15.IsWhole → (a16 : Memref sig .tc .vmem S3x8x128x128 .f32) → a16.IsWhole → (a17 : Memref sig .tc .vmem S128x1024 .bf16) → a17.IsWhole → (a18 : Memref sig .tc .vmem S2x512x1024 .f32) → a18.IsWhole → (a19 : Memref sig .tc .vmem S2x1x1024 .f32) → a19.IsWhole → (a20 : Memref sig .tc .vmem S2x1x1024 .f32) → a20.IsWhole → (a21 : Memref sig .tc .vmem S144x1024 .f32) → a21.IsWhole → (a22 : Memref sig .tc .vmem S1x1024 .f32) → a22.IsWhole → β) : β :=
  f B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22

/-- The operands at the contents `X`. -/
def OwnIn (c : Dev nD) (B : Bufs) (X : Ins F) : sProp 𝕄 :=
  iprop(owns (c : Thread nD τ) B.a2 fullShare X.x2 ∗ owns (c : Thread nD τ) B.a3 fullShare X.x3 ∗ owns (c : Thread nD τ) B.a4 fullShare X.x4 ∗ owns (c : Thread nD τ) B.a5 fullShare X.x5 ∗ owns (c : Thread nD τ) B.a6 fullShare X.x6 ∗ owns (c : Thread nD τ) B.a7 fullShare X.x7 ∗ owns (c : Thread nD τ) B.a8 fullShare X.x8 ∗ owns (c : Thread nD τ) B.a9 fullShare X.x9 ∗ owns (c : Thread nD τ) B.a10 fullShare X.x10 ∗ owns (c : Thread nD τ) B.a11 fullShare X.x11 ∗ owns (c : Thread nD τ) B.a12 fullShare X.x12)

/-- The result's buffer and the scratch buffers at some contents. -/
def OwnOut (c : Dev nD) (B : Bufs) : sProp 𝕄 :=
  iprop(Loose c B.a13 ∗ Loose c B.a14 ∗ Loose c B.a15 ∗ Loose c B.a16 ∗ Loose c B.a17 ∗ Loose c B.a18 ∗ Loose c B.a19 ∗ Loose c B.a20 ∗ Loose c B.a21 ∗ Loose c B.a22)

/-- All of them. -/
def Own (c : Dev nD) (B : Bufs) (X : Ins F) : sProp 𝕄 := iprop(OwnIn c B X ∗ OwnOut c B)

section Members
variable (c : Dev nD) (B : Bufs) (X : Ins F)

instance reads2 : Reads c (OwnIn c B X) B.a2 := by unfold OwnIn; infer_instance
instance reads3 : Reads c (OwnIn c B X) B.a3 := by unfold OwnIn; infer_instance
instance reads4 : Reads c (OwnIn c B X) B.a4 := by unfold OwnIn; infer_instance
instance reads5 : Reads c (OwnIn c B X) B.a5 := by unfold OwnIn; infer_instance
instance reads6 : Reads c (OwnIn c B X) B.a6 := by unfold OwnIn; infer_instance
instance reads7 : Reads c (OwnIn c B X) B.a7 := by unfold OwnIn; infer_instance
instance reads8 : Reads c (OwnIn c B X) B.a8 := by unfold OwnIn; infer_instance
instance reads9 : Reads c (OwnIn c B X) B.a9 := by unfold OwnIn; infer_instance
instance reads10 : Reads c (OwnIn c B X) B.a10 := by unfold OwnIn; infer_instance
instance reads11 : Reads c (OwnIn c B X) B.a11 := by unfold OwnIn; infer_instance
instance reads12 : Reads c (OwnIn c B X) B.a12 := by unfold OwnIn; infer_instance
instance writes13 : Writes c (OwnOut (F := F) c B) B.a13 := by unfold OwnOut; infer_instance
instance writes14 : Writes c (OwnOut (F := F) c B) B.a14 := by unfold OwnOut; infer_instance
instance writes15 : Writes c (OwnOut (F := F) c B) B.a15 := by unfold OwnOut; infer_instance
instance writes16 : Writes c (OwnOut (F := F) c B) B.a16 := by unfold OwnOut; infer_instance
instance writes17 : Writes c (OwnOut (F := F) c B) B.a17 := by unfold OwnOut; infer_instance
instance writes18 : Writes c (OwnOut (F := F) c B) B.a18 := by unfold OwnOut; infer_instance
instance writes19 : Writes c (OwnOut (F := F) c B) B.a19 := by unfold OwnOut; infer_instance
instance writes20 : Writes c (OwnOut (F := F) c B) B.a20 := by unfold OwnOut; infer_instance
instance writes21 : Writes c (OwnOut (F := F) c B) B.a21 := by unfold OwnOut; infer_instance
instance writes22 : Writes c (OwnOut (F := F) c B) B.a22 := by unfold OwnOut; infer_instance

instance readsIn {sp : Space} {s : Shape} {e : EltTy} (m : Memref sig .tc sp s e) [Reads c (OwnIn c B X) m] : Reads c (Own c B X) m := by
  unfold Own; infer_instance
instance writesOut {sp : Space} {s : Shape} {e : EltTy} (m : Memref sig .tc sp s e) [Writes c (OwnOut (F := F) c B) m] :
    Writes c (Own c B X) m := by
  unfold Own; infer_instance

end Members

/-- A program of the body that needs nothing but `Own`. -/
abbrev Ok [Facts] {α : Type} (c : Dev nD) (B : Bufs) (X : Ins F) (p : Prog (TpuEff nD τ sig (Elt F) Λ₀ .tc) α) : Prop :=
  Safe defs₀ c (Own c B X) p

end Cert.Kernel.Hand

end
-- ==== Proof.Body.lean ====
/-
  The body of the sparse attention's kernel needs nothing but its buffers: it reads its eleven operands, reads and writes the
  result's buffer and its nine scratch buffers, and does nothing else. One pass over the text with the rules of `Held` shows it: each
  statement is a value, a sequence, a load, a store, a counted loop or a branch, both sides of every branch (the short cut for few
  rows, the counting rounds of the selection) being covered.
-/
module

public import proofs.«01_k».proof.Proof.Bufs

@[expose] public section

set_option maxHeartbeats 4000000

noncomputable section

namespace Cert.Kernel.Hand

open Cert.Kernel Cert.Held
open Idealize.ShloMosaic Idealize.ShloMosaic.TcCoe Idealize.SL.Sem

variable {F : FTy → Type} [BitOps F] [Facts]

/-- The body runs to its end from the buffers of `B` and hands them back, the operands unchanged. -/
theorem body_ok (c : Dev nD) (X : Ins F) (i : grid0.Coords) (B : Bufs) : Ok c B X (B.on (cc0_dsa i)) := by
  unfold Bufs.on
  repeat' first
    | exact safe_pure _
    | refine safe_bind _ _ (hp := ?_) (hk := fun _ => ?_)
    | exact safe_load _ _ _
    | exact safe_store _ _ _ _ _ _
    | exact safe_smemLoad _ _ _ _
    | refine safe_for _ _ _ _ _ _ (hb := fun _ _ => ?_)
    | refine safe_dite _ _ _ (hp := fun _ => ?_) (hq := fun _ => ?_)
    | refine safe_ite _ _ _ (hp := ?_) (hq := ?_)

end Cert.Kernel.Hand

end
-- ==== Proof.Launch.lean ====
/-
  The frame of the sparse attention: from any memory the launch ends, its ten arguments hold what they held and every semaphore
  reads zero. The pipeline hands the body, point by point, the operands' blocks and the result's block; the body (`body_ok`) takes
  them together with the scratch buffers and gives all of them back. Nothing is said of the result's contents.
-/
module

public import proofs.«01_k».proof.Proof.Body
public import proofs.«01_k».proof.Proof.Gen.Kernel.Frame
public import Idealize.ShloMosaic.Lib.Pipeline.Frame
public import Idealize.ShloMosaic.Lib.Tactic

@[expose] public section

noncomputable section

namespace Cert.Kernel.Hand

open Cert.Kernel Cert.Kernel.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The buffers of the body at point `t`. -/
abbrev bufs (t : Fin cfg0.N) : Bufs where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := Memref.whole cc0_scratch0
  h14 := Memref.isWhole_whole _
  a15 := Memref.whole cc0_scratch1
  h15 := Memref.isWhole_whole _
  a16 := Memref.whole cc0_scratch2
  h16 := Memref.isWhole_whole _
  a17 := Memref.whole cc0_scratch3
  h17 := Memref.isWhole_whole _
  a18 := Memref.whole cc0_scratch4
  h18 := Memref.isWhole_whole _
  a19 := Memref.whole cc0_scratch5
  h19 := Memref.isWhole_whole _
  a20 := Memref.whole cc0_scratch6
  h20 := Memref.isWhole_whole _
  a21 := Memref.whole cc0_scratch7
  h21 := Memref.isWhole_whole _
  a22 := Memref.whole cc0_scratch8
  h22 := Memref.isWhole_whole _

/-- The operands' blocks at point `t`. -/
abbrev ins (c : Dev nD) (t : Fin cfg0.N) : Ins F where
  x2 := iblk m c 0 t
  x3 := iblk m c 1 t
  x4 := iblk m c 2 t
  x5 := iblk m c 3 t
  x6 := iblk m c 4 t
  x7 := iblk m c 5 t
  x8 := iblk m c 6 t
  x9 := iblk m c 7 t
  x10 := iblk m c 8 t
  x11 := iblk m c 9 t
  x12 := iblk m c 10 t

/-- The window of the result is the one whose contents nothing is said of. -/
def forgets0 : Fin 12 → Bool := fun w => decide (w = 11)

/-- The proof data on core `c`: the arrays as the launch finds them, each operand's block left in place, nothing said of the result,
    the scratch buffers held at some contents between the points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed (cfg := cfg0) (11 : Fin 12) t
  Φ _ := Pipeline.ΦA spec0 c
  q _ := fullShare
  owed _ := 0

theorem A_eq (c : Dev nD) (w : Fin cfg0.W) : (dats m 0 c).A w = V m c (Pipeline.arrRef spec0 w) := by dsimp only [dats]

/-- The scratch buffers, each held at some contents, and the generator's register. -/
theorem scratch_eq (c : Dev nD) (t : Fin cfg0.N) :
    (Pipeline.ΦA spec0 c : sProp 𝕄)
      = iprop((Loose c (bufs t).a14 ∗ Loose c (bufs t).a15 ∗ Loose c (bufs t).a16 ∗ Loose c (bufs t).a17 ∗ Loose c (bufs t).a18 ∗ Loose c (bufs t).a19 ∗ Loose c (bufs t).a20 ∗ Loose c (bufs t).a21 ∗ Loose c (bufs t).a22) ∗ ∃ r, prngReg c r) := by
  unfold Pipeline.ΦA Loose
  rw [scopedRest0_eq]
  simp only [bufs, owns_whole]
  rfl

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (bufs t).a2 fullShare ((dats m 0 c).before 0 t d)) ∗ (∃ d, owns (c : Thread nD τ) (bufs t).a3 fullShare ((dats m 0 c).before 1 t d)) ∗ (∃ d, owns (c : Thread nD τ) (bufs t).a4 fullShare ((dats m 0 c).before 2 t d)) ∗ (∃ d, owns (c : Thread nD τ) (bufs t).a5 fullShare ((dats m 0 c).before 3 t d)) ∗ (∃ d, owns (c : Thread nD τ) (bufs t).a6 fullShare ((dats m 0 c).before 4 t d)) ∗ (∃ d, owns (c : Thread nD τ) (bufs t).a7 fullShare ((dats m 0 c).before 5 t d)) ∗ (∃ d, owns (c : Thread nD τ) (bufs t).a8 fullShare ((dats m 0 c).before 6 t d)) ∗ (∃ d, owns (c : Thread nD τ) (bufs t).a9 fullShare ((dats m 0 c).before 7 t d)) ∗ (∃ d, owns (c : Thread nD τ) (bufs t).a10 fullShare ((dats m 0 c).before 8 t d)) ∗ (∃ d, owns (c : Thread nD τ) (bufs t).a11 fullShare ((dats m 0 c).before 9 t d)) ∗ (∃ d, owns (c : Thread nD τ) (bufs t).a12 fullShare ((dats m 0 c).before 10 t d)) ∗ Loose c (bufs t).a13)

/-- What it hands back. -/
def bodyPost (c : Dev nD) (t : Fin cfg0.N) : sProp 𝕄 :=
  iprop((dats m 0 c).Φ t.succ ∗ (dats m 0 c).owesAt () t.succ
    ∗ owns (c : Thread nD τ) (bufs t).a2 fullShare ((dats m 0 c).after 0 t) ∗ owns (c : Thread nD τ) (bufs t).a3 fullShare ((dats m 0 c).after 1 t) ∗ owns (c : Thread nD τ) (bufs t).a4 fullShare ((dats m 0 c).after 2 t) ∗ owns (c : Thread nD τ) (bufs t).a5 fullShare ((dats m 0 c).after 3 t) ∗ owns (c : Thread nD τ) (bufs t).a6 fullShare ((dats m 0 c).after 4 t) ∗ owns (c : Thread nD τ) (bufs t).a7 fullShare ((dats m 0 c).after 5 t) ∗ owns (c : Thread nD τ) (bufs t).a8 fullShare ((dats m 0 c).after 6 t) ∗ owns (c : Thread nD τ) (bufs t).a9 fullShare ((dats m 0 c).after 7 t) ∗ owns (c : Thread nD τ) (bufs t).a10 fullShare ((dats m 0 c).after 8 t) ∗ owns (c : Thread nD τ) (bufs t).a11 fullShare ((dats m 0 c).after 9 t) ∗ owns (c : Thread nD τ) (bufs t).a12 fullShare ((dats m 0 c).after 10 t) ∗ Loose c (bufs t).a13)

set_option maxHeartbeats 4000000 in
/-- The body at point `t`. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, scratch_eq c t]
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl)]
  have h := (body_ok c (ins m c t) (grid0.coords t) (bufs t)).run
  iintro ⟨⟨⟨S0, S1, S2, S3, S4, S5, S6, S7, S8⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11⟩
  iapply (wp_wand_r frame (wpE (defs₀ (F := F)) Variants.none (c : Thread nD τ) none) Set.univ (Q := fun _ => Own c (bufs t) (ins m c t)))
  isplitl [H0 H1 H2 H3 H4 H5 H6 H7 H8 H9 H10 H11 S0 S1 S2 S3 S4 S5 S6 S7 S8]
  · iapply h
    unfold Own OwnIn OwnOut
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexact H11
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  iintro %_ HB
  unfold Own OwnIn OwnOut
  icases HB with ⟨⟨H0, H1, H2, H3, H4, H5, H6, H7, H8, H9, H10⟩, H11, S0, S1, S2, S3, S4, S5, S6, S7, S8⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body's row of the table is the body at the point. -/
theorem row_eq (t : Fin cfg0.N) : defs₀ (F := F) .tc cfg0.body (cfg0.bodyArgs t (cfg0.slots t)) = bodyAt0 t := by
  unfold defs₀; rw [Defs.onTc_tc]

/-- What the pipeline asks of the body. -/
theorem body_obligation (c : Dev nD) :
    BodyObligation (dats (F := F) m 0 c) (defs₀ (F := F)) Variants.none () Set.univ forgets0 := fun t => by
  rw [bigSep_W0, bigSep_W0, row_eq]
  exact triple_restated (sound_body m c t) rfl .rfl fun _ => .rfl

set_option backward.isDefEq.respectTransparency.types false in
/-- The launch: every operand's array as it was, every semaphore at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the run the array of an operand's window holds what it held. -/
theorem kept {r : PUnit × MemSt nD τ sig (Elt F)}
    (h : Pipeline.RDat.FramePost (cfgs 0) (fun c => (dats m 0 c).toRForget forgets0) (V m) r) (c : Dev nD) (w : Fin cfg0.W)
    (hw : (cfg0.win w).isOut = false) :
    r.2.mem ((cfg0.spec w).arr.view.loc (c.tc : Thread nD τ)) = V m c (Pipeline.arrRef spec0 w) :=
  (h.arr_in c w hw).trans (A_eq m c w)

/-- After the run a buffer that no window stages holds what it held when the pipeline was entered. -/
theorem free {r : PUnit × MemSt nD τ sig (Elt F)}
    (h : Pipeline.RDat.FramePost (cfgs 0) (fun c => (dats m 0 c).toRForget forgets0) (V m) r) (c : Dev nD) (b : Ref sig .tc)
    (hb : b ∈ Pipeline.restRefs sig spec0) : r.2.mem ((c.tc : Thread nD τ).loc b) = V m c b :=
  (h c).2 b hb

/-- The frame: the arguments unchanged, the semaphores at zero. -/
theorem frame_claim :
    θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9))
      ∧ r.2.sem = fun _ => 0) :=
  (θ_run defs _ _).mono (fun _ h => ⟨fun c => ⟨(free m h.1 c main_arg0 (Pipeline.mem_restRefs_of main_arg0 (by decide) (by decide))).trans (V_main_arg0 m c),
      (free m h.1 c main_arg1 (Pipeline.mem_restRefs_of main_arg1 (by decide) (by decide))).trans (V_main_arg1 m c),
      (free m h.1 c main_arg2 (Pipeline.mem_restRefs_of main_arg2 (by decide) (by decide))).trans (V_main_arg2 m c),
      (free m h.1 c main_arg3 (Pipeline.mem_restRefs_of main_arg3 (by decide) (by decide))).trans (V_main_arg3 m c),
      (kept m h.1 c 5 rfl).trans (V_main_arg4 m c),
      (free m h.1 c main_arg5 (Pipeline.mem_restRefs_of main_arg5 (by decide) (by decide))).trans (V_main_arg5 m c),
      (free m h.1 c main_arg6 (Pipeline.mem_restRefs_of main_arg6 (by decide) (by decide))).trans (V_main_arg6 m c),
      (kept m h.1 c 8 rfl).trans (V_main_arg7 m c),
      (kept m h.1 c 9 rfl).trans (V_main_arg8 m c),
      (kept m h.1 c 10 rfl).trans (V_main_arg9 m c)⟩, h.2⟩) (run_main m ρ)

end Cert.Kernel.Hand

end
-- ==== Proof.Rows.lean ====
/- The functions of one row that the calls compute, over the extended reals: the layer norm, and the two kernels' and
   the references' ways of writing it in vector operations read at an index. Everything else that is stated of a row
   (Ffn.lean, Merge.lean, Xattn.lean, Mix.lean) is stated over these. -/
module

public import Idealize.ShloMosaic.Lib.Pointwise
public import Idealize.ShloMosaic.Lib.Pipeline.ValueKit

@[expose] public section

set_option maxRecDepth 16384

noncomputable section

open Idealize.ShloMosaic
open scoped BigOperators

namespace Cert.Rows

/-- The mean of a row of 1024. -/
def mean (y : Fin 1024 → EReal) : EReal := Ideal.div (∑ k, y k) (Ideal.ofBits .f32 0x44800000#32)

/-- The layer norm of a row: centred, over the root of the variance plus 1e-5, times `g`, plus `b`. -/
def norm (y g b : Fin 1024 → EReal) (j : Fin 1024) : EReal :=
  (y j - mean y) * Ideal.rsqrt (mean (fun k => (y k - mean y) * (y k - mean y)) + Ideal.ofBits .f32 0x3727C5AC#32) * g j + b j

/-- A sum over `n + 256` terms is the sum over the first `n` and the sum over the 256 after them. -/
theorem sum_split {N : ℕ} (f : Fin N → EReal) (n p : ℕ) (h : n + p ≤ N) :
    ∑ k : Fin (n + p), f ⟨k.val, by omega⟩
      = ∑ k : Fin n, f ⟨k.val, by omega⟩ + ∑ k : Fin p, f ⟨n + k.val, by omega⟩ := by
  rw [Fin.sum_univ_add]; rfl

/-- The rows of a matrix, and its entries as a function of coordinates. -/
abbrev row {a b : ℕ} (x : FVec Ideal ⟨2, ![a, b]⟩ .f32) (r : Fin a) : Fin b → EReal := fun k => x (ix2 r k)
abbrev ents {a b : ℕ} {φ : FTy} (w : FVec Ideal ⟨2, ![a, b]⟩ φ) : Fin a → Fin b → EReal := fun i j => w (ix2 i j)
abbrev ents3 {a b c : ℕ} {φ : FTy} (w : FVec Ideal ⟨3, ![a, b, c]⟩ φ) : Fin a → Fin b → Fin c → EReal := fun i j k => w (ix3 i j k)

/-- A rectangle's entries of an array, of either float type that the calls hold. -/
abbrev cut {S : Shape} (w : FVec Ideal S .bf16) (R : Rect S) : R.shape.Idx → Ideal .bf16 := View.ld (Val := Elt Ideal) (e' := .bf16) w R
abbrev cutf {S : Shape} (w : FVec Ideal S .f32) (R : Rect S) : R.shape.Idx → Ideal .f32 := View.ld (Val := Elt Ideal) (e' := .f32) w R

/-! ## The layer norm in a kernel's vector operations -/

abbrev S512x1024 : Shape := ⟨2, ![512, 1024]⟩
abbrev S1x1024 : Shape := ⟨2, ![1, 1024]⟩
abbrev S512 : Shape := ⟨1, ![512]⟩
abbrev S512x1 : Shape := ⟨2, ![512, 1]⟩

/-- The kernels' layer norm of a block of 512 rows, up to the last sum. -/
def normBlock (hr : S512x1024.Reduces [1] S512) (hc : S512.ShapeCasts S512x1) (hb : S512x1.Broadcasts S512x1024)
    (hg : S1x1024.Broadcasts S512x1024) (hgg : S1x1024.ShapeCasts S1x1024) (v162 : FVec Ideal S512x1024 .f32)
    (v163 : FVec Ideal S1x1024 .f32) : FVec Ideal S512x1024 .f32 :=
  have v164 : FVec Ideal S1x1024 .f32 := shapeCast S1x1024 v163 hgg
  have v167 : FVec Ideal S512 .f32 := multiReduction .add [1] S512 v162 0x00000000#32 hr (.inl rfl) rfl
  have v168 : FVec Ideal S512x1 .f32 := shapeCast S512x1 v167 hc
  have cst_86 : Ideal .f32 := Scalar.ofBits .f32 0x44800000#32
  have v169 : FVec Ideal S512x1 .f32 := broadcast S512x1 cst_86
  have v170 : FVec Ideal S512x1 .f32 := divf v168 v169
  have v171 : FVec Ideal S512x1024 .f32 := broadcastTo S512x1024 v170 hb
  have v172 : FVec Ideal S512x1024 .f32 := subf v162 v171
  have v173 : FVec Ideal S512x1024 .f32 := mulf v172 v172
  have v174 : FVec Ideal S512 .f32 := multiReduction .add [1] S512 v173 0x00000000#32 hr (.inl rfl) rfl
  have v175 : FVec Ideal S512x1 .f32 := shapeCast S512x1 v174 hc
  have cst_88 : Ideal .f32 := Scalar.ofBits .f32 0x44800000#32
  have v176 : FVec Ideal S512x1 .f32 := broadcast S512x1 cst_88
  have v177 : FVec Ideal S512x1 .f32 := divf v175 v176
  have cst_89 : Ideal .f32 := Scalar.ofBits .f32 0x3727C5AC#32
  have v178 : FVec Ideal S512x1 .f32 := broadcast S512x1 cst_89
  have v179 : FVec Ideal S512x1 .f32 := addf v177 v178
  have v180 : FVec Ideal S512x1 .f32 := rsqrt v179
  have v181 : FVec Ideal S512x1024 .f32 := broadcastTo S512x1024 v180 hb
  have v182 : FVec Ideal S512x1024 .f32 := mulf v172 v181
  have v183 : FVec Ideal S512x1024 .f32 := broadcastTo S512x1024 v164 hg
  mulf v182 v183

theorem normBlock_apply (hr : S512x1024.Reduces [1] S512) (hc : S512.ShapeCasts S512x1) (hb : S512x1.Broadcasts S512x1024)
    (hg : S1x1024.Broadcasts S512x1024) (hgg : S1x1024.ShapeCasts S1x1024) (y : FVec Ideal S512x1024 .f32)
    (g b : FVec Ideal S1x1024 .f32) (r : Fin 512) (n : Fin 1024) :
    addf (normBlock hr hc hb hg hgg y g) (broadcastTo S512x1024 (shapeCast S1x1024 b hgg) hg) (ix2 r n)
      = norm (fun k => y (ix2 r k)) (fun k => g (ix2 0 k)) (fun k => b (ix2 0 k)) n := by
  pointwise [normBlock, norm, mean]

/-! ## The layer norm in the references' host operations -/

abbrev S8x4096x1024 : Shape := ⟨3, ![8, 4096, 1024]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S0 : Shape := ⟨0, ![]⟩
abbrev S32768x1024 : Shape := ⟨2, ![32768, 1024]⟩

/-- The shapes' facts that the references' layer norm cites. -/
structure HostFacts : Prop where
  red : S8x4096x1024.ReducesTo [2] S8x4096
  pos : 0 < S0.numel
  col : S8x4096.BroadcastsInDim S8x4096x1 (![0, 1] : Fin 2 → Fin S8x4096x1.rank)
  one : S0.BroadcastsInDim S8x4096x1 (![] : Fin 0 → Fin S8x4096x1.rank)
  wide : S8x4096x1.BroadcastsInDim S8x4096x1024 (![0, 1, 2] : Fin 3 → Fin S8x4096x1024.rank)
  vec : S1024.BroadcastsInDim S1x1x1024 (![2] : Fin 1 → Fin S1x1x1024.rank)
  row : S1x1x1024.BroadcastsInDim S8x4096x1024 (![0, 1, 2] : Fin 3 → Fin S8x4096x1024.rank)
  flat : S8x4096x1024.ShapeCasts S32768x1024

/-- The references' mean of each row, in every element of the row's last axis kept as 1. -/
def meanHost (h : HostFacts) (y : FVec Ideal S8x4096x1024 .f32) : FVec Ideal S8x4096x1 .f32 :=
  Host.divf (broadcastInDim S8x4096x1 ![0, 1] h.col (Host.reduceAdd y (constant S0 .f32 0x00000000#32) h.red h.pos))
    (broadcastInDim S8x4096x1 ![] h.one (constant S0 .f32 0x44800000#32))

/-- The references' row minus its mean. -/
def centre (h : HostFacts) (y : FVec Ideal S8x4096x1024 .f32) : FVec Ideal S8x4096x1024 .f32 :=
  subf y (broadcastInDim S8x4096x1024 ![0, 1, 2] h.wide (meanHost h y))

/-- The references' layer norm, and the flattening of the two leading axes that ends it. -/
def normHost (h : HostFacts) (y : FVec Ideal S8x4096x1024 .f32) (g b : FVec Ideal S1024 .f32) : FVec Ideal S32768x1024 .f32 :=
  shapeCast S32768x1024 (addf (mulf (mulf (centre h y) (broadcastInDim S8x4096x1024 ![0, 1, 2] h.wide
      (Host.rsqrt (addf (meanHost h (mulf (centre h y) (centre h y)))
        (broadcastInDim S8x4096x1 ![] h.one (constant S0 .f32 0x3727C5AC#32))))))
      (broadcastInDim S8x4096x1024 ![0, 1, 2] h.row (broadcastInDim S1x1x1024 ![2] h.vec g)))
    (broadcastInDim S8x4096x1024 ![0, 1, 2] h.row (broadcastInDim S1x1x1024 ![2] h.vec b))) h.flat

/-- The sequence and the position in it of a row of the flattened array. -/
abbrev seqOf (r : Fin 32768) : Fin 8 := ⟨r.val / 4096, by omega⟩
abbrev posOf (r : Fin 32768) : Fin 4096 := ⟨r.val % 4096, by omega⟩

theorem normHost_apply (h : HostFacts) (y : FVec Ideal S8x4096x1024 .f32) (g b : FVec Ideal S1024 .f32) (r : Fin 32768)
    (n : Fin 1024) : normHost h y g b (ix2 r n)
      = norm (fun k => y (ix3 (seqOf r) (posOf r) k)) (fun k => g (ix1 k)) (fun k => b (ix1 k)) n := by
  pointwise [normHost, centre, meanHost, norm, mean]

end Cert.Rows

end
-- ==== Proof.Ffn.lean ====
/- The feed-forward call's value at `Ideal`: a grid point's block is the layer norm of alpha times a row plus half the
   gated feed-forward of the row. The body adds up eleven products over 256 hidden units each; read at an index these
   are one sum over the 2816 hidden units, the sum the reference's two products take. -/
module

public import proofs.«01_k».proof.Defs
public import proofs.«01_k».proof.Proof.Rows
public import proofs.«01_k».proof.Proof.Gen.Kernel2Ideal.Value
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Rows

/-- The `j`-th of a row's 5632 projections. -/
def proj (x : Fin 1024 → EReal) (wi : Fin 1024 → Fin 5632 → EReal) (j : Fin 5632) : EReal := ∑ i, x i * wi i j

/-- The `k`-th hidden unit of a row: gate times the gate's logistic times the linear part. -/
def unit (x : Fin 1024 → EReal) (wi : Fin 1024 → Fin 5632 → EReal) (k : Fin 2816) : EReal :=
  proj x wi ⟨k.val, by omega⟩ * Ideal.logistic (proj x wi ⟨k.val, by omega⟩) * proj x wi ⟨2816 + k.val, by omega⟩

/-- A row with its feed-forward added, before the layer norm. -/
def fed (x : Fin 1024 → EReal) (wi : Fin 1024 → Fin 5632 → EReal) (wo : Fin 2816 → Fin 1024 → EReal) (j : Fin 1024) : EReal :=
  Ideal.ofBits .f32 0x3FB504F3#32 * x j + Ideal.ofBits .f32 0x3F000000#32 * ∑ k, unit x wi k * wo k j

end Cert.Rows

namespace Cert.Kernel2Ideal.Ffn

open Cert.Kernel2Ideal Cert.Kernel2Ideal.Gen Cert.Rows

/-- One of the body's eleven steps: the accumulator plus the product of 256 hidden units with their rows of `w_out`. -/
def step (v2 : FVec Ideal S512x1024 .bf16) (acc : FVec Ideal S512x1024 .f32) (wa wb : FVec Ideal S1024x256 .bf16)
    (wo : FVec Ideal S256x1024 .bf16) : FVec Ideal S512x1024 .f32 :=
  have a : FVec Ideal S512x256 .f32 := matmul dot_S512x1024_S1024x256_S512x256_1_0_0_1_n_n none v2
    (shapeCast S1024x256 wa shapeCasts_S1024x256_S1024x256) (constant S512x256 .f32 0x00000000#32)
  have b : FVec Ideal S512x256 .f32 := matmul dot_S512x1024_S1024x256_S512x256_1_0_0_1_n_n none v2
    (shapeCast S1024x256 wb shapeCasts_S1024x256_S1024x256) (constant S512x256 .f32 0x00000000#32)
  addf acc (matmul dot_S512x256_S256x1024_S512x1024_1_0_0_1_n_n none (truncf .bf16 (mulf (mulf a (logistic a)) b) bitsLt_bf16_f32)
    (shapeCast S256x1024 wo shapeCasts_S256x1024_S256x1024) (constant S512x1024 .f32 0x00000000#32))

theorem step_apply (v2 : FVec Ideal S512x1024 .bf16) (acc : FVec Ideal S512x1024 .f32) (wa wb : FVec Ideal S1024x256 .bf16)
    (wo : FVec Ideal S256x1024 .bf16) (r : Fin 512) (n : Fin 1024) : step v2 acc wa wb wo (ix2 r n)
      = acc (ix2 r n) + ∑ k : Fin 256, (∑ i : Fin 1024, v2 (ix2 r i) * wa (ix2 i k))
          * Ideal.logistic (∑ i : Fin 1024, v2 (ix2 r i) * wa (ix2 i k))
          * (∑ i : Fin 1024, v2 (ix2 r i) * wb (ix2 i k)) * wo (ix2 k n) := by
  pointwise [step]

/-- The first `o` of a row's sum over the hidden units. -/
def part (x : FVec Ideal S512x1024 .f32) (wi : FVec Ideal S1024x5632 .bf16) (wo : FVec Ideal S2816x1024 .bf16) (r : Fin 512)
    (n : Fin 1024) (o : ℕ) (ho : o ≤ 2816) : EReal :=
  ∑ k : Fin o, Rows.unit (row x r) (ents wi) ⟨k.val, by omega⟩ * wo (ix2 ⟨k.val, by omega⟩ n)

/-- A step from the first `o` hidden units to the 256 after them. -/
theorem step_part (x : FVec Ideal S512x1024 .f32) (wi : FVec Ideal S1024x5632 .bf16) (wo : FVec Ideal S2816x1024 .bf16)
    (acc : FVec Ideal S512x1024 .f32) (r : Fin 512) (n : Fin 1024) (o : ℕ) (ho : o + 256 ≤ 2816)
    (ha : ∀ a, (![0, o] : Fin 2 → ℕ) a + S1024x256.size a ≤ S1024x5632.size a)
    (hb : ∀ a, (![0, 2816 + o] : Fin 2 → ℕ) a + S1024x256.size a ≤ S1024x5632.size a)
    (hw : ∀ a, (![o, 0] : Fin 2 → ℕ) a + S256x1024.size a ≤ S2816x1024.size a)
    (hacc : acc (ix2 r n) = part x wi wo r n o (by omega)) :
    step (truncf .bf16 (shapeCast S512x1024 x shapeCasts_S512x1024_S512x1024) bitsLt_bf16_f32) acc
        (cut wi (Rect.unit (s := S1024x5632) ![0, o] S1024x256.size ha))
        (cut wi (Rect.unit (s := S1024x5632) ![0, 2816 + o] S1024x256.size hb))
        (cut wo (Rect.unit (s := S2816x1024) ![o, 0] S256x1024.size hw)) (ix2 r n)
      = part x wi wo r n (o + 256) ho := by
  have hx : ∀ i : Fin 1024, (truncf .bf16 (shapeCast S512x1024 x shapeCasts_S512x1024_S512x1024) bitsLt_bf16_f32 :
      FVec Ideal S512x1024 .bf16) (ix2 r i) = x (ix2 r i) := fun i => by pointwise
  have hA : ∀ (i : Fin 1024) (k : Fin 256), cut wi (Rect.unit (s := S1024x5632) ![0, o] S1024x256.size ha) (ix2 i k)
      = wi (ix2 i ⟨o + k.val, by omega⟩) := fun i k => by
    refine congrArg wi (funext fun a => Fin.ext ?_)
    match a with
    | ⟨0, _⟩ => show 0 + 1 * i.val = i.val; omega
    | ⟨1, _⟩ => show o + 1 * k.val = o + k.val; omega
  have hB : ∀ (i : Fin 1024) (k : Fin 256), cut wi (Rect.unit (s := S1024x5632) ![0, 2816 + o] S1024x256.size hb) (ix2 i k)
      = wi (ix2 i ⟨2816 + (o + k.val), by omega⟩) := fun i k => by
    refine congrArg wi (funext fun a => Fin.ext ?_)
    match a with
    | ⟨0, _⟩ => show 0 + 1 * i.val = i.val; omega
    | ⟨1, _⟩ => show 2816 + o + 1 * k.val = 2816 + (o + k.val); omega
  have hW : ∀ k : Fin 256, cut wo (Rect.unit (s := S2816x1024) ![o, 0] S256x1024.size hw) (ix2 k n)
      = wo (ix2 ⟨o + k.val, by omega⟩ n) := fun k => by
    refine congrArg wo (funext fun a => Fin.ext ?_)
    match a with
    | ⟨0, _⟩ => show o + 1 * k.val = o + k.val; omega
    | ⟨1, _⟩ => show 0 + 1 * n.val = n.val; omega
  rw [step_apply, hacc]
  unfold part
  rw [sum_split (fun k : Fin 2816 => Rows.unit (row x r) (ents wi) k * wo (ix2 k n)) o 256 ho]
  refine congrArg (_ + ·) (Finset.sum_congr rfl fun k _ => ?_)
  rw [hW, Rows.unit, proj, proj]
  simp only [hx, hA, hB]

/-- The body's eleven steps from the zero block. -/
def acc (x0 : FVec Ideal S512x1024 .f32) (x1 : FVec Ideal S1024x5632 .bf16) (x2 : FVec Ideal S2816x1024 .bf16) :
    FVec Ideal S512x1024 .f32 :=
  have v2 : FVec Ideal S512x1024 .bf16 := truncf .bf16 (shapeCast S512x1024 x0 shapeCasts_S512x1024_S512x1024) bitsLt_bf16_f32
  step v2 (step v2 (step v2 (step v2 (step v2 (step v2 (step v2 (step v2 (step v2 (step v2 (step v2
    (broadcast S512x1024 (Scalar.ofBits .f32 0x00000000#32))
    (cut x1 r0_1) (cut x1 r0_2) (cut x2 r0_3))
    (cut x1 r0_4) (cut x1 r0_5) (cut x2 r0_6))
    (cut x1 r0_7) (cut x1 r0_8) (cut x2 r0_9))
    (cut x1 r0_10) (cut x1 r0_11) (cut x2 r0_12))
    (cut x1 r0_13) (cut x1 r0_14) (cut x2 r0_15))
    (cut x1 r0_16) (cut x1 r0_17) (cut x2 r0_18))
    (cut x1 r0_19) (cut x1 r0_20) (cut x2 r0_21))
    (cut x1 r0_22) (cut x1 r0_23) (cut x2 r0_24))
    (cut x1 r0_25) (cut x1 r0_26) (cut x2 r0_27))
    (cut x1 r0_28) (cut x1 r0_29) (cut x2 r0_30))
    (cut x1 r0_31) (cut x1 r0_32) (cut x2 r0_33)

theorem acc_apply (x0 : FVec Ideal S512x1024 .f32) (x1 : FVec Ideal S1024x5632 .bf16) (x2 : FVec Ideal S2816x1024 .bf16)
    (r : Fin 512) (n : Fin 1024) : acc x0 x1 x2 (ix2 r n) = part x0 x1 x2 r n 2816 (le_refl _) := by
  unfold acc
  refine step_part x0 x1 x2 _ r n 2560 (by omega) _ _ _ ?_
  refine step_part x0 x1 x2 _ r n 2304 (by omega) _ _ _ ?_
  refine step_part x0 x1 x2 _ r n 2048 (by omega) _ _ _ ?_
  refine step_part x0 x1 x2 _ r n 1792 (by omega) _ _ _ ?_
  refine step_part x0 x1 x2 _ r n 1536 (by omega) _ _ _ ?_
  refine step_part x0 x1 x2 _ r n 1280 (by omega) _ _ _ ?_
  refine step_part x0 x1 x2 _ r n 1024 (by omega) _ _ _ ?_
  refine step_part x0 x1 x2 _ r n 768 (by omega) _ _ _ ?_
  refine step_part x0 x1 x2 _ r n 512 (by omega) _ _ _ ?_
  refine step_part x0 x1 x2 _ r n 256 (by omega) _ _ _ ?_
  refine step_part x0 x1 x2 _ r n 0 (by omega) _ _ _ ?_
  unfold part
  rw [Fin.sum_univ_zero]
  pointwise

/-- Alpha times the row plus half the accumulated products. -/
def mid (x0 : FVec Ideal S512x1024 .f32) (a : FVec Ideal S512x1024 .f32) : FVec Ideal S512x1024 .f32 :=
  addf (mulf (broadcast S512x1024 (Scalar.ofBits .f32 0x3FB504F3#32)) (shapeCast S512x1024 x0 shapeCasts_S512x1024_S512x1024))
    (mulf (broadcast S512x1024 (Scalar.ofBits .f32 0x3F000000#32)) a)

theorem mid_apply (x0 : FVec Ideal S512x1024 .f32) (x1 : FVec Ideal S1024x5632 .bf16) (x2 : FVec Ideal S2816x1024 .bf16)
    (r : Fin 512) (n : Fin 1024) : mid x0 (acc x0 x1 x2) (ix2 r n) = fed (row x0 r) (ents x1) (ents x2) n := by
  have h := acc_apply x0 x1 x2 r n
  unfold part at h
  unfold mid fed
  rw [← h]
  pointwise

/-! The body's payloads, each as the steps it holds. -/

section
variable (v0 : FVec Ideal S512x1024 .f32) (v2 : FVec Ideal S512x1024 .bf16) (a : FVec Ideal S512x1024 .f32)
  (p q p' q' p'' q'' : FVec Ideal S1024x256 .bf16) (w w' w'' : FVec Ideal S256x1024 .bf16) (g : FVec Ideal S1x1024 .f32)

theorem pay4_eq : k0_pay4 (F := Ideal) v0 p q w p' q' w' = step (k0_pay3 (F := Ideal) v0) (step (k0_pay3 (F := Ideal) v0)
    (broadcast S512x1024 (Scalar.ofBits .f32 0x00000000#32)) p q w) p' q' w' := rfl

theorem pay6_eq : k0_pay6 (F := Ideal) (k0_pay3 (F := Ideal) v0) a (k0_pay5 (F := Ideal) v0 p) q w p' q' w'
    = step (k0_pay3 (F := Ideal) v0) (step (k0_pay3 (F := Ideal) v0) a p q w) p' q' w' := rfl

theorem pay9_eq : k0_pay9 (F := Ideal) v2 a (k0_pay7 (F := Ideal) v2 p q) (k0_pay8 (F := Ideal) w) p' q' w' p'' q'' w''
    = step v2 (step v2 (step v2 a p q w) p' q' w') p'' q'' w'' := rfl

theorem pay12_eq : k0_pay12 (F := Ideal) v2 a (k0_pay10 (F := Ideal) v2 p) (k0_pay11 (F := Ideal) q)
      (constant S512x256 .f32 0x00000000#32) w p' q' w' p'' q'' w''
    = step v2 (step v2 (step v2 a p q w) p' q' w') p'' q'' w'' := rfl

theorem pay13_eq : k0_pay13 (F := Ideal) (k0_pay2 (F := Ideal) v0) v2 a p q w g
    = normBlock reduces_S512x1024_S512 shapeCasts_S512_S512x1 broadcasts_S512x1_S512x1024 broadcasts_S1x1024_S512x1024
        shapeCasts_S1x1024_S1x1024 (mid v0 (step v2 a p q w)) g := rfl

end

/-- What the body leaves in the output block. -/
theorem out_eq (x0 : FVec Ideal S512x1024 .f32) (x1 : FVec Ideal S1024x5632 .bf16) (x2 : FVec Ideal S2816x1024 .bf16)
    (x3 x4 : FVec Ideal S1x1024 .f32) : out0_5 (F := Ideal) x0 x1 x2 x3 x4
      = addf (normBlock reduces_S512x1024_S512 shapeCasts_S512_S512x1 broadcasts_S512x1_S512x1024 broadcasts_S1x1024_S512x1024
          shapeCasts_S1x1024_S1x1024 (mid x0 (acc x0 x1 x2)) x3)
        (broadcastTo S512x1024 (shapeCast S1x1024 x4 shapeCasts_S1x1024_S1x1024) broadcasts_S1x1024_S512x1024) := by
  unfold out0_5 k0_pay15
  frame_out
  rw [pay4_eq, pay6_eq, pay9_eq, pay12_eq, pay13_eq]
  rfl

theorem out_apply (x0 : FVec Ideal S512x1024 .f32) (x1 : FVec Ideal S1024x5632 .bf16) (x2 : FVec Ideal S2816x1024 .bf16)
    (x3 x4 : FVec Ideal S1x1024 .f32) (r : Fin 512) (n : Fin 1024) : out0_5 (F := Ideal) x0 x1 x2 x3 x4 (ix2 r n)
      = norm (fed (row x0 r) (ents x1) (ents x2)) (ents x3 0) (ents x4 0) n := by
  rw [out_eq, normBlock_apply]
  simp only [mid_apply]

/-! ## The result array -/

/-- What the result array is shown to hold. -/
def G (x : FVec Ideal Rows.S8x4096x1024 .f32) (wi : FVec Ideal S1024x5632 .f32) (wo : FVec Ideal S2816x1024 .f32)
    (g b : FVec Ideal Rows.S1024 .f32) : FVec Ideal S32768x1024 .f32 := fun i =>
  norm (fed (fun k => x (ix3 (seqOf (i 0)) (posOf (i 0)) k)) (ents wi) (ents wo)) (fun k => g (ix1 k)) (fun k => b (ix1 k)) (i 1)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

theorem lt (t : Fin cfg0.N) (r : Fin 512) : t.val * 512 + r.val < 32768 := by
  have h : t.val < 64 := t.isLt
  omega

/-- A row of a grid point's input block is a row of the argument. -/
theorem iblk0_apply (c : Dev nD) (t : Fin cfg0.N) (r : Fin 512) (k : Fin 1024) :
    (iblk m c 0 t : FVec Ideal S512x1024 .f32) (ix2 r k) = (m ((c : Thread nD τ).loc main_arg0) :
      FVec Ideal Rows.S8x4096x1024 .f32) (ix3 (seqOf ⟨_, lt t r⟩) (posOf ⟨_, lt t r⟩) k) := by
  blk_point [iblk, V, idx t]

theorem iblk1_apply (c : Dev nD) (t : Fin cfg0.N) (i : Fin 1024) (k : Fin 5632) :
    (iblk m c 1 t : FVec Ideal S1024x5632 .bf16) (ix2 i k) = (m ((c : Thread nD τ).loc main_arg1) :
      FVec Ideal S1024x5632 .f32) (ix2 i k) := by
  blk_point [iblk, V, idx t]

theorem iblk2_apply (c : Dev nD) (t : Fin cfg0.N) (i : Fin 2816) (k : Fin 1024) :
    (iblk m c 2 t : FVec Ideal S2816x1024 .bf16) (ix2 i k) = (m ((c : Thread nD τ).loc main_arg2) :
      FVec Ideal S2816x1024 .f32) (ix2 i k) := by
  blk_point [iblk, V, idx t]

theorem iblk3_apply (c : Dev nD) (t : Fin cfg0.N) (k : Fin 1024) :
    (iblk m c 3 t : FVec Ideal S1x1024 .f32) (ix2 0 k) = (m ((c : Thread nD τ).loc main_arg3) :
      FVec Ideal Rows.S1024 .f32) (ix1 k) := by
  blk_point [iblk, V, idx t]

theorem iblk4_apply (c : Dev nD) (t : Fin cfg0.N) (k : Fin 1024) :
    (iblk m c 4 t : FVec Ideal S1x1024 .f32) (ix2 0 k) = (m ((c : Thread nD τ).loc main_arg4) :
      FVec Ideal Rows.S1024 .f32) (ix1 k) := by
  blk_point [iblk, V, idx t]

/-- A grid point's block of the result, from the argument's rows. -/
theorem point (c : Dev nD) (t : Fin cfg0.N) (r : Fin 512) (n : Fin 1024) :
    out0_5 (F := Ideal) (iblk m c 0 t) (iblk m c 1 t) (iblk m c 2 t) (iblk m c 3 t) (iblk m c 4 t) (ix2 r n)
      = G (m ((c : Thread nD τ).loc main_arg0)) (m ((c : Thread nD τ).loc main_arg1)) (m ((c : Thread nD τ).loc main_arg2))
          (m ((c : Thread nD τ).loc main_arg3)) (m ((c : Thread nD τ).loc main_arg4)) (ix2 ⟨_, lt t r⟩ n) := by
  refine (out_apply _ _ _ _ _ r n).trans ?_
  have h0 : row (iblk m c 0 t) r = _ := funext fun k => iblk0_apply m c t r k
  have h1 : ents (φ := .bf16) (iblk m c 1 t : FVec Ideal S1024x5632 .bf16) = _ := funext fun i => funext fun k => iblk1_apply m c t i k
  have h2 : ents (φ := .bf16) (iblk m c 2 t : FVec Ideal S2816x1024 .bf16) = _ := funext fun i => funext fun k => iblk2_apply m c t i k
  have h3 : ents (φ := .f32) (iblk m c 3 t : FVec Ideal S1x1024 .f32) 0 = _ := funext fun k => iblk3_apply m c t k
  have h4 : ents (φ := .f32) (iblk m c 4 t : FVec Ideal S1x1024 .f32) 0 = _ := funext fun k => iblk4_apply m c t k
  rw [h0, h1, h2, h3, h4]
  rfl

theorem final (c : Dev nD) : (dats m 0 c).arrAt 5 cfg0.N = G (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t _ y => ?_
  blk_simp
  rw [after0_5]
  idx_vars y
  refine (point m c t y0 y1).trans ?_
  blk_ext [idx t]

/-! ## The reference -/

open Cert.Reference2Ideal.Gen in
/-- The reference's rows before its layer norm. -/
def hostFed (x : FVec Ideal Rows.S8x4096x1024 .f32) (wi : FVec Ideal S1024x5632 .f32) (wo : FVec Ideal S2816x1024 .f32) :
    FVec Ideal Rows.S8x4096x1024 .f32 :=
  have p : FVec Ideal Reference2Ideal.S8x4096x5632 .f32 :=
    Host.dotGeneral Reference2Ideal.dot_S8x4096x1024_S1024x5632_S8x4096x5632_2_0_01_1_n_n none x wi
  have a : FVec Ideal Reference2Ideal.S8x4096x2816 .f32 :=
    extractStridedSlice Reference2Ideal.S8x4096x2816 ![0, 0, 0] p slices_S8x4096x5632_S8x4096x2816_0_0_0
  have one : FVec Ideal Reference2Ideal.S8x4096x2816 .f32 :=
    broadcastInDim Reference2Ideal.S8x4096x2816 ![] bcast_S_S8x4096x2816 (constant Rows.S0 .f32 0x3F800000#32)
  addf (mulf (broadcastInDim Rows.S8x4096x1024 ![] bcast_S_S8x4096x1024 (constant Rows.S0 .f32 0x3FB504F3#32)) x)
    (mulf (broadcastInDim Rows.S8x4096x1024 ![] bcast_S_S8x4096x1024 (constant Rows.S0 .f32 0x3F000000#32))
      (Host.dotGeneral Reference2Ideal.dot_S8x4096x2816_S2816x1024_S8x4096x1024_2_0_01_1_n_n none
        (mulf (mulf a (Host.divf one (addf one (Host.exp (Host.negf a)))))
          (extractStridedSlice Reference2Ideal.S8x4096x2816 ![0, 0, 2816] p slices_S8x4096x5632_S8x4096x2816_0_0_2816)) wo))

theorem hostFed_apply (x : FVec Ideal Rows.S8x4096x1024 .f32) (wi : FVec Ideal S1024x5632 .f32)
    (wo : FVec Ideal S2816x1024 .f32) (b : Fin 8) (s : Fin 4096) (n : Fin 1024) : hostFed x wi wo (ix3 b s n)
      = fed (fun k => x (ix3 b s k)) (ents wi) (ents wo) n := by
  pointwise [hostFed, fed, Rows.unit, proj, Ideal.logistic]

open Cert.Reference2Ideal.Gen in
theorem facts : HostFacts := ⟨reducesTo_S8x4096x1024_S8x4096_d2, h_S_, bcast_S8x4096_S8x4096x1_0_1, bcast_S_S8x4096x1,
  bcast_S8x4096x1_S8x4096x1024_0_1_2, bcast_S1024_S1x1x1024_2, bcast_S1x1x1024_S8x4096x1024_0_1_2,
  Reference2Ideal.Gen.shapeCasts_S8x4096x1024_S32768x1024⟩

theorem ref_eq (m' : (ℓ : Loc Reference2Ideal.nD Reference2Ideal.τ Reference2Ideal.sig) → Buf (Elt Ideal) ℓ)
    (c : Dev Reference2Ideal.nD) : Reference2Ideal.Value.res_out0 m' c
      = normHost facts (hostFed (m' ((c.tc : Thread Reference2Ideal.nD Reference2Ideal.τ).loc Reference2Ideal.main_arg0))
          (m' ((c.tc : Thread Reference2Ideal.nD Reference2Ideal.τ).loc Reference2Ideal.main_arg1))
          (m' ((c.tc : Thread Reference2Ideal.nD Reference2Ideal.τ).loc Reference2Ideal.main_arg2)))
        (m' ((c.tc : Thread Reference2Ideal.nD Reference2Ideal.τ).loc Reference2Ideal.main_arg3))
        (m' ((c.tc : Thread Reference2Ideal.nD Reference2Ideal.τ).loc Reference2Ideal.main_arg4)) := by
  with_unfolding_all rfl

theorem host_eq (x : FVec Ideal Rows.S8x4096x1024 .f32) (wi : FVec Ideal S1024x5632 .f32) (wo : FVec Ideal S2816x1024 .f32)
    (g b : FVec Ideal Rows.S1024 .f32) : normHost facts (hostFed x wi wo) g b = G x wi wo g b := by
  funext i
  idx_vars i
  refine (normHost_apply _ _ _ _ _ _).trans ?_
  simp only [hostFed_apply]
  rfl

/-- At `Ideal` the feed-forward call's result array and the reference's agree. -/
theorem algebraic : Cert.algebraic_Kernel2Ideal_Reference2Ideal := by
  pair_intro
  · run_from Cert.Kernel2Ideal.Value.run_blocks m g
  · run_from Cert.Reference2Ideal.Value.run m' g'
    rw [final m c]
    obtain ⟨h0, h1, h2, h3, h4⟩ := hagree c
    refine (ref_eq m' c).trans ((host_eq _ _ _ _ _).trans ?_)
    rw [h0, h1, h2, h3, h4]

end Cert.Kernel2Ideal.Ffn

end
-- ==== Proof.Merge.lean ====
/- The branch merge at `Ideal`: each row of the result is the layer norm of the row with its three gated branches added,
   on the kernel's side through the halo that one block of 512 rows hands to the next, and on the reference's through
   two rows of zeros before each sequence. -/
module

public import proofs.«01_k».proof.Defs
public import proofs.«01_k».proof.Proof.Rows
public import proofs.«01_k».proof.Proof.Gen.Kernel3Ideal.Value
public import proofs.«01_k».proof.Proof.Gen.Reference3Ideal.Run
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Rows

/-- The `j`-th of a row's 4608 projections. -/
def prj (x : Fin 1024 → EReal) (w : Fin 1024 → Fin 4608 → EReal) (j : Fin 4608) : EReal := ∑ i, x i * w i j

/-- What a row gives to the convolution. -/
def zed (x : Fin 1024 → EReal) (w : Fin 1024 → Fin 4608 → EReal) (c : Fin 512) : EReal :=
  prj x w ⟨512 + c.val, by omega⟩ * prj x w ⟨1024 + c.val, by omega⟩

/-- The convolution branch of a row, from what the two rows before it give. -/
def conv (x : Fin 1024 → EReal) (w : Fin 1024 → Fin 4608 → EReal) (cw : Fin 3 → Fin 512 → EReal) (z2 z1 : Fin 512 → EReal)
    (c : Fin 512) : EReal :=
  prj x w ⟨c.val, by omega⟩ * (cw 0 c * z2 c + cw 1 c * z1 c + cw 2 c * zed x w c)

/-- A branch through its gate, whose projections start at `o`. -/
def gated (x : Fin 1024 → EReal) (w : Fin 1024 → Fin 4608 → EReal) (o : ℕ) (ho : o + 1024 ≤ 4608) (bg : Fin 1024 → EReal)
    (y : Fin 512 → EReal) (wb : Fin 512 → Fin 1024 → EReal) (n : Fin 1024) : EReal :=
  Ideal.logistic (prj x w ⟨o + n.val, by omega⟩ + bg n) * ∑ k, y k * wb k n

/-- The three branches of a row. -/
def merged (x : Fin 1024 → EReal) (ya yb : Fin 512 → EReal) (w : Fin 1024 → Fin 4608 → EReal) (cw : Fin 3 → Fin 512 → EReal)
    (bg : Fin 3 → Fin 1024 → EReal) (wb : Fin 3 → Fin 512 → Fin 1024 → EReal) (z2 z1 : Fin 512 → EReal) (n : Fin 1024) : EReal :=
  gated x w 1536 (by omega) (bg 0) ya (wb 0) n + gated x w 2560 (by omega) (bg 1) yb (wb 1) n
    + gated x w 3584 (by omega) (bg 2) (conv x w cw z2 z1) (wb 2) n

/-- A row with its branches added, before the layer norm. -/
def mixed (x : Fin 1024 → EReal) (ya yb : Fin 512 → EReal) (w : Fin 1024 → Fin 4608 → EReal) (cw : Fin 3 → Fin 512 → EReal)
    (bg : Fin 3 → Fin 1024 → EReal) (wb : Fin 3 → Fin 512 → Fin 1024 → EReal) (wo : Fin 1024 → Fin 1024 → EReal)
    (z2 z1 : Fin 512 → EReal) (n : Fin 1024) : EReal :=
  Ideal.ofBits .f32 0x3FB504F3#32 * x n + ∑ k, merged x ya yb w cw bg wb z2 z1 k * wo k n

end Cert.Rows

namespace Cert.Kernel3Ideal.Merge

open Cert.Kernel3Ideal Cert.Kernel3Ideal.Gen Cert.Rows

/-- A row's number compared with a small number selects as the numbers do. -/
theorem sel (r : Fin 512) (n : ℕ) (hn : n < 512) (p q : EReal) :
    Scalar.select (IntOp.cmpi CmpIPredicate.eq (BitVec.ofNat 32 r.val) (BitVec.ofNat 32 n)) p q = if r.val = n then p else q := by
  have h : (BitVec.ofNat 32 r.val = BitVec.ofNat 32 n) ↔ r.val = n := by
    rw [← BitVec.toNat_inj, BitVec.toNat_ofNat, BitVec.toNat_ofNat, Nat.mod_eq_of_lt (by omega), Nat.mod_eq_of_lt (by omega)]
  by_cases e : r.val = n
  · rw [if_pos e]; simp [Scalar.select, IntOp.cmpi, h, e]
  · have hb : (BitVec.ofNat 32 r.val == BitVec.ofNat 32 n) = false := beq_eq_false_iff_ne.mpr fun q => e (h.mp q)
    rw [if_neg e]; simp [Scalar.select, IntOp.cmpi, hb]

theorem pay5_apply (x0 : FVec Ideal S512x1024 .f32) (w : FVec Ideal S1024x4608 .bf16) (r c : Fin 512) :
    k0_pay5 (F := Ideal) x0 (cut w (Rect.unit ![0, 0] ![1024, 512] inb_S1024x4608_S1024x512_0_0)) (ix2 r c)
      = prj (row x0 r) (ents w) ⟨c.val, by omega⟩ := by
  pointwise [k0_pay5, k0_pay3, k0_pay2, prj, cut]

theorem pay6_apply (x0 : FVec Ideal S512x1024 .f32) (w : FVec Ideal S1024x4608 .bf16) (r c : Fin 512) :
    k0_pay6 (F := Ideal) x0 (cut w (Rect.unit ![0, 512] ![1024, 512] inb_S1024x4608_S1024x512_0_512))
        (cut w (Rect.unit ![0, 1024] ![1024, 512] inb_S1024x4608_S1024x512_0_1024)) (ix2 r c)
      = zed (row x0 r) (ents w) c := by
  pointwise [k0_pay6, k0_pay3, k0_pay2, prj, cut, zed]

theorem pay7_apply (x0 : FVec Ideal S512x1024 .f32) (p q : FVec Ideal S1024x512 .bf16) (h : FVec Ideal S8x512 .f32) (r c : Fin 512) :
    k0_pay7 (F := Ideal) x0 p q h (ix2 r c)
      = if r.val = 0 then h (ix2 7 c) else k0_pay6 (F := Ideal) x0 p q (ix2 ⟨(r.val + 512 - 1) % 512, by omega⟩ c) := by
  pointwise [k0_pay7]
  rw [sel r 0 (by omega)]

theorem pay12_apply (v18 v25 v34 : FVec Ideal S512x512 .f32) (h : FVec Ideal S8x512 .f32) (a b d : FVec Ideal S1x512 .f32) (r c : Fin 512) :
    k0_pay12 (F := Ideal) v18 v25 h (iota Kind.tc S512x512 32 [0] iota_S512x512_d0_w32) v34 a b d (ix2 r c)
      = v18 (ix2 r c) * (a (ix2 0 c) * (if r.val = 0 then h (ix2 6 c) else if r.val = 1 then h (ix2 7 c)
            else v25 (ix2 ⟨(r.val + 512 - 2) % 512, by omega⟩ c)) + b (ix2 0 c) * v34 (ix2 r c) + d (ix2 0 c) * v25 (ix2 r c)) := by
  pointwise [k0_pay12]
  rw [sel r 0 (by omega), sel r 1 (by omega)]

theorem pay8_apply (v25 : FVec Ideal S512x512 .f32) (j : Fin 8) (c : Fin 512) :
    k0_pay8 (F := Ideal) v25 (ix2 j c) = v25 (ix2 ⟨504 + j.val, by omega⟩ c) := by
  pointwise [k0_pay8]

/-- What the row before gives, the row before a block's first being the halo's last. -/
def prev1 (x0 : FVec Ideal S512x1024 .f32) (w : FVec Ideal S1024x4608 .bf16) (h : FVec Ideal S8x512 .f32) (r : Fin 512) (c : Fin 512) :
    EReal := if r.val = 0 then h (ix2 7 c) else zed (row x0 ⟨r.val - 1, by omega⟩) (ents w) c

/-- What the row before that gives. -/
def prev2 (x0 : FVec Ideal S512x1024 .f32) (w : FVec Ideal S1024x4608 .bf16) (h : FVec Ideal S8x512 .f32) (r : Fin 512) (c : Fin 512) :
    EReal := if r.val = 0 then h (ix2 6 c) else if r.val = 1 then h (ix2 7 c) else zed (row x0 ⟨r.val - 2, by omega⟩) (ents w) c

/-- The block's contributions to the convolution. -/
def zblk (x0 : FVec Ideal S512x1024 .f32) (x3 : FVec Ideal S1024x4608 .bf16) : FVec Ideal S512x512 .f32 :=
  k0_pay6 (F := Ideal) x0 (cut x3 (Rect.unit ![0, 512] ![1024, 512] inb_S1024x4608_S1024x512_0_512))
    (cut x3 (Rect.unit ![0, 1024] ![1024, 512] inb_S1024x4608_S1024x512_0_1024))

/-- The convolution's block. -/
def cblk (x0 : FVec Ideal S512x1024 .f32) (x3 : FVec Ideal S1024x4608 .bf16) (x4 : FVec Ideal S3x512 .f32) (h : FVec Ideal S8x512 .f32) :
    FVec Ideal S512x512 .bf16 :=
  k0_pay12 (F := Ideal) (k0_pay5 (F := Ideal) x0 (cut x3 (Rect.unit ![0, 0] ![1024, 512] inb_S1024x4608_S1024x512_0_0))) (zblk x0 x3)
    h (iota Kind.tc S512x512 32 [0] iota_S512x512_d0_w32)
    (k0_pay7 (F := Ideal) x0 (cut x3 (Rect.unit ![0, 512] ![1024, 512] inb_S1024x4608_S1024x512_0_512))
      (cut x3 (Rect.unit ![0, 1024] ![1024, 512] inb_S1024x4608_S1024x512_0_1024)) h)
    (cutf x4 (Rect.unit ![0, 0] ![1, 512] inb_S3x512_S1x512_0_0)) (cutf x4 (Rect.unit ![1, 0] ![1, 512] inb_S3x512_S1x512_1_0))
    (cutf x4 (Rect.unit ![2, 0] ![1, 512] inb_S3x512_S1x512_2_0))

theorem cut4_apply (x4 : FVec Ideal S3x512 .f32) (c : Fin 512) :
    cutf x4 (Rect.unit ![0, 0] ![1, 512] inb_S3x512_S1x512_0_0) (ix2 0 c) = x4 (ix2 0 c)
      ∧ cutf x4 (Rect.unit ![1, 0] ![1, 512] inb_S3x512_S1x512_1_0) (ix2 0 c) = x4 (ix2 1 c)
      ∧ cutf x4 (Rect.unit ![2, 0] ![1, 512] inb_S3x512_S1x512_2_0) (ix2 0 c) = x4 (ix2 2 c) := by
  refine ⟨?_, ?_, ?_⟩ <;> pointwise [cutf]

theorem cblk_apply (x0 : FVec Ideal S512x1024 .f32) (x3 : FVec Ideal S1024x4608 .bf16) (x4 : FVec Ideal S3x512 .f32)
    (h : FVec Ideal S8x512 .f32) (r c : Fin 512) : cblk x0 x3 x4 h (ix2 r c)
      = conv (row x0 r) (ents x3) (ents x4) (prev2 x0 x3 h r) (prev1 x0 x3 h r) c := by
  unfold cblk zblk
  rw [pay12_apply, pay7_apply, pay5_apply]
  simp only [pay6_apply, (cut4_apply x4 c).1, (cut4_apply x4 c).2.1, (cut4_apply x4 c).2.2]
  unfold conv prev1 prev2
  have e1 : ∀ h1 : r.val ≠ 0, (r.val + 512 - 1) % 512 = r.val - 1 := by intro; omega
  have e2 : ∀ (h1 : r.val ≠ 0) (h2 : r.val ≠ 1), (r.val + 512 - 2) % 512 = r.val - 2 := by intros; omega
  by_cases h1 : r.val = 0
  · simp only [h1, if_true, ents]
  · by_cases h2 : r.val = 1
    · simp only [if_neg h1, if_pos h2, ents, e1 h1]
    · simp only [if_neg h1, if_neg h2, ents, e1 h1, e2 h1 h2]

/-- The three branches' block. -/
def mblk (x0 : FVec Ideal S512x1024 .f32) (x1 x2 : FVec Ideal S512x512 .bf16) (x3 : FVec Ideal S1024x4608 .bf16)
    (v69 : FVec Ideal S512x512 .bf16) (x5 : FVec Ideal S3x1024 .f32) (x6 : FVec Ideal S3x512x1024 .bf16) : FVec Ideal S512x1024 .bf16 :=
  k0_pay15 (F := Ideal) (k0_pay3 (F := Ideal) x0) (k0_pay9 (F := Ideal)) (k0_pay10 (F := Ideal) x1) (k0_pay11 (F := Ideal) x2) v69
    (k0_pay13 (F := Ideal) (k0_pay3 (F := Ideal) x0) (cut x3 (Rect.unit ![0, 1536] ![1024, 1024] inb_S1024x4608_S1024x1024_0_1536)))
    (cutf x5 (Rect.unit ![0, 0] ![1, 1024] inb_S3x1024_S1x1024_0_0))
    (cut x6 (Rect.unit ![0, 0, 0] ![1, 512, 1024] inb_S3x512x1024_S1x512x1024_0_0_0))
    (cut x3 (Rect.unit ![0, 2560] ![1024, 1024] inb_S1024x4608_S1024x1024_0_2560))
    (cutf x5 (Rect.unit ![1, 0] ![1, 1024] inb_S3x1024_S1x1024_1_0))
    (cut x6 (Rect.unit ![1, 0, 0] ![1, 512, 1024] inb_S3x512x1024_S1x512x1024_1_0_0))
    (cut x3 (Rect.unit ![0, 3584] ![1024, 1024] inb_S1024x4608_S1024x1024_0_3584))
    (cutf x5 (Rect.unit ![2, 0] ![1, 1024] inb_S3x1024_S1x1024_2_0))
    (cut x6 (Rect.unit ![2, 0, 0] ![1, 512, 1024] inb_S3x512x1024_S1x512x1024_2_0_0))

theorem mblk_apply (x0 : FVec Ideal S512x1024 .f32) (x1 x2 : FVec Ideal S512x512 .bf16) (x3 : FVec Ideal S1024x4608 .bf16)
    (v69 : FVec Ideal S512x512 .bf16) (x5 : FVec Ideal S3x1024 .f32) (x6 : FVec Ideal S3x512x1024 .bf16) (r : Fin 512) (n : Fin 1024) :
    mblk x0 x1 x2 x3 v69 x5 x6 (ix2 r n)
      = gated (row x0 r) (ents x3) 1536 (by omega) (ents x5 0) (ents x1 r) (ents3 x6 0) n
        + gated (row x0 r) (ents x3) 2560 (by omega) (ents x5 1) (ents x2 r) (ents3 x6 1) n
        + gated (row x0 r) (ents x3) 3584 (by omega) (ents x5 2) (ents v69 r) (ents3 x6 2) n := by
  pointwise [mblk, k0_pay15, k0_pay9, k0_pay10, k0_pay11, k0_pay13, k0_pay3, k0_pay2, gated, prj, cut, cutf, Ideal.logistic]

/-- The block before the layer norm. -/
def yblk (x0 : FVec Ideal S512x1024 .f32) (v108 : FVec Ideal S512x1024 .bf16) (x7 : FVec Ideal S1024x1024 .bf16) :
    FVec Ideal S512x1024 .f32 :=
  addf (k0_pay14 (F := Ideal) (k0_pay2 (F := Ideal) x0))
    (matmul dot_S512x1024_S1024x1024_S512x1024_1_0_0_1_n_n none v108
      (shapeCast S1024x1024 x7 shapeCasts_S1024x1024_S1024x1024) (constant S512x1024 .f32 0x00000000#32))

theorem yblk_apply (x0 : FVec Ideal S512x1024 .f32) (v108 : FVec Ideal S512x1024 .bf16) (x7 : FVec Ideal S1024x1024 .bf16)
    (r : Fin 512) (n : Fin 1024) : yblk x0 v108 x7 (ix2 r n)
      = Ideal.ofBits .f32 0x3FB504F3#32 * x0 (ix2 r n) + ∑ k : Fin 1024, v108 (ix2 r k) * x7 (ix2 k n) := by
  pointwise [yblk, k0_pay14, k0_pay2]

theorem pay1_eq (x0 : FVec Ideal S512x1024 .f32) (v108 : FVec Ideal S512x1024 .bf16) (x7 : FVec Ideal S1024x1024 .bf16)
    (x8 x9 : FVec Ideal S1x1024 .f32) : k0_pay1 (F := Ideal) (k0_pay14 (F := Ideal) (k0_pay2 (F := Ideal) x0)) v108 x7 x8 x9
      = addf (normBlock reduces_S512x1024_S512 shapeCasts_S512_S512x1 broadcasts_S512x1_S512x1024 broadcasts_S1x1024_S512x1024
          shapeCasts_S1x1024_S1x1024 (yblk x0 v108 x7) x8)
        (broadcastTo S512x1024 (shapeCast S1x1024 x9 shapeCasts_S1x1024_S1x1024) broadcasts_S1x1024_S512x1024) := rfl

/-- What the body leaves in the output block, from its operands' blocks and the halo. -/
def body (x0 : FVec Ideal S512x1024 .f32) (x1 x2 : FVec Ideal S512x512 .bf16) (x3 : FVec Ideal S1024x4608 .bf16)
    (x4 : FVec Ideal S3x512 .f32) (x5 : FVec Ideal S3x1024 .f32) (x6 : FVec Ideal S3x512x1024 .bf16) (x7 : FVec Ideal S1024x1024 .bf16)
    (x8 x9 : FVec Ideal S1x1024 .f32) (h : FVec Ideal S8x512 .f32) : FVec Ideal S512x1024 .f32 :=
  k0_pay1 (F := Ideal) (k0_pay14 (F := Ideal) (k0_pay2 (F := Ideal) x0)) (mblk x0 x1 x2 x3 (cblk x0 x3 x4 h) x5 x6) x7 x8 x9

theorem body_apply (x0 : FVec Ideal S512x1024 .f32) (x1 x2 : FVec Ideal S512x512 .bf16) (x3 : FVec Ideal S1024x4608 .bf16)
    (x4 : FVec Ideal S3x512 .f32) (x5 : FVec Ideal S3x1024 .f32) (x6 : FVec Ideal S3x512x1024 .bf16) (x7 : FVec Ideal S1024x1024 .bf16)
    (x8 x9 : FVec Ideal S1x1024 .f32) (h : FVec Ideal S8x512 .f32) (r : Fin 512) (n : Fin 1024) :
    body x0 x1 x2 x3 x4 x5 x6 x7 x8 x9 h (ix2 r n)
      = norm (mixed (row x0 r) (ents x1 r) (ents x2 r) (ents x3) (ents x4) (ents x5) (ents3 x6) (ents x7) (prev2 x0 x3 h r)
          (prev1 x0 x3 h r)) (ents x8 0) (ents x9 0) n := by
  unfold body
  rw [pay1_eq, normBlock_apply]
  refine congrArg (fun y => norm y _ _ n) (funext fun k => ?_)
  rw [yblk_apply]
  unfold mixed merged
  refine congrArg (_ + ·) (Finset.sum_congr rfl fun j _ => ?_)
  rw [mblk_apply]
  have e : ents (φ := .bf16) (cblk x0 x3 x4 h) r = _ := funext fun c => cblk_apply x0 x3 x4 h r c
  rw [e]

variable (m : (ℓ : Loc nD τ sig) → Buf (Elt Ideal) ℓ)

/-- The halo that a grid point leaves: its block's last eight contributions. -/
theorem halo_eq (c : Dev nD) (t : Fin cfg0.N) :
    (outsAt0 m c t.val t.isLt).2 = k0_pay8 (F := Ideal) (zblk (iblk m c 0 t) (iblk m c 3 t)) := by
  by_cases h : t.val % 8 = 0
  · rw [outsAt0_A m c t h]
    frame_out
    rfl
  · rw [outsAt0_B m c t h]
    frame_out
    rfl

/-- The block that a sequence's first grid point leaves. -/
theorem out_head (c : Dev nD) (t : Fin cfg0.N) (h : t.val % 8 = 0) :
    (outsAt0 m c t.val t.isLt).1 = body (iblk m c 0 t) (iblk m c 1 t) (iblk m c 2 t) (iblk m c 3 t) (iblk m c 4 t) (iblk m c 5 t)
      (iblk m c 6 t) (iblk m c 7 t) (iblk m c 8 t) (iblk m c 9 t) (k0_pay4 (F := Ideal)) := by
  rw [outsAt0_A m c t h]
  frame_out
  rfl

/-- The block that a later grid point leaves, from the halo of the point before it. -/
theorem out_next (c : Dev nD) (t : Fin cfg0.N) (h : ¬ t.val % 8 = 0) :
    (outsAt0 m c t.val t.isLt).1 = body (iblk m c 0 t) (iblk m c 1 t) (iblk m c 2 t) (iblk m c 3 t) (iblk m c 4 t) (iblk m c 5 t)
      (iblk m c 6 t) (iblk m c 7 t) (iblk m c 8 t) (iblk m c 9 t) (outsAt0 m c (t.val - 1) (Nat.lt_of_le_of_lt (Nat.sub_le _ _) t.isLt)).2 := by
  rw [outsAt0_B m c t h]
  frame_out
  simp only [read_unread_whole]
  rfl

/-! ## The result array -/

/-- Row `R` of the flattened activations. -/
def xrow (x : FVec Ideal Rows.S8x4096x1024 .f32) (R : ℕ) (k : Fin 1024) : EReal := x (ix3 ⟨R / 4096 % 8, by omega⟩ ⟨R % 4096, by omega⟩ k)

/-- Row `R` of a flattened branch. -/
def brow (y : FVec Ideal S8x4096x512 .bf16) (R : ℕ) (k : Fin 512) : EReal := y (ix3 ⟨R / 4096 % 8, by omega⟩ ⟨R % 4096, by omega⟩ k)

/-- The columns of the mixer's input weight that the merge multiplies by. -/
def cols (w : FVec Ideal S1024x7368 .f32) (i : Fin 1024) (j : Fin 4608) : EReal := w (ix2 i ⟨2760 + j.val, by omega⟩)

/-- What the row `n` before row `R` gives to the convolution: zero before the sequence's head. -/
def back (x : FVec Ideal Rows.S8x4096x1024 .f32) (w : FVec Ideal S1024x7368 .f32) (n R : ℕ) (c : Fin 512) : EReal :=
  if R % 4096 < n then 0 else zed (xrow x (R - n)) (cols w) c

/-- What the result array is shown to hold. -/
def G (x : FVec Ideal Rows.S8x4096x1024 .f32) (ya yb : FVec Ideal S8x4096x512 .bf16) (w : FVec Ideal S1024x7368 .f32)
    (bg : FVec Ideal S3x1024 .f32) (cw : FVec Ideal S3x512 .f32) (wb : FVec Ideal S3x512x1024 .f32) (wo : FVec Ideal S1024x1024 .f32)
    (g b : FVec Ideal Rows.S1024 .f32) : FVec Ideal S32768x1024 .f32 := fun i =>
  norm (mixed (xrow x (i 0).val) (brow ya (i 0).val) (brow yb (i 0).val) (cols w) (ents cw) (ents bg) (ents3 wb) (ents wo)
    (back x w 2 (i 0).val) (back x w 1 (i 0).val)) (fun k => g (ix1 k)) (fun k => b (ix1 k)) (i 1)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![t.val, 0] :=
  (by decide +kernel : ∀ t : Fin grid0.N, _)

theorem tlt (t : Fin cfg0.N) : t.val < 64 := t.isLt

theorem iblk0_row (c : Dev nD) (t : Fin cfg0.N) (r : Fin 512) :
    row (iblk m c 0 t : FVec Ideal S512x1024 .f32) r = xrow (m ((c : Thread nD τ).loc main_arg0)) (t.val * 512 + r.val) := by
  have := tlt t
  funext k
  unfold xrow
  rw [show (⟨(t.val * 512 + r.val) / 4096 % 8, by omega⟩ : Fin 8) = ⟨(t.val * 512 + r.val) / 4096, by omega⟩ from Fin.ext (by dsimp only; omega)]
  show (iblk m c 0 t : FVec Ideal S512x1024 .f32) (ix2 r k) = _
  blk_point [iblk, V, idx t]

theorem iblk1_row (c : Dev nD) (t : Fin cfg0.N) (r : Fin 512) :
    ents (φ := .bf16) (iblk m c 1 t : FVec Ideal S512x512 .bf16) r = brow (m ((c : Thread nD τ).loc main_arg1)) (t.val * 512 + r.val) := by
  have := tlt t
  funext k
  unfold brow
  rw [show (⟨(t.val * 512 + r.val) / 4096 % 8, by omega⟩ : Fin 8) = ⟨(t.val * 512 + r.val) / 4096, by omega⟩ from Fin.ext (by dsimp only; omega)]
  show (iblk m c 1 t : FVec Ideal S512x512 .bf16) (ix2 r k) = _
  blk_point [iblk, V, idx t]

theorem iblk2_row (c : Dev nD) (t : Fin cfg0.N) (r : Fin 512) :
    ents (φ := .bf16) (iblk m c 2 t : FVec Ideal S512x512 .bf16) r = brow (m ((c : Thread nD τ).loc main_arg2)) (t.val * 512 + r.val) := by
  have := tlt t
  funext k
  unfold brow
  rw [show (⟨(t.val * 512 + r.val) / 4096 % 8, by omega⟩ : Fin 8) = ⟨(t.val * 512 + r.val) / 4096, by omega⟩ from Fin.ext (by dsimp only; omega)]
  show (iblk m c 2 t : FVec Ideal S512x512 .bf16) (ix2 r k) = _
  blk_point [iblk, V, idx t]

theorem iblk3_apply (c : Dev nD) (t : Fin cfg0.N) (i : Fin 1024) (j : Fin 4608) :
    (iblk m c 3 t : FVec Ideal S1024x4608 .bf16) (ix2 i j)
      = (m ((c : Thread nD τ).loc main_arg3) : FVec Ideal S1024x7368 .f32) (ix2 i ⟨2760 + j.val, by omega⟩) := by
  blk_point [iblk, V, idx t]

theorem iblk3_eq (c : Dev nD) (t : Fin cfg0.N) :
    ents (φ := .bf16) (iblk m c 3 t : FVec Ideal S1024x4608 .bf16) = cols (m ((c : Thread nD τ).loc main_arg3)) :=
  funext fun i => funext fun j => iblk3_apply m c t i j

theorem iblk4_apply (c : Dev nD) (t : Fin cfg0.N) (i : Fin 3) (j : Fin 512) :
    (iblk m c 4 t : FVec Ideal S3x512 .f32) (ix2 i j) = (m ((c : Thread nD τ).loc main_arg5) : FVec Ideal S3x512 .f32) (ix2 i j) := by
  blk_point [iblk, V, idx t]

theorem iblk5_apply (c : Dev nD) (t : Fin cfg0.N) (i : Fin 3) (j : Fin 1024) :
    (iblk m c 5 t : FVec Ideal S3x1024 .f32) (ix2 i j) = (m ((c : Thread nD τ).loc main_arg4) : FVec Ideal S3x1024 .f32) (ix2 i j) := by
  blk_point [iblk, V, idx t]

theorem iblk6_apply (c : Dev nD) (t : Fin cfg0.N) (i : Fin 3) (j : Fin 512) (k : Fin 1024) :
    (iblk m c 6 t : FVec Ideal S3x512x1024 .bf16) (ix3 i j k)
      = (m ((c : Thread nD τ).loc main_arg6) : FVec Ideal S3x512x1024 .f32) (ix3 i j k) := by
  blk_point [iblk, V, idx t]

theorem iblk7_apply (c : Dev nD) (t : Fin cfg0.N) (i j : Fin 1024) :
    (iblk m c 7 t : FVec Ideal S1024x1024 .bf16) (ix2 i j) = (m ((c : Thread nD τ).loc main_arg7) : FVec Ideal S1024x1024 .f32) (ix2 i j) := by
  blk_point [iblk, V, idx t]

theorem iblk8_apply (c : Dev nD) (t : Fin cfg0.N) (k : Fin 1024) :
    (iblk m c 8 t : FVec Ideal S1x1024 .f32) (ix2 0 k) = (m ((c : Thread nD τ).loc main_arg8) : FVec Ideal Rows.S1024 .f32) (ix1 k) := by
  blk_point [iblk, V, idx t]

theorem iblk9_apply (c : Dev nD) (t : Fin cfg0.N) (k : Fin 1024) :
    (iblk m c 9 t : FVec Ideal S1x1024 .f32) (ix2 0 k) = (m ((c : Thread nD τ).loc main_arg9) : FVec Ideal Rows.S1024 .f32) (ix1 k) := by
  blk_point [iblk, V, idx t]

/-- A halo that holds what the two rows before the block give. -/
def Held (c : Dev nD) (t : ℕ) (h : FVec Ideal S8x512 .f32) : Prop := ∀ k : Fin 512,
  h (ix2 7 k) = back (m ((c : Thread nD τ).loc main_arg0)) (m ((c : Thread nD τ).loc main_arg3)) 1 (t * 512) k
    ∧ h (ix2 6 k) = back (m ((c : Thread nD τ).loc main_arg0)) (m ((c : Thread nD τ).loc main_arg3)) 2 (t * 512) k

theorem held_head (c : Dev nD) (t : Fin cfg0.N) (h : t.val % 8 = 0) : Held m c t.val (k0_pay4 (F := Ideal)) := by
  have z : ∀ i : Fin 8, ∀ k : Fin 512, k0_pay4 (F := Ideal) (ix2 i k) = 0 := by
    intro i k
    pointwise [k0_pay4]
  intro k
  unfold back
  rw [if_pos (by omega), if_pos (by omega)]
  exact ⟨z 7 k, z 6 k⟩

theorem held_next (c : Dev nD) (t : Fin cfg0.N) (h : ¬ t.val % 8 = 0) :
    Held m c t.val (outsAt0 m c (t.val - 1) (Nat.lt_of_le_of_lt (Nat.sub_le _ _) t.isLt)).2 := by
  intro k
  have e : (outsAt0 m c (t.val - 1) (Nat.lt_of_le_of_lt (Nat.sub_le _ _) t.isLt)).2 = _ :=
    halo_eq m c ⟨t.val - 1, Nat.lt_of_le_of_lt (Nat.sub_le _ _) t.isLt⟩
  rw [e, pay8_apply, pay8_apply]
  unfold zblk back
  rw [pay6_apply, pay6_apply, iblk0_row, iblk0_row, iblk3_eq, if_neg (by omega), if_neg (by omega)]
  constructor
  · rw [show t.val * 512 - 1 = (t.val - 1) * 512 + (504 + 7) from by omega]; rfl
  · rw [show t.val * 512 - 2 = (t.val - 1) * 512 + (504 + 6) from by omega]; rfl

theorem prev1_eq (c : Dev nD) (t : Fin cfg0.N) (r : Fin 512) (h : FVec Ideal S8x512 .f32) (hh : Held m c t.val h) :
    prev1 (iblk m c 0 t) (iblk m c 3 t) h r
      = back (m ((c : Thread nD τ).loc main_arg0)) (m ((c : Thread nD τ).loc main_arg3)) 1 (t.val * 512 + r.val) := by
  funext k
  unfold prev1
  by_cases h0 : r.val = 0
  · rw [if_pos h0, (hh k).1, h0, Nat.add_zero]
  · rw [if_neg h0, iblk0_row, iblk3_eq]
    unfold back
    rw [if_neg (by omega), show t.val * 512 + r.val - 1 = t.val * 512 + (r.val - 1) from by omega]

theorem prev2_eq (c : Dev nD) (t : Fin cfg0.N) (r : Fin 512) (h : FVec Ideal S8x512 .f32) (hh : Held m c t.val h) :
    prev2 (iblk m c 0 t) (iblk m c 3 t) h r
      = back (m ((c : Thread nD τ).loc main_arg0)) (m ((c : Thread nD τ).loc main_arg3)) 2 (t.val * 512 + r.val) := by
  funext k
  unfold prev2
  by_cases h0 : r.val = 0
  · rw [if_pos h0, (hh k).2, h0, Nat.add_zero]
  · rw [if_neg h0]
    by_cases h1 : r.val = 1
    · rw [if_pos h1, (hh k).1, h1]
      unfold back
      by_cases q : t.val * 512 % 4096 < 1
      · rw [if_pos q, if_pos (by omega)]
      · rw [if_neg q, if_neg (by omega), show t.val * 512 + 1 - 2 = t.val * 512 - 1 from by omega]
    · rw [if_neg h1, iblk0_row, iblk3_eq]
      unfold back
      rw [if_neg (by omega), show t.val * 512 + r.val - 2 = t.val * 512 + (r.val - 2) from by omega]

theorem lt (t : Fin cfg0.N) (r : Fin 512) : t.val * 512 + r.val < 32768 := by
  have := tlt t
  omega

/-- A grid point's block of the result, from the arguments' rows. -/
theorem point (c : Dev nD) (t : Fin cfg0.N) (r : Fin 512) (n : Fin 1024) :
    (outsAt0 m c t.val t.isLt).1 (ix2 r n)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (ix2 ⟨_, lt t r⟩ n) := by
  obtain ⟨h, hh, ho⟩ : ∃ h, Held m c t.val h ∧ (outsAt0 m c t.val t.isLt).1 = body (iblk m c 0 t) (iblk m c 1 t) (iblk m c 2 t)
      (iblk m c 3 t) (iblk m c 4 t) (iblk m c 5 t) (iblk m c 6 t) (iblk m c 7 t) (iblk m c 8 t) (iblk m c 9 t) h := by
    by_cases h : t.val % 8 = 0
    · exact ⟨_, held_head m c t h, out_head m c t h⟩
    · exact ⟨_, held_next m c t h, out_next m c t h⟩
  rw [ho]
  refine (body_apply _ _ _ _ _ _ _ _ _ _ _ r n).trans ?_
  have h4 : ents (φ := .f32) (iblk m c 4 t : FVec Ideal S3x512 .f32) = _ := funext fun i => funext fun k => iblk4_apply m c t i k
  have h5 : ents (φ := .f32) (iblk m c 5 t : FVec Ideal S3x1024 .f32) = _ := funext fun i => funext fun k => iblk5_apply m c t i k
  have h6 : ents3 (φ := .bf16) (iblk m c 6 t : FVec Ideal S3x512x1024 .bf16) = _ :=
    funext fun i => funext fun j => funext fun k => iblk6_apply m c t i j k
  have h7 : ents (φ := .bf16) (iblk m c 7 t : FVec Ideal S1024x1024 .bf16) = _ := funext fun i => funext fun k => iblk7_apply m c t i k
  have h8 : ents (φ := .f32) (iblk m c 8 t : FVec Ideal S1x1024 .f32) 0 = _ := funext fun k => iblk8_apply m c t k
  have h9 : ents (φ := .f32) (iblk m c 9 t : FVec Ideal S1x1024 .f32) 0 = _ := funext fun k => iblk9_apply m c t k
  rw [prev1_eq m c t r h hh, prev2_eq m c t r h hh, iblk0_row, iblk1_row, iblk2_row, iblk3_eq, h4, h5, h6, h7, h8, h9]
  rfl

theorem final (c : Dev nD) : (dats m 0 c).arrAt 10 cfg0.N = G (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  idx_vars y
  refine (point m c t y0 y1).trans ?_
  blk_ext [idx t]

/-! ## The reference -/

abbrev Wide : Shape := ⟨3, ![8, 4096, 4608]⟩

/-- The reference's projections. -/
def hostPrj (x : FVec Ideal Rows.S8x4096x1024 .f32) (w : FVec Ideal S1024x7368 .f32) : FVec Ideal Wide .f32 :=
  Host.dotGeneral Reference3Ideal.dot_S8x4096x1024_S1024x4608_S8x4096x4608_2_0_01_1_n_n none x
    (extractStridedSlice Reference3Ideal.S1024x4608 ![0, 2760] w Reference3Ideal.Gen.slices_S1024x7368_S1024x4608_0_2760)

theorem hostPrj_apply (x : FVec Ideal Rows.S8x4096x1024 .f32) (w : FVec Ideal S1024x7368 .f32) (b : Fin 8) (s : Fin 4096)
    (j : Fin 4608) : hostPrj x w (ix3 b s j) = prj (fun k => x (ix3 b s k)) (cols w) j := by
  pointwise [hostPrj, prj, cols]

/-- What each row gives to the reference's convolution, after two rows of zeros. -/
def hostPad (p : FVec Ideal Wide .f32) : FVec Ideal Reference3Ideal.S8x4098x512 .f32 :=
  pad Reference3Ideal.S8x4098x512 ![0, 2, 0] ![0, 0, 0] ![0, 0, 0]
    (mulf (extractStridedSlice Reference3Ideal.S8x4096x512 ![0, 0, 512] p Reference3Ideal.Gen.slices_S8x4096x4608_S8x4096x512_0_0_512)
      (extractStridedSlice Reference3Ideal.S8x4096x512 ![0, 0, 1024] p Reference3Ideal.Gen.slices_S8x4096x4608_S8x4096x512_0_0_1024))
    (sitofp .f32 (constantI Rows.S0 32 0#32)) Reference3Ideal.Gen.pads_S8x4096x512_S8x4098x512_000_200_000 Reference3Ideal.Gen.h_S_

theorem hostPad_apply (p : FVec Ideal Wide .f32) (b : Fin 8) (s : Fin 4098) (c : Fin 512) : hostPad p (ix3 b s c)
      = if h : s.val < 2 then 0 else p (ix3 b ⟨s.val - 2, by omega⟩ ⟨512 + c.val, by omega⟩)
          * p (ix3 b ⟨s.val - 2, by omega⟩ ⟨1024 + c.val, by omega⟩) := by
  have z : FloatOps.sitofp (F := Ideal) (w := 32) FTy.f32 0#32 = 0 := by
    show (((0#32 : BitVec 32).toInt : ℝ) : EReal) = 0
    simp
  have hs := s.isLt
  by_cases h : s.val < 2
  · rw [dif_pos h]
    pointwise [hostPad]
    rw [dif_neg (by omega), z]
  · rw [dif_neg h]
    pointwise [hostPad]
    rw [dif_pos ⟨by omega, by omega⟩]

/-- The reference's convolution branch. -/
def hostConv (p : FVec Ideal Wide .f32) (cw : FVec Ideal S3x512 .f32) : FVec Ideal Reference3Ideal.S8x4096x512 .f32 :=
  have tap0 : FVec Ideal Reference3Ideal.S8x4096x512 .f32 :=
    broadcastInDim Reference3Ideal.S8x4096x512 ![0, 1, 2] Reference3Ideal.Gen.bcast_S1x1x512_S8x4096x512_0_1_2
      (broadcastInDim Reference3Ideal.S1x1x512 ![2] Reference3Ideal.Gen.bcast_S512_S1x1x512_2 (shapeCast Reference3Ideal.S512
        (extractStridedSlice Reference3Ideal.S1x512 ![0, 0] cw Reference3Ideal.Gen.slices_S3x512_S1x512_0_0)
        Reference3Ideal.Gen.shapeCasts_S1x512_S512))
  have tap1 : FVec Ideal Reference3Ideal.S8x4096x512 .f32 :=
    broadcastInDim Reference3Ideal.S8x4096x512 ![0, 1, 2] Reference3Ideal.Gen.bcast_S1x1x512_S8x4096x512_0_1_2
      (broadcastInDim Reference3Ideal.S1x1x512 ![2] Reference3Ideal.Gen.bcast_S512_S1x1x512_2 (shapeCast Reference3Ideal.S512
        (extractStridedSlice Reference3Ideal.S1x512 ![1, 0] cw Reference3Ideal.Gen.slices_S3x512_S1x512_1_0)
        Reference3Ideal.Gen.shapeCasts_S1x512_S512))
  have tap2 : FVec Ideal Reference3Ideal.S8x4096x512 .f32 :=
    broadcastInDim Reference3Ideal.S8x4096x512 ![0, 1, 2] Reference3Ideal.Gen.bcast_S1x1x512_S8x4096x512_0_1_2
      (broadcastInDim Reference3Ideal.S1x1x512 ![2] Reference3Ideal.Gen.bcast_S512_S1x1x512_2 (shapeCast Reference3Ideal.S512
        (extractStridedSlice Reference3Ideal.S1x512 ![2, 0] cw Reference3Ideal.Gen.slices_S3x512_S1x512_2_0)
        Reference3Ideal.Gen.shapeCasts_S1x512_S512))
  mulf (extractStridedSlice Reference3Ideal.S8x4096x512 ![0, 0, 0] p Reference3Ideal.Gen.slices_S8x4096x4608_S8x4096x512_0_0_0)
    (addf (addf
      (mulf tap0 (extractStridedSlice Reference3Ideal.S8x4096x512 ![0, 0, 0] (hostPad p) Reference3Ideal.Gen.slices_S8x4098x512_S8x4096x512_0_0_0))
      (mulf tap1 (extractStridedSlice Reference3Ideal.S8x4096x512 ![0, 1, 0] (hostPad p) Reference3Ideal.Gen.slices_S8x4098x512_S8x4096x512_0_1_0)))
      (mulf tap2 (extractStridedSlice Reference3Ideal.S8x4096x512 ![0, 2, 0] (hostPad p) Reference3Ideal.Gen.slices_S8x4098x512_S8x4096x512_0_2_0)))

theorem hostConv_apply (p : FVec Ideal Wide .f32) (cw : FVec Ideal S3x512 .f32) (b : Fin 8) (s : Fin 4096) (c : Fin 512) :
    hostConv p cw (ix3 b s c) = p (ix3 b s ⟨c.val, by omega⟩) * (cw (ix2 0 c) * hostPad p (ix3 b ⟨s.val, by omega⟩ c)
      + cw (ix2 1 c) * hostPad p (ix3 b ⟨1 + s.val, by omega⟩ c) + cw (ix2 2 c) * hostPad p (ix3 b ⟨2 + s.val, by omega⟩ c)) := by
  pointwise [hostConv]

/-- One of the reference's branches, through its gate. -/
def hostBranch (q : FVec Ideal Rows.S8x4096x1024 .f32) (bg : FVec Ideal Rows.S1x1024 .f32) (y : FVec Ideal Reference3Ideal.S8x4096x512 .f32)
    (wb : FVec Ideal Reference3Ideal.S1x512x1024 .f32) : FVec Ideal Rows.S8x4096x1024 .f32 :=
  have one : FVec Ideal Rows.S8x4096x1024 .f32 :=
    broadcastInDim Rows.S8x4096x1024 ![] Reference3Ideal.Gen.bcast_S_S8x4096x1024 (constant Rows.S0 .f32 0x3F800000#32)
  mulf (Host.divf one (addf one (Host.exp (Host.negf (addf q (broadcastInDim Rows.S8x4096x1024 ![0, 1, 2]
      Reference3Ideal.Gen.bcast_S1x1x1024_S8x4096x1024_0_1_2 (broadcastInDim Rows.S1x1x1024 ![2] Reference3Ideal.Gen.bcast_S1024_S1x1x1024_2
        (shapeCast Rows.S1024 bg Reference3Ideal.Gen.shapeCasts_S1x1024_S1024))))))))
    (Host.dotGeneral Reference3Ideal.dot_S8x4096x512_S512x1024_S8x4096x1024_2_0_01_1_n_n none y
      (shapeCast Reference3Ideal.S512x1024 wb Reference3Ideal.Gen.shapeCasts_S1x512x1024_S512x1024))

theorem hostBranch_apply (q : FVec Ideal Rows.S8x4096x1024 .f32) (bg : FVec Ideal Rows.S1x1024 .f32)
    (y : FVec Ideal Reference3Ideal.S8x4096x512 .f32) (wb : FVec Ideal Reference3Ideal.S1x512x1024 .f32) (b : Fin 8) (s : Fin 4096)
    (n : Fin 1024) : hostBranch q bg y wb (ix3 b s n)
      = Ideal.logistic (q (ix3 b s n) + bg (ix2 0 n)) * ∑ k : Fin 512, y (ix3 b s k) * wb (ix3 0 k n) := by
  pointwise [hostBranch, Ideal.logistic]

/-- The sum of the reference's three branches. -/
def hostSum (p : FVec Ideal Wide .f32) (ya yb : FVec Ideal S8x4096x512 .bf16) (cw : FVec Ideal S3x512 .f32)
    (bg : FVec Ideal S3x1024 .f32) (wb : FVec Ideal S3x512x1024 .f32) : FVec Ideal Rows.S8x4096x1024 .f32 :=
  addf (addf
    (hostBranch (extractStridedSlice Rows.S8x4096x1024 ![0, 0, 1536] p Reference3Ideal.Gen.slices_S8x4096x4608_S8x4096x1024_0_0_1536)
      (extractStridedSlice Rows.S1x1024 ![0, 0] bg Reference3Ideal.Gen.slices_S3x1024_S1x1024_0_0)
      (extf .f32 ya Reference3Ideal.Gen.bitsLt_bf16_f32)
      (extractStridedSlice Reference3Ideal.S1x512x1024 ![0, 0, 0] wb Reference3Ideal.Gen.slices_S3x512x1024_S1x512x1024_0_0_0))
    (hostBranch (extractStridedSlice Rows.S8x4096x1024 ![0, 0, 2560] p Reference3Ideal.Gen.slices_S8x4096x4608_S8x4096x1024_0_0_2560)
      (extractStridedSlice Rows.S1x1024 ![1, 0] bg Reference3Ideal.Gen.slices_S3x1024_S1x1024_1_0)
      (extf .f32 yb Reference3Ideal.Gen.bitsLt_bf16_f32)
      (extractStridedSlice Reference3Ideal.S1x512x1024 ![1, 0, 0] wb Reference3Ideal.Gen.slices_S3x512x1024_S1x512x1024_1_0_0)))
    (hostBranch (extractStridedSlice Rows.S8x4096x1024 ![0, 0, 3584] p Reference3Ideal.Gen.slices_S8x4096x4608_S8x4096x1024_0_0_3584)
      (extractStridedSlice Rows.S1x1024 ![2, 0] bg Reference3Ideal.Gen.slices_S3x1024_S1x1024_2_0)
      (hostConv p cw)
      (extractStridedSlice Reference3Ideal.S1x512x1024 ![2, 0, 0] wb Reference3Ideal.Gen.slices_S3x512x1024_S1x512x1024_2_0_0))

theorem hostSum_apply (p : FVec Ideal Wide .f32) (ya yb : FVec Ideal S8x4096x512 .bf16) (cw : FVec Ideal S3x512 .f32)
    (bg : FVec Ideal S3x1024 .f32) (wb : FVec Ideal S3x512x1024 .f32) (b : Fin 8) (s : Fin 4096) (n : Fin 1024) :
    hostSum p ya yb cw bg wb (ix3 b s n)
      = Ideal.logistic (p (ix3 b s ⟨1536 + n.val, by omega⟩) + bg (ix2 0 n)) * (∑ k : Fin 512, ya (ix3 b s k) * wb (ix3 0 k n))
        + Ideal.logistic (p (ix3 b s ⟨2560 + n.val, by omega⟩) + bg (ix2 1 n)) * (∑ k : Fin 512, yb (ix3 b s k) * wb (ix3 1 k n))
        + Ideal.logistic (p (ix3 b s ⟨3584 + n.val, by omega⟩) + bg (ix2 2 n))
          * (∑ k : Fin 512, hostConv p cw (ix3 b s k) * wb (ix3 2 k n)) := by
  pointwise [hostSum, hostBranch_apply]

/-- The reference's rows before its layer norm. -/
def hostMixed (x : FVec Ideal Rows.S8x4096x1024 .f32) (ya yb : FVec Ideal S8x4096x512 .bf16) (w : FVec Ideal S1024x7368 .f32)
    (bg : FVec Ideal S3x1024 .f32) (cw : FVec Ideal S3x512 .f32) (wb : FVec Ideal S3x512x1024 .f32) (wo : FVec Ideal S1024x1024 .f32) :
    FVec Ideal Rows.S8x4096x1024 .f32 :=
  addf (mulf (broadcastInDim Rows.S8x4096x1024 ![] Reference3Ideal.Gen.bcast_S_S8x4096x1024 (constant Rows.S0 .f32 0x3FB504F3#32)) x)
    (Host.dotGeneral Reference3Ideal.dot_S8x4096x1024_S1024x1024_S8x4096x1024_2_0_01_1_n_n none
      (hostSum (hostPrj x w) ya yb cw bg wb) wo)

theorem hostMixed_dot (x : FVec Ideal Rows.S8x4096x1024 .f32) (ya yb : FVec Ideal S8x4096x512 .bf16) (w : FVec Ideal S1024x7368 .f32)
    (bg : FVec Ideal S3x1024 .f32) (cw : FVec Ideal S3x512 .f32) (wb : FVec Ideal S3x512x1024 .f32) (wo : FVec Ideal S1024x1024 .f32)
    (b : Fin 8) (s : Fin 4096) (n : Fin 1024) : hostMixed x ya yb w bg cw wb wo (ix3 b s n)
      = Ideal.ofBits .f32 0x3FB504F3#32 * x (ix3 b s n)
        + ∑ k : Fin 1024, hostSum (hostPrj x w) ya yb cw bg wb (ix3 b s k) * wo (ix2 k n) := by
  pointwise [hostMixed]

/-- A row of the reference's convolution, of the flattened array's row `R`. -/
theorem conv_host (x : FVec Ideal Rows.S8x4096x1024 .f32) (w : FVec Ideal S1024x7368 .f32) (cw : FVec Ideal S3x512 .f32)
    (R : Fin 32768) (c : Fin 512) : hostConv (hostPrj x w) cw (ix3 (seqOf R) (posOf R) c)
      = conv (xrow x R.val) (cols w) (ents cw) (back x w 2 R.val) (back x w 1 R.val) c := by
  have hR := R.isLt
  have row_at : ∀ n, n ≤ R.val % 4096 → ∀ (h : R.val % 4096 - n < 4096),
      (fun k => x (ix3 (seqOf R) ⟨R.val % 4096 - n, h⟩ k)) = xrow x (R.val - n) := by
    intro n hn h
    funext k
    unfold xrow
    exact congrArg x (congrArg₂ (fun p q => ix3 p q k) (Fin.ext (by dsimp only; omega)) (Fin.ext (by dsimp only; omega)))
  have pad_at : ∀ (n : ℕ) (hn : n ≤ 2) (h : 2 - n + R.val % 4096 < 4098),
      hostPad (hostPrj x w) (ix3 (seqOf R) ⟨2 - n + R.val % 4096, h⟩ c) = back x w n R.val c := by
    intro n hn h
    rw [hostPad_apply]
    unfold back
    by_cases q : R.val % 4096 < n
    · rw [if_pos q, dif_pos (by dsimp only; omega)]
    · rw [if_neg q, dif_neg (by dsimp only; omega), hostPrj_apply, hostPrj_apply]
      unfold zed
      rw [← row_at n (by omega) (by omega)]
      have e : (⟨2 - n + R.val % 4096 - 2, by omega⟩ : Fin 4096) = ⟨R.val % 4096 - n, by omega⟩ := Fin.ext (by dsimp only; omega)
      simp only [e]
  rw [hostConv_apply, hostPrj_apply]
  have p2 := pad_at 2 (by omega) (by omega)
  have p1 := pad_at 1 (by omega) (by omega)
  have p0 := pad_at 0 (by omega) (by omega)
  simp only [Nat.sub_self, Nat.zero_add, Nat.sub_zero] at p2 p1 p0
  have e : (fun k => x (ix3 (seqOf R) (posOf R) k)) = xrow x R.val := row_at 0 (by omega) (by omega)
  unfold conv
  rw [e]
  rw [show hostPad (hostPrj x w) (ix3 (seqOf R) ⟨(posOf R).val, by omega⟩ c) = _ from p2,
    show hostPad (hostPrj x w) (ix3 (seqOf R) ⟨1 + (posOf R).val, by omega⟩ c) = _ from p1,
    show hostPad (hostPrj x w) (ix3 (seqOf R) ⟨2 + (posOf R).val, by omega⟩ c) = _ from p0]
  unfold back
  rw [if_neg (show ¬ R.val % 4096 < 0 by omega), Nat.sub_zero]

theorem mixed_host (x : FVec Ideal Rows.S8x4096x1024 .f32) (ya yb : FVec Ideal S8x4096x512 .bf16) (w : FVec Ideal S1024x7368 .f32)
    (bg : FVec Ideal S3x1024 .f32) (cw : FVec Ideal S3x512 .f32) (wb : FVec Ideal S3x512x1024 .f32) (wo : FVec Ideal S1024x1024 .f32)
    (R : Fin 32768) (n : Fin 1024) : hostMixed x ya yb w bg cw wb wo (ix3 (seqOf R) (posOf R) n)
      = mixed (xrow x R.val) (brow ya R.val) (brow yb R.val) (cols w) (ents cw) (ents bg) (ents3 wb) (ents wo)
        (back x w 2 R.val) (back x w 1 R.val) n := by
  have hs : seqOf R = ⟨R.val / 4096 % 8, by omega⟩ := Fin.ext (by have := R.isLt; dsimp only; omega)
  have hx : (fun k => x (ix3 (seqOf R) (posOf R) k)) = xrow x R.val := by rw [hs]; rfl
  have ha : ∀ k, ya (ix3 (seqOf R) (posOf R) k) = brow ya R.val k := by rw [hs]; exact fun _ => rfl
  have hb : ∀ k, yb (ix3 (seqOf R) (posOf R) k) = brow yb R.val k := by rw [hs]; exact fun _ => rfl
  rw [hostMixed_dot]
  unfold mixed merged gated
  rw [← hx]
  refine congrArg (_ + ·) (Finset.sum_congr rfl fun k _ => ?_)
  rw [hostSum_apply]
  simp only [hostPrj_apply, conv_host, ha, hb]
  rw [← hx]

theorem facts : HostFacts := ⟨Reference3Ideal.Gen.reducesTo_S8x4096x1024_S8x4096_d2, Reference3Ideal.Gen.h_S_,
  Reference3Ideal.Gen.bcast_S8x4096_S8x4096x1_0_1, Reference3Ideal.Gen.bcast_S_S8x4096x1,
  Reference3Ideal.Gen.bcast_S8x4096x1_S8x4096x1024_0_1_2, Reference3Ideal.Gen.bcast_S1024_S1x1x1024_2,
  Reference3Ideal.Gen.bcast_S1x1x1024_S8x4096x1024_0_1_2, Reference3Ideal.Gen.shapeCasts_S8x4096x1024_S32768x1024⟩

theorem host_eq (x : FVec Ideal Rows.S8x4096x1024 .f32) (ya yb : FVec Ideal S8x4096x512 .bf16) (w : FVec Ideal S1024x7368 .f32)
    (bg : FVec Ideal S3x1024 .f32) (cw : FVec Ideal S3x512 .f32) (wb : FVec Ideal S3x512x1024 .f32) (wo : FVec Ideal S1024x1024 .f32)
    (g b : FVec Ideal Rows.S1024 .f32) :
    normHost facts (hostMixed x ya yb w bg cw wb wo) g b = G x ya yb w bg cw wb wo g b := by
  funext i
  idx_vars i
  refine (normHost_apply _ _ _ _ _ _).trans ?_
  simp only [mixed_host]
  rfl

theorem ref_eq (m' : (ℓ : Loc Reference3Ideal.nD Reference3Ideal.τ Reference3Ideal.sig) → Buf (Elt Ideal) ℓ)
    (c : Dev Reference3Ideal.nD) : Reference3Ideal.Value.res_out0 m' c
      = normHost facts (hostMixed (m' ((c.tc : Thread Reference3Ideal.nD Reference3Ideal.τ).loc Reference3Ideal.main_arg0))
          (m' ((c.tc : Thread Reference3Ideal.nD Reference3Ideal.τ).loc Reference3Ideal.main_arg1))
          (m' ((c.tc : Thread Reference3Ideal.nD Reference3Ideal.τ).loc Reference3Ideal.main_arg2))
          (m' ((c.tc : Thread Reference3Ideal.nD Reference3Ideal.τ).loc Reference3Ideal.main_arg3))
          (m' ((c.tc : Thread Reference3Ideal.nD Reference3Ideal.τ).loc Reference3Ideal.main_arg4))
          (m' ((c.tc : Thread Reference3Ideal.nD Reference3Ideal.τ).loc Reference3Ideal.main_arg5))
          (m' ((c.tc : Thread Reference3Ideal.nD Reference3Ideal.τ).loc Reference3Ideal.main_arg6))
          (m' ((c.tc : Thread Reference3Ideal.nD Reference3Ideal.τ).loc Reference3Ideal.main_arg7)))
        (m' ((c.tc : Thread Reference3Ideal.nD Reference3Ideal.τ).loc Reference3Ideal.main_arg8))
        (m' ((c.tc : Thread Reference3Ideal.nD Reference3Ideal.τ).loc Reference3Ideal.main_arg9)) := by
  with_unfolding_all rfl

/-- At `Ideal` the merge's result array and the reference's agree. -/
theorem algebraic : Cert.algebraic_Kernel3Ideal_Reference3Ideal := by
  pair_intro
  · run_from Cert.Kernel3Ideal.Value.run_blocks m g
  · run_from Cert.Reference3Ideal.Value.run m' g'
    rw [final m c]
    obtain ⟨h0, h1, h2, h3, h4, h5, h6, h7, h8, h9⟩ := hagree c
    refine (ref_eq m' c).trans ((host_eq _ _ _ _ _ _ _ _ _ _).trans ?_)
    rw [h0, h1, h2, h3, h4, h5, h6, h7, h8, h9]

end Cert.Kernel3Ideal.Merge

end
-- ==== Proof.Xattn.lean ====
/- The memory cross-attention at `Ideal`: each row of the result is the layer norm of the row with its attention's
   projection added. The kernel multiplies each weight by the reciprocal of the weights' sum, the reference divides by the
   sum; the two agree where the logits are real, for there the sum is not zero. -/
module

public import proofs.«01_k».proof.Defs
public import proofs.«01_k».proof.Proof.Rows
public import proofs.«01_k».proof.Proof.Gen.Kernel4Ideal.Value
public import proofs.«01_k».proof.Proof.Gen.Reference4Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Rows

/-- A row's 512 queries. -/
def qry (x : Fin 1024 → EReal) (wq : Fin 1024 → Fin 512 → EReal) (j : Fin 512) : EReal := ∑ i, x i * wq i j

/-- The column of a head's feature. -/
abbrev colOf (h : Fin 4) (d : Fin 128) : Fin 512 := ⟨h.val * 128 + d.val, by omega⟩

/-- A head's logits of a row, one for each position of the memory. -/
def logit (x : Fin 1024 → EReal) (wq : Fin 1024 → Fin 512 → EReal) (k : Fin 256 → Fin 512 → EReal) (h : Fin 4) (m : Fin 256) :
    EReal := (∑ d : Fin 128, k m (colOf h d) * qry x wq (colOf h d)) * Ideal.ofBits .f32 0x3DB504F3#32

/-- The largest of 256 logits. -/
def top (l : Fin 256 → EReal) : EReal := Finset.univ.fold max (Ideal.ofBits .f32 0xFF800000#32) l

/-- The softmax of 256 logits, as a quotient. -/
def soft (l : Fin 256 → EReal) (m : Fin 256) : EReal := Ideal.div (Ideal.exp (l m - top l)) (∑ n, Ideal.exp (l n - top l))

/-- The softmax of 256 logits, as a product with the reciprocal of the weights' sum. -/
def softMul (l : Fin 256 → EReal) (m : Fin 256) : EReal := Ideal.exp (l m - top l) * Ideal.div 1 (∑ n, Ideal.exp (l n - top l))

/-- The head and the feature of a column. -/
abbrev headOf (j : Fin 512) : Fin 4 := ⟨j.val / 128, by omega⟩
abbrev featOf (j : Fin 512) : Fin 128 := ⟨j.val % 128, by omega⟩

/-- What a row takes from the memory, `s` being the softmax. -/
def taken (s : (Fin 256 → EReal) → Fin 256 → EReal) (x : Fin 1024 → EReal) (wq : Fin 1024 → Fin 512 → EReal)
    (k v : Fin 256 → Fin 512 → EReal) (j : Fin 512) : EReal := ∑ m, s (logit x wq k (headOf j)) m * v m j

/-- A row with its attention's projection added, before the layer norm. -/
def crossed (s : (Fin 256 → EReal) → Fin 256 → EReal) (x : Fin 1024 → EReal) (wq : Fin 1024 → Fin 512 → EReal)
    (k v : Fin 256 → Fin 512 → EReal) (wo : Fin 512 → Fin 1024 → EReal) (n : Fin 1024) : EReal :=
  Ideal.ofBits .f32 0x3FB504F3#32 * x n + ∑ j, taken s x wq k v j * wo j n

end Cert.Rows

namespace Cert.Kernel4Ideal.Xattn

open Cert.Kernel4Ideal Cert.Kernel4Ideal.Gen Cert.Rows

/-- A head of the block, from its keys, queries and values. -/
def headBlk (v11 : FVec Ideal S256x128 .bf16) (v12 : FVec Ideal S512x128 .bf16) (v28 : FVec Ideal S256x128 .bf16) :
    FVec Ideal S512x128 .f32 :=
  have v13 : FVec Ideal S256x512 .f32 := matmul dot_S256x128_S512x128_S256x512_1_1_0_0_n_n none v11 v12 (constant S256x512 .f32 0x00000000#32)
  have v15 : FVec Ideal S256x512 .f32 := mulf v13 (broadcast S256x512 (Scalar.ofBits .f32 0x3DB504F3#32 : Ideal .f32))
  have v16 : FVec Ideal S512 .f32 := multiReduction .maximumf [0] S512 v15 0xFF800000#32 reduces_S256x512_S512 (.inl rfl) rfl
  have v18 : FVec Ideal S256x512 .f32 := broadcastTo S256x512 (shapeCast S1x512 v16 shapeCasts_S512_S1x512) broadcasts_S1x512_S256x512
  have v20 : FVec Ideal S256x512 .f32 := exp (subf v15 v18)
  have v21 : FVec Ideal S512 .f32 := multiReduction .add [0] S512 v20 0x00000000#32 reduces_S256x512_S512 (.inl rfl) rfl
  have v22 : FVec Ideal S1x512 .f32 := shapeCast S1x512 v21 shapeCasts_S512_S1x512
  have v24 : FVec Ideal S1x512 .f32 := divf (broadcast S1x512 (Scalar.ofBits .f32 0x3F800000#32 : Ideal .f32)) v22
  have v26 : FVec Ideal S256x512 .f32 := mulf v20 (broadcastTo S256x512 v24 broadcasts_S1x512_S256x512)
  matmul dot_S256x512_S256x128_S512x128_0_0_1_1_n_n none (truncf .bf16 v26 bitsLt_bf16_f32) v28 (constant S512x128 .f32 0x00000000#32)

theorem headBlk_apply (kh : FVec Ideal S256x128 .bf16) (qh : FVec Ideal S512x128 .bf16) (vh : FVec Ideal S256x128 .bf16)
    (r : Fin 512) (d : Fin 128) : headBlk kh qh vh (ix2 r d)
      = ∑ m : Fin 256, softMul (fun n => (∑ e : Fin 128, kh (ix2 n e) * qh (ix2 r e)) * Ideal.ofBits .f32 0x3DB504F3#32) m
          * vh (ix2 m d) := by
  pointwise [headBlk, softMul, top]

/-- The four heads side by side. -/
def catBlk (a b c d : FVec Ideal S512x128 .f32) : FVec Ideal S512x512 .bf16 :=
  truncf .bf16 (concatenate S512x512 1 [⟨S512x128, a⟩, ⟨S512x128, b⟩, ⟨S512x128, c⟩, ⟨S512x128, d⟩]
    concatenates_S512x128_S512x128_S512x128_S512x128_S512x512_d1) bitsLt_bf16_f32

theorem catBlk_apply (f : Fin 4 → FVec Ideal S512x128 .f32) (r j : Fin 512) :
    catBlk (f 0) (f 1) (f 2) (f 3) (ix2 r j) = f (headOf j) (ix2 r (featOf j)) := by
  have hj := j.isLt
  have at_head : ∀ (h : Fin 4) (p : j.val - h.val * 128 < 128) (q : h.val * 128 ≤ j.val),
      f h (ix2 r ⟨j.val - h.val * 128, p⟩) = f (headOf j) (ix2 r (featOf j)) := by
    intro h p q
    have e : headOf j = h := Fin.ext (by dsimp only; omega)
    have e' : featOf j = ⟨j.val - h.val * 128, p⟩ := Fin.ext (by dsimp only; omega)
    rw [e, e']
  pointwise [catBlk]
  by_cases h0 : j.val < 128
  · rw [dif_pos h0]
    exact at_head 0 (by simpa using h0) (by simp)
  · rw [dif_neg h0]
    by_cases h1 : j.val - 128 < 128
    · rw [dif_pos h1]
      exact at_head 1 (by simpa using h1) (by simp; omega)
    · rw [dif_neg h1]
      by_cases h2 : j.val - 128 - 128 < 128
      · rw [dif_pos h2]
        refine Eq.trans ?_ (at_head 2 (show j.val - 2 * 128 < 128 by omega) (show 2 * 128 ≤ j.val by omega))
        exact congrArg (fun q => f 2 (ix2 r q)) (Fin.ext (show j.val - 128 - 128 = j.val - 2 * 128 by omega))
      · rw [dif_neg h2]
        refine Eq.trans ?_ (at_head 3 (show j.val - 3 * 128 < 128 by omega) (show 3 * 128 ≤ j.val by omega))
        exact congrArg (fun q => f 3 (ix2 r q)) (Fin.ext (show j.val - 128 - 128 - 128 = j.val - 3 * 128 by omega))

/-- The queries' block. -/
def qblk (x0 : FVec Ideal S512x1024 .f32) (x3 : FVec Ideal S1024x512 .bf16) : FVec Ideal S512x512 .bf16 := k0_pay3 (F := Ideal) x0 x3

theorem qblk_apply (x0 : FVec Ideal S512x1024 .f32) (x3 : FVec Ideal S1024x512 .bf16) (r j : Fin 512) :
    qblk x0 x3 (ix2 r j) = qry (row x0 r) (ents x3) j := by
  pointwise [qblk, k0_pay3, k0_pay2, qry]

/-- A head's keys, queries and values. -/
def head0 (q : FVec Ideal S512x512 .bf16) (k v : FVec Ideal S1x256x512 .bf16) : FVec Ideal S512x128 .f32 :=
  headBlk (extractStridedSlice S256x128 ![0, 0] (k0_pay4 (F := Ideal) k) slices_S256x512_o0_0_S256x128)
    (extractStridedSlice S512x128 ![0, 0] q slices_S512x512_o0_0_S512x128)
    (extractStridedSlice S256x128 ![0, 0] (k0_pay5 (F := Ideal) v) slices_S256x512_o0_0_S256x128)

def head1 (q : FVec Ideal S512x512 .bf16) (k v : FVec Ideal S1x256x512 .bf16) : FVec Ideal S512x128 .f32 :=
  headBlk (extractStridedSlice S256x128 ![0, 128] (k0_pay4 (F := Ideal) k) slices_S256x512_o0_128_S256x128)
    (extractStridedSlice S512x128 ![0, 128] q slices_S512x512_o0_128_S512x128)
    (extractStridedSlice S256x128 ![0, 128] (k0_pay5 (F := Ideal) v) slices_S256x512_o0_128_S256x128)

def head2 (q : FVec Ideal S512x512 .bf16) (k v : FVec Ideal S1x256x512 .bf16) : FVec Ideal S512x128 .f32 :=
  headBlk (extractStridedSlice S256x128 ![0, 256] (k0_pay4 (F := Ideal) k) slices_S256x512_o0_256_S256x128)
    (extractStridedSlice S512x128 ![0, 256] q slices_S512x512_o0_256_S512x128)
    (extractStridedSlice S256x128 ![0, 256] (k0_pay5 (F := Ideal) v) slices_S256x512_o0_256_S256x128)

def head3 (q : FVec Ideal S512x512 .bf16) (k v : FVec Ideal S1x256x512 .bf16) : FVec Ideal S512x128 .f32 :=
  headBlk (extractStridedSlice S256x128 ![0, 384] (k0_pay4 (F := Ideal) k) slices_S256x512_o0_384_S256x128)
    (extractStridedSlice S512x128 ![0, 384] q slices_S512x512_o0_384_S512x128)
    (extractStridedSlice S256x128 ![0, 384] (k0_pay5 (F := Ideal) v) slices_S256x512_o0_384_S256x128)

/-- A head's result at an index. -/
def headVal (q : FVec Ideal S512x512 .bf16) (k v : FVec Ideal S1x256x512 .bf16) (h : Fin 4) (r : Fin 512) (d : Fin 128) : EReal :=
  ∑ m : Fin 256, softMul (fun n => (∑ e : Fin 128, k (ix3 0 n (colOf h e)) * q (ix2 r (colOf h e))) * Ideal.ofBits .f32 0x3DB504F3#32) m
    * v (ix3 0 m (colOf h d))

theorem head0_apply (q : FVec Ideal S512x512 .bf16) (k v : FVec Ideal S1x256x512 .bf16) (r : Fin 512) (d : Fin 128) :
    head0 q k v (ix2 r d) = headVal q k v 0 r d := by
  have hc : ∀ e : Fin 128, colOf 0 e = ⟨e.val, by omega⟩ := fun e => Fin.ext (show 0 * 128 + e.val = e.val by omega)
  unfold head0 headVal
  rw [headBlk_apply]
  simp only [hc]
  pointwise [k0_pay4, k0_pay5]

theorem head1_apply (q : FVec Ideal S512x512 .bf16) (k v : FVec Ideal S1x256x512 .bf16) (r : Fin 512) (d : Fin 128) :
    head1 q k v (ix2 r d) = headVal q k v 1 r d := by
  have hc : ∀ e : Fin 128, colOf 1 e = ⟨128 + e.val, by omega⟩ := fun e => Fin.ext (show 1 * 128 + e.val = 128 + e.val by omega)
  unfold head1 headVal
  rw [headBlk_apply]
  simp only [hc]
  pointwise [k0_pay4, k0_pay5]

theorem head2_apply (q : FVec Ideal S512x512 .bf16) (k v : FVec Ideal S1x256x512 .bf16) (r : Fin 512) (d : Fin 128) :
    head2 q k v (ix2 r d) = headVal q k v 2 r d := by
  have hc : ∀ e : Fin 128, colOf 2 e = ⟨256 + e.val, by omega⟩ := fun e => Fin.ext (show 2 * 128 + e.val = 256 + e.val by omega)
  unfold head2 headVal
  rw [headBlk_apply]
  simp only [hc]
  pointwise [k0_pay4, k0_pay5]

theorem head3_apply (q : FVec Ideal S512x512 .bf16) (k v : FVec Ideal S1x256x512 .bf16) (r : Fin 512) (d : Fin 128) :
    head3 q k v (ix2 r d) = headVal q k v 3 r d := by
  have hc : ∀ e : Fin 128, colOf 3 e = ⟨384 + e.val, by omega⟩ := fun e => Fin.ext (show 3 * 128 + e.val = 384 + e.val by omega)
  unfold head3 headVal
  rw [headBlk_apply]
  simp only [hc]
  pointwise [k0_pay4, k0_pay5]

/-- The block before the layer norm. -/
def yblk (x0 : FVec Ideal S512x1024 .f32) (o : FVec Ideal S512x512 .bf16) (x4 : FVec Ideal S512x1024 .bf16) : FVec Ideal S512x1024 .f32 :=
  addf (mulf (broadcast S512x1024 (Scalar.ofBits .f32 0x3FB504F3#32 : Ideal .f32)) (k0_pay2 (F := Ideal) x0))
    (matmul dot_S512x512_S512x1024_S512x1024_1_0_0_1_n_n none o (shapeCast S512x1024 x4 shapeCasts_S512x1024_S512x1024)
      (constant S512x1024 .f32 0x00000000#32))

theorem yblk_apply (x0 : FVec Ideal S512x1024 .f32) (o : FVec Ideal S512x512 .bf16) (x4 : FVec Ideal S512x1024 .bf16)
    (r : Fin 512) (n : Fin 1024) : yblk x0 o x4 (ix2 r n)
      = Ideal.ofBits .f32 0x3FB504F3#32 * x0 (ix2 r n) + ∑ k : Fin 512, o (ix2 r k) * x4 (ix2 k n) := by
  pointwise [yblk, k0_pay2]

/-- What the body leaves in the output block, from its operands' blocks. -/
def body (x0 : FVec Ideal S512x1024 .f32) (x1 x2 : FVec Ideal S1x256x512 .bf16) (x3 : FVec Ideal S1024x512 .bf16)
    (x4 : FVec Ideal S512x1024 .bf16) (x5 x6 : FVec Ideal S1x1024 .f32) : FVec Ideal S512x1024 .f32 :=
  addf (normBlock reduces_S512x1024_S512 shapeCasts_S512_S512x1 broadcasts_S512x1_S512x1024 broadcasts_S1x1024_S512x1024
      shapeCasts_S1x1024_S1x1024 (yblk x0 (catBlk (head0 (qblk x0 x3) x1 x2) (head1 (qblk x0 x3) x1 x2) (head2 (qblk x0 x3) x1 x2)
        (head3 (qblk x0 x3) x1 x2)) x4) x5)
    (broadcastTo S512x1024 (shapeCast S1x1024 x6 shapeCasts_S1x1024_S1x1024) broadcasts_S1x1024_S512x1024)

theorem body_apply (x0 : FVec Ideal S512x1024 .f32) (x1 x2 : FVec Ideal S1x256x512 .bf16) (x3 : FVec Ideal S1024x512 .bf16)
    (x4 : FVec Ideal S512x1024 .bf16) (x5 x6 : FVec Ideal S1x1024 .f32) (r : Fin 512) (n : Fin 1024) :
    body x0 x1 x2 x3 x4 x5 x6 (ix2 r n)
      = norm (crossed softMul (row x0 r) (ents x3) (ents3 x1 0) (ents3 x2 0) (ents x4)) (ents x5 0) (ents x6 0) n := by
  unfold body
  rw [normBlock_apply]
  refine congrArg (fun y => norm y _ _ n) (funext fun k => ?_)
  rw [yblk_apply]
  unfold crossed
  refine congrArg (_ + ·) (Finset.sum_congr rfl fun j _ => ?_)
  refine congrArg (· * _) ?_
  have e := catBlk_apply ![head0 (qblk x0 x3) x1 x2, head1 (qblk x0 x3) x1 x2, head2 (qblk x0 x3) x1 x2, head3 (qblk x0 x3) x1 x2] r j
  refine e.trans ?_
  have hh : ∀ h : Fin 4, (![head0 (qblk x0 x3) x1 x2, head1 (qblk x0 x3) x1 x2, head2 (qblk x0 x3) x1 x2,
      head3 (qblk x0 x3) x1 x2] : Fin 4 → FVec Ideal S512x128 .f32) h (ix2 r (featOf j)) = headVal (qblk x0 x3) x1 x2 h r (featOf j) := by
    intro h
    fin_cases h
    · exact head0_apply _ _ _ _ _
    · exact head1_apply _ _ _ _ _
    · exact head2_apply _ _ _ _ _
    · exact head3_apply _ _ _ _ _
  rw [hh]
  unfold headVal taken logit
  simp only [qblk_apply]
  have ej : colOf (headOf j) (featOf j) = j := Fin.ext (by dsimp only; omega)
  rw [ej]

theorem pay6_eq (x0 : FVec Ideal S512x1024 .f32) (x3 : FVec Ideal S1024x512 .bf16) (x1 x2 : FVec Ideal S1x256x512 .bf16) :
    k0_pay6 (F := Ideal) x0 x3 x1 x2 = head0 (qblk x0 x3) x1 x2 := rfl

theorem pay8_eq (x0 : FVec Ideal S512x1024 .f32) (x3 : FVec Ideal S1024x512 .bf16) (x1 x2 : FVec Ideal S1x256x512 .bf16) :
    k0_pay8 (F := Ideal) (k0_pay5 (F := Ideal) x2) (k0_pay7 (F := Ideal) x0 x3 x1) = head1 (qblk x0 x3) x1 x2 := rfl

theorem pay9_eq (q : FVec Ideal S512x512 .bf16) (x1 x2 : FVec Ideal S1x256x512 .bf16) :
    k0_pay9 (F := Ideal) q (k0_pay4 (F := Ideal) x1) (k0_pay5 (F := Ideal) x2) = head2 q x1 x2 := rfl

/-- The last head's product is in the last payload. -/
theorem pay1_eq (x0 : FVec Ideal S512x1024 .f32) (a b d : FVec Ideal S512x128 .f32) (q : FVec Ideal S512x512 .bf16)
    (x1 x2 : FVec Ideal S1x256x512 .bf16) (x4 : FVec Ideal S512x1024 .bf16) (x5 x6 : FVec Ideal S1x1024 .f32) :
    k0_pay1 (F := Ideal) (k0_pay2 (F := Ideal) x0) (k0_pay5 (F := Ideal) x2) a b d
        (k0_pay10 (F := Ideal) q (k0_pay4 (F := Ideal) x1)) x4 x5 x6
      = addf (normBlock reduces_S512x1024_S512 shapeCasts_S512_S512x1 broadcasts_S512x1_S512x1024 broadcasts_S1x1024_S512x1024
          shapeCasts_S1x1024_S1x1024 (yblk x0 (catBlk a b d (head3 q x1 x2)) x4) x5)
        (broadcastTo S512x1024 (shapeCast S1x1024 x6 shapeCasts_S1x1024_S1x1024) broadcasts_S1x1024_S512x1024) := rfl

theorem out_eq (x0 : FVec Ideal S512x1024 .f32) (x1 x2 : FVec Ideal S1x256x512 .bf16) (x3 : FVec Ideal S1024x512 .bf16)
    (x4 : FVec Ideal S512x1024 .bf16) (x5 x6 : FVec Ideal S1x1024 .f32) :
    out0_7 (F := Ideal) x0 x1 x2 x3 x4 x5 x6 = body x0 x1 x2 x3 x4 x5 x6 := by
  unfold out0_7 k0_pay11 k0_pay12 k0_pay13
  frame_out
  rw [pay6_eq, pay8_eq]
  unfold body
  rw [show k0_pay3 (F := Ideal) x0 x3 = qblk x0 x3 from rfl, pay9_eq, pay1_eq]

/-! ## The result array -/

variable (m : (ℓ : Loc nD τ sig) → Buf (Elt Ideal) ℓ)

/-- Row `R` of the flattened activations. -/
def xrow (x : FVec Ideal Rows.S8x4096x1024 .f32) (R : ℕ) (k : Fin 1024) : EReal := x (ix3 ⟨R / 4096 % 8, by omega⟩ ⟨R % 4096, by omega⟩ k)

/-- The memory that row `R` reads: its sequence's. -/
def mem (k : FVec Ideal S8x256x512 .bf16) (R : ℕ) (i : Fin 256) (j : Fin 512) : EReal := k (ix3 ⟨R / 4096 % 8, by omega⟩ i j)

/-- What the result array is shown to hold, `s` being the softmax. -/
def G (s : (Fin 256 → EReal) → Fin 256 → EReal) (x : FVec Ideal Rows.S8x4096x1024 .f32) (k v : FVec Ideal S8x256x512 .bf16)
    (wq : FVec Ideal S1024x512 .f32) (wo : FVec Ideal S512x1024 .f32) (g b : FVec Ideal Rows.S1024 .f32) :
    FVec Ideal S32768x1024 .f32 := fun i =>
  norm (crossed s (xrow x (i 0).val) (ents wq) (mem k (i 0).val) (mem v (i 0).val) (ents wo)) (fun k => g (ix1 k)) (fun k => b (ix1 k)) (i 1)

theorem idx : ∀ t : Fin cfg0.N, win0_0.index t = ![t.val, 0] ∧ win0_1.index t = ![t.val / 8, 0, 0]
    ∧ win0_2.index t = ![t.val / 8, 0, 0] ∧ win0_3.index t = ![0, 0] ∧ win0_4.index t = ![0, 0] ∧ win0_5.index t = ![0, 0]
    ∧ win0_6.index t = ![0, 0] ∧ win0_7.index t = ![t.val, 0] :=
  (by decide +kernel : ∀ t : Fin grid0.N, _)

theorem tlt (t : Fin cfg0.N) : t.val < 64 := t.isLt

theorem iblk0_row (c : Dev nD) (t : Fin cfg0.N) (r : Fin 512) :
    row (iblk m c 0 t : FVec Ideal S512x1024 .f32) r = xrow (m ((c : Thread nD τ).loc main_arg0)) (t.val * 512 + r.val) := by
  have := tlt t
  funext k
  unfold xrow
  rw [show (⟨(t.val * 512 + r.val) / 4096 % 8, by omega⟩ : Fin 8) = ⟨(t.val * 512 + r.val) / 4096, by omega⟩ from Fin.ext (by dsimp only; omega)]
  show (iblk m c 0 t : FVec Ideal S512x1024 .f32) (ix2 r k) = _
  blk_point [iblk, V, idx t]

theorem iblk1_mem (c : Dev nD) (t : Fin cfg0.N) (r : Fin 512) :
    ents3 (φ := .bf16) (iblk m c 1 t : FVec Ideal S1x256x512 .bf16) 0 = mem (m ((c : Thread nD τ).loc main_arg1)) (t.val * 512 + r.val) := by
  have := tlt t
  funext i j
  unfold mem
  rw [show (⟨(t.val * 512 + r.val) / 4096 % 8, by omega⟩ : Fin 8) = ⟨t.val / 8, by omega⟩ from Fin.ext (by dsimp only; omega)]
  show (iblk m c 1 t : FVec Ideal S1x256x512 .bf16) (ix3 0 i j) = _
  blk_point [iblk, V, idx t]

theorem iblk2_mem (c : Dev nD) (t : Fin cfg0.N) (r : Fin 512) :
    ents3 (φ := .bf16) (iblk m c 2 t : FVec Ideal S1x256x512 .bf16) 0 = mem (m ((c : Thread nD τ).loc main_arg2)) (t.val * 512 + r.val) := by
  have := tlt t
  funext i j
  unfold mem
  rw [show (⟨(t.val * 512 + r.val) / 4096 % 8, by omega⟩ : Fin 8) = ⟨t.val / 8, by omega⟩ from Fin.ext (by dsimp only; omega)]
  show (iblk m c 2 t : FVec Ideal S1x256x512 .bf16) (ix3 0 i j) = _
  blk_point [iblk, V, idx t]

theorem iblk3_apply (c : Dev nD) (t : Fin cfg0.N) (i : Fin 1024) (j : Fin 512) :
    (iblk m c 3 t : FVec Ideal S1024x512 .bf16) (ix2 i j) = (m ((c : Thread nD τ).loc main_arg3) : FVec Ideal S1024x512 .f32) (ix2 i j) := by
  blk_point [iblk, V, idx t]

theorem iblk4_apply (c : Dev nD) (t : Fin cfg0.N) (i : Fin 512) (j : Fin 1024) :
    (iblk m c 4 t : FVec Ideal S512x1024 .bf16) (ix2 i j) = (m ((c : Thread nD τ).loc main_arg4) : FVec Ideal S512x1024 .f32) (ix2 i j) := by
  blk_point [iblk, V, idx t]

theorem iblk5_apply (c : Dev nD) (t : Fin cfg0.N) (k : Fin 1024) :
    (iblk m c 5 t : FVec Ideal S1x1024 .f32) (ix2 0 k) = (m ((c : Thread nD τ).loc main_arg5) : FVec Ideal Rows.S1024 .f32) (ix1 k) := by
  blk_point [iblk, V, idx t]

theorem iblk6_apply (c : Dev nD) (t : Fin cfg0.N) (k : Fin 1024) :
    (iblk m c 6 t : FVec Ideal S1x1024 .f32) (ix2 0 k) = (m ((c : Thread nD τ).loc main_arg6) : FVec Ideal Rows.S1024 .f32) (ix1 k) := by
  blk_point [iblk, V, idx t]

theorem lt (t : Fin cfg0.N) (r : Fin 512) : t.val * 512 + r.val < 32768 := by
  have := tlt t
  omega

/-- A grid point's block of the result, from the arguments' rows. -/
theorem point (c : Dev nD) (t : Fin cfg0.N) (r : Fin 512) (n : Fin 1024) :
    out0_7 (F := Ideal) (iblk m c 0 t) (iblk m c 1 t) (iblk m c 2 t) (iblk m c 3 t) (iblk m c 4 t) (iblk m c 5 t) (iblk m c 6 t) (ix2 r n)
      = G softMul (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 ⟨_, lt t r⟩ n) := by
  rw [out_eq]
  refine (body_apply _ _ _ _ _ _ _ r n).trans ?_
  have h3 : ents (φ := .bf16) (iblk m c 3 t : FVec Ideal S1024x512 .bf16) = _ := funext fun i => funext fun k => iblk3_apply m c t i k
  have h4 : ents (φ := .bf16) (iblk m c 4 t : FVec Ideal S512x1024 .bf16) = _ := funext fun i => funext fun k => iblk4_apply m c t i k
  have h5 : ents (φ := .f32) (iblk m c 5 t : FVec Ideal S1x1024 .f32) 0 = _ := funext fun k => iblk5_apply m c t k
  have h6 : ents (φ := .f32) (iblk m c 6 t : FVec Ideal S1x1024 .f32) 0 = _ := funext fun k => iblk6_apply m c t k
  rw [iblk0_row, iblk1_mem m c t r, iblk2_mem m c t r, h3, h4, h5, h6]
  rfl

theorem final (c : Dev nD) : (dats m 0 c).arrAt 7 cfg0.N = G softMul (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  idx_vars y
  refine (point m c t y0 y1).trans ?_
  blk_ext [idx t]

/-! ## The two softmaxes -/

/-- A real number among the extended reals. -/
def IsReal (a : EReal) : Prop := ∃ r : ℝ, a = (r : EReal)

theorem real_mul {a b : EReal} (ha : IsReal a) (hb : IsReal b) : IsReal (a * b) := by
  obtain ⟨r, rfl⟩ := ha
  obtain ⟨s, rfl⟩ := hb
  exact ⟨r * s, (EReal.coe_mul r s).symm⟩

theorem real_sum {n : ℕ} {f : Fin n → EReal} (hf : ∀ i, IsReal (f i)) : IsReal (∑ i, f i) := by
  refine Finset.sum_induction f IsReal ?_ ⟨0, rfl⟩ fun i _ => hf i
  rintro a b ⟨r, rfl⟩ ⟨s, rfl⟩
  exact ⟨r + s, (EReal.coe_add r s).symm⟩

theorem bot_eq : Ideal.ofBits .f32 0xFF800000#32 = ⊥ := by
  simp [Ideal.ofBits, Ideal.ieee]

theorem scale_real : IsReal (Ideal.ofBits .f32 0x3DB504F3#32) := by
  simp [Ideal.ofBits, Ideal.ieee, -EReal.coe_mul]
  exact ⟨_, rfl⟩

theorem logit_real {x : Fin 1024 → EReal} {wq : Fin 1024 → Fin 512 → EReal} {k : Fin 256 → Fin 512 → EReal}
    (hx : ∀ i, IsReal (x i)) (hw : ∀ i j, IsReal (wq i j)) (hk : ∀ i j, IsReal (k i j)) (h : Fin 4) (n : Fin 256) :
    IsReal (logit x wq k h n) :=
  real_mul (real_sum fun d => real_mul (hk _ _) (real_sum fun i => real_mul (hx i) (hw i _))) scale_real

theorem top_real {l : Fin 256 → EReal} (hl : ∀ n, IsReal (l n)) : IsReal (top l) := by
  have h1 : top l < ⊤ := by
    refine (Finset.fold_max_lt _).mpr ⟨?_, fun n _ => ?_⟩
    · rw [bot_eq]
      exact bot_lt_top
    · obtain ⟨r, hr⟩ := hl n
      rw [hr]
      exact EReal.coe_lt_top r
  have h0 : ⊥ < top l := by
    refine lt_of_lt_of_le ?_ ((Finset.le_fold_max (l 0)).mpr (Or.inr ⟨0, Finset.mem_univ _, le_rfl⟩))
    obtain ⟨r, hr⟩ := hl 0
    rw [hr]
    exact EReal.bot_lt_coe r
  exact ⟨(top l).toReal, (EReal.coe_toReal h1.ne h0.ne').symm⟩

/-- The weights of real logits are positive, so their sum is not zero and the two softmaxes agree. -/
theorem soft_eq {l : Fin 256 → EReal} (hl : ∀ n, IsReal (l n)) : softMul l = soft l := by
  have hp : ∀ n, ∃ r : ℝ, 0 < r ∧ Ideal.exp (l n - top l) = (r : EReal) := by
    intro n
    obtain ⟨a, ha⟩ := hl n
    obtain ⟨b, hb⟩ := top_real hl
    refine ⟨Real.exp (a - b), Real.exp_pos _, ?_⟩
    rw [ha, hb, ← EReal.coe_sub]
    rfl
  have hs : 0 < ∑ n, Ideal.exp (l n - top l) := by
    have h0 : ∀ n, 0 ≤ Ideal.exp (l n - top l) := by
      intro n
      obtain ⟨r, hr, e⟩ := hp n
      rw [e]
      exact EReal.coe_nonneg.mpr hr.le
    refine lt_of_lt_of_le ?_ (Finset.single_le_sum (fun n _ => h0 n) (Finset.mem_univ (0 : Fin 256)))
    obtain ⟨r, hr, e⟩ := hp 0
    rw [e]
    exact EReal.coe_pos.mpr hr
  funext n
  unfold softMul soft Ideal.div
  rw [if_neg hs.ne', if_neg hs.ne', one_mul]

/-! ## The reference -/

open Cert.Reference4Ideal.Gen in
/-- The reference's logits. -/
def hostLogit (x : FVec Ideal Rows.S8x4096x1024 .f32) (k : FVec Ideal S8x256x512 .bf16) (wq : FVec Ideal S1024x512 .f32) :
    FVec Ideal Reference4Ideal.S8x4x4096x256 .f32 :=
  mulf (Host.dotGeneral Reference4Ideal.dot_S8x4096x4x128_S8x256x4x128_S8x4x4096x256_3_3_1_1_02_02 none
      (shapeCast Reference4Ideal.S8x4096x4x128
        (Host.dotGeneral Reference4Ideal.dot_S8x4096x1024_S1024x512_S8x4096x512_2_0_01_1_n_n none x wq)
        Reference4Ideal.Gen.shapeCasts_S8x4096x512_S8x4096x4x128)
      (shapeCast Reference4Ideal.S8x256x4x128 (extf .f32 k Reference4Ideal.Gen.bitsLt_bf16_f32)
        Reference4Ideal.Gen.shapeCasts_S8x256x512_S8x256x4x128))
    (broadcastInDim Reference4Ideal.S8x4x4096x256 ![] bcast_S_S8x4x4096x256 (constant Rows.S0 .f32 0x3DB504F3#32))

theorem hostLogit_apply (x : FVec Ideal Rows.S8x4096x1024 .f32) (k : FVec Ideal S8x256x512 .bf16) (wq : FVec Ideal S1024x512 .f32)
    (b : Fin 8) (h : Fin 4) (s : Fin 4096) (n : Fin 256) : hostLogit x k wq (ix4 b h s n)
      = (∑ d : Fin 128, (∑ i : Fin 1024, x (ix3 b s i) * wq (ix2 i (colOf h d))) * k (ix3 b n (colOf h d)))
        * Ideal.ofBits .f32 0x3DB504F3#32 := by
  pointwise [hostLogit]

open Cert.Reference4Ideal.Gen in
/-- The logits' maxima along the memory. -/
def hostMax (l : FVec Ideal Reference4Ideal.S8x4x4096x256 .f32) : FVec Ideal Reference4Ideal.S8x4x4096 .f32 :=
  Host.reduce FloatOps.maximumf l (constant Rows.S0 .f32 0xFF800000#32) reducesTo_S8x4x4096x256_S8x4x4096_d3 h_S_

theorem hostMax_apply (l : FVec Ideal Reference4Ideal.S8x4x4096x256 .f32) (b : Fin 8) (h : Fin 4) (s : Fin 4096) :
    hostMax l (ix3 b h s) = top (fun n => l (ix4 b h s n)) := by
  pointwise [hostMax, top]

open Cert.Reference4Ideal.Gen in
/-- The greater of each and -∞, along the memory again. -/
def hostTop (y : FVec Ideal Reference4Ideal.S8x4x4096 .f32) : FVec Ideal Reference4Ideal.S8x4x4096x256 .f32 :=
  broadcastInDim Reference4Ideal.S8x4x4096x256 ![0, 1, 2, 3] bcast_S8x4x4096x1_S8x4x4096x256_0_1_2_3
    (broadcastInDim Reference4Ideal.S8x4x4096x1 ![0, 1, 2] bcast_S8x4x4096_S8x4x4096x1_0_1_2
      (maximumf (broadcastInDim Reference4Ideal.S8x4x4096 ![] bcast_S_S8x4x4096 (constant Rows.S0 .f32 0xFF800000#32)) y))

theorem hostTop_apply (y : FVec Ideal Reference4Ideal.S8x4x4096 .f32) (b : Fin 8) (h : Fin 4) (s : Fin 4096) (n : Fin 256) :
    hostTop y (ix4 b h s n) = y (ix3 b h s) := by
  have e : hostTop y (ix4 b h s n) = max (Ideal.ofBits .f32 0xFF800000#32) (y (ix3 b h s)) := by
    pointwise [hostTop]
  rw [e, bot_eq, max_eq_right bot_le]

open Cert.Reference4Ideal.Gen in
/-- The reference's softmax of logits `l`, `t` holding their maxima. -/
def hostSoft (l t : FVec Ideal Reference4Ideal.S8x4x4096x256 .f32) : FVec Ideal Reference4Ideal.S8x4x4096x256 .f32 :=
  Host.divf (Host.exp (subf l t))
    (broadcastInDim Reference4Ideal.S8x4x4096x256 ![0, 1, 2, 3] bcast_S8x4x4096x1_S8x4x4096x256_0_1_2_3
      (broadcastInDim Reference4Ideal.S8x4x4096x1 ![0, 1, 2] bcast_S8x4x4096_S8x4x4096x1_0_1_2
        (Host.reduceAdd (Host.exp (subf l t)) (constant Rows.S0 .f32 0x00000000#32)
          reducesTo_S8x4x4096x256_S8x4x4096_d3 h_S_)))

theorem hostSoft_div (l t : FVec Ideal Reference4Ideal.S8x4x4096x256 .f32) (b : Fin 8) (h : Fin 4) (s : Fin 4096) (n : Fin 256) :
    hostSoft l t (ix4 b h s n) = Ideal.div (Ideal.exp (l (ix4 b h s n) - t (ix4 b h s n)))
      (∑ k : Fin 256, Ideal.exp (l (ix4 b h s k) - t (ix4 b h s k))) := by
  pointwise [hostSoft]

theorem hostSoft_apply (l : FVec Ideal Reference4Ideal.S8x4x4096x256 .f32) (b : Fin 8) (h : Fin 4) (s : Fin 4096) (n : Fin 256) :
    hostSoft l (hostTop (hostMax l)) (ix4 b h s n) = soft (fun n => l (ix4 b h s n)) n := by
  rw [hostSoft_div]
  simp only [hostTop_apply, hostMax_apply]
  rfl

open Cert.Reference4Ideal.Gen in
/-- What the reference's rows take from the memory. -/
def hostTaken (p : FVec Ideal Reference4Ideal.S8x4x4096x256 .f32) (v : FVec Ideal S8x256x512 .bf16) :
    FVec Ideal Reference4Ideal.S8x4096x512 .f32 :=
  shapeCast Reference4Ideal.S8x4096x512 (transpose Reference4Ideal.S8x4096x4x128 [0, 3, 1, 2]
    (Host.dotGeneral Reference4Ideal.dot_S8x256x4x128_S8x4x4096x256_S8x4x128x4096_1_3_3_2_02_01 none
      (shapeCast Reference4Ideal.S8x256x4x128 (extf .f32 v Reference4Ideal.Gen.bitsLt_bf16_f32)
        Reference4Ideal.Gen.shapeCasts_S8x256x512_S8x256x4x128) p)
    transposes_S8x4x128x4096_S8x4096x4x128_0_3_1_2) Reference4Ideal.Gen.shapeCasts_S8x4096x4x128_S8x4096x512

theorem hostTaken_apply (p : FVec Ideal Reference4Ideal.S8x4x4096x256 .f32) (v : FVec Ideal S8x256x512 .bf16)
    (b : Fin 8) (s : Fin 4096) (j : Fin 512) : hostTaken p v (ix3 b s j)
      = ∑ n : Fin 256, v (ix3 b n j) * p (ix4 b (headOf j) s n) := by
  pointwise [hostTaken]

/-- The reference's rows with a projection of `o` added. -/
def hostAdd (x : FVec Ideal Rows.S8x4096x1024 .f32) (o : FVec Ideal Reference4Ideal.S8x4096x512 .f32) (wo : FVec Ideal S512x1024 .f32) :
    FVec Ideal Rows.S8x4096x1024 .f32 :=
  addf (mulf (broadcastInDim Rows.S8x4096x1024 ![] Reference4Ideal.Gen.bcast_S_S8x4096x1024 (constant Rows.S0 .f32 0x3FB504F3#32)) x)
    (Host.dotGeneral Reference4Ideal.dot_S8x4096x512_S512x1024_S8x4096x1024_2_0_01_1_n_n none o wo)

theorem hostAdd_apply (x : FVec Ideal Rows.S8x4096x1024 .f32) (o : FVec Ideal Reference4Ideal.S8x4096x512 .f32)
    (wo : FVec Ideal S512x1024 .f32) (b : Fin 8) (s : Fin 4096) (n : Fin 1024) : hostAdd x o wo (ix3 b s n)
      = Ideal.ofBits .f32 0x3FB504F3#32 * x (ix3 b s n) + ∑ j : Fin 512, o (ix3 b s j) * wo (ix2 j n) := by
  pointwise [hostAdd]

/-- The reference's rows before its layer norm. -/
def hostCrossed (x : FVec Ideal Rows.S8x4096x1024 .f32) (k v : FVec Ideal S8x256x512 .bf16) (wq : FVec Ideal S1024x512 .f32)
    (wo : FVec Ideal S512x1024 .f32) : FVec Ideal Rows.S8x4096x1024 .f32 :=
  hostAdd x (hostTaken (hostSoft (hostLogit x k wq) (hostTop (hostMax (hostLogit x k wq)))) v) wo

theorem crossed_host (x : FVec Ideal Rows.S8x4096x1024 .f32) (k v : FVec Ideal S8x256x512 .bf16) (wq : FVec Ideal S1024x512 .f32)
    (wo : FVec Ideal S512x1024 .f32) (R : Fin 32768) (n : Fin 1024) : hostCrossed x k v wq wo (ix3 (seqOf R) (posOf R) n)
      = crossed soft (xrow x R.val) (ents wq) (mem k R.val) (mem v R.val) (ents wo) n := by
  have hs : seqOf R = ⟨R.val / 4096 % 8, by omega⟩ := Fin.ext (by have := R.isLt; dsimp only; omega)
  unfold hostCrossed
  rw [hostAdd_apply]
  unfold crossed taken logit qry xrow mem
  rw [hs]
  refine congrArg (_ + ·) (Finset.sum_congr rfl fun j _ => congrArg (· * _) ?_)
  rw [hostTaken_apply]
  refine Finset.sum_congr rfl fun i _ => (mul_comm _ _).trans ?_
  rw [hostSoft_apply]
  simp only [hostLogit_apply]
  refine congrArg (fun l => soft l i * _) (funext fun e => congrArg (· * _) (Finset.sum_congr rfl fun d _ => mul_comm _ _))

theorem facts : HostFacts := ⟨Reference4Ideal.Gen.reducesTo_S8x4096x1024_S8x4096_d2, Reference4Ideal.Gen.h_S_,
  Reference4Ideal.Gen.bcast_S8x4096_S8x4096x1_0_1, Reference4Ideal.Gen.bcast_S_S8x4096x1,
  Reference4Ideal.Gen.bcast_S8x4096x1_S8x4096x1024_0_1_2, Reference4Ideal.Gen.bcast_S1024_S1x1x1024_2,
  Reference4Ideal.Gen.bcast_S1x1x1024_S8x4096x1024_0_1_2, Reference4Ideal.Gen.shapeCasts_S8x4096x1024_S32768x1024⟩

theorem host_eq (x : FVec Ideal Rows.S8x4096x1024 .f32) (k v : FVec Ideal S8x256x512 .bf16) (wq : FVec Ideal S1024x512 .f32)
    (wo : FVec Ideal S512x1024 .f32) (g b : FVec Ideal Rows.S1024 .f32) :
    normHost facts (hostCrossed x k v wq wo) g b = G soft x k v wq wo g b := by
  funext i
  idx_vars i
  refine (normHost_apply _ _ _ _ _ _).trans ?_
  simp only [crossed_host]
  rfl

theorem ref_eq (m' : (ℓ : Loc Reference4Ideal.nD Reference4Ideal.τ Reference4Ideal.sig) → Buf (Elt Ideal) ℓ)
    (c : Dev Reference4Ideal.nD) : Reference4Ideal.Value.res_out0 m' c
      = normHost facts (hostCrossed (m' ((c.tc : Thread Reference4Ideal.nD Reference4Ideal.τ).loc Reference4Ideal.main_arg0))
          (m' ((c.tc : Thread Reference4Ideal.nD Reference4Ideal.τ).loc Reference4Ideal.main_arg1))
          (m' ((c.tc : Thread Reference4Ideal.nD Reference4Ideal.τ).loc Reference4Ideal.main_arg2))
          (m' ((c.tc : Thread Reference4Ideal.nD Reference4Ideal.τ).loc Reference4Ideal.main_arg3))
          (m' ((c.tc : Thread Reference4Ideal.nD Reference4Ideal.τ).loc Reference4Ideal.main_arg4)))
        (m' ((c.tc : Thread Reference4Ideal.nD Reference4Ideal.τ).loc Reference4Ideal.main_arg5))
        (m' ((c.tc : Thread Reference4Ideal.nD Reference4Ideal.τ).loc Reference4Ideal.main_arg6)) := by
  with_unfolding_all rfl

/-! ## The precondition -/

theorem real_of_abs {a : EReal} (h : Ideal.cmp .olt (max a (-a)) (Ideal.ofBits .f32 0x7F800000#32) = 1#1) : IsReal a := by
  have ht : Ideal.ofBits .f32 0x7F800000#32 = ⊤ := by simp [Ideal.ofBits, Ideal.ieee]
  rw [ht] at h
  induction a with
  | bot => simp [Ideal.cmp] at h
  | top => simp [Ideal.cmp] at h
  | coe r => exact ⟨r, rfl⟩

/-- With real activations, keys and queries' weight the two softmaxes give one result. -/
theorem G_eq {x : FVec Ideal Rows.S8x4096x1024 .f32} {k : FVec Ideal S8x256x512 .bf16} {wq : FVec Ideal S1024x512 .f32}
    (hx : ∀ i, IsReal (x i)) (hk : ∀ i, IsReal (k i)) (hw : ∀ i, IsReal (wq i)) (v : FVec Ideal S8x256x512 .bf16)
    (wo : FVec Ideal S512x1024 .f32) (g b : FVec Ideal Rows.S1024 .f32) : G soft x k v wq wo g b = G softMul x k v wq wo g b := by
  funext i
  unfold G crossed taken
  have e : ∀ h, softMul (logit (xrow x (i 0).val) (ents wq) (mem k (i 0).val) h)
      = soft (logit (xrow x (i 0).val) (ents wq) (mem k (i 0).val) h) := fun h =>
    soft_eq fun n => logit_real (fun _ => hx _) (fun _ _ => hw _) (fun _ _ => hk _) h n
  simp only [e]

/-- At `Ideal` the cross-attention's result array and the reference's agree, the activations, the keys and the queries' weight
    being real. -/
theorem algebraic [Cert.Pre_finite.Facts] : Cert.algebraic_Kernel4Ideal_Reference4Ideal_pre_finite := by
  pair_intro
  · run_from Cert.Kernel4Ideal.Value.run_blocks m g
  · run_from Cert.Reference4Ideal.Value.run m' g'
    rw [final m c]
    obtain ⟨h0, h1, h2, h3, h4, h5, h6⟩ := hagree c
    refine (ref_eq m' c).trans ((host_eq _ _ _ _ _ _ _).trans ?_)
    rw [h0, h1, h2, h3, h4, h5, h6]
    obtain ⟨p0, p1, p3⟩ := hpre c
    exact G_eq (fun i => real_of_abs (congrFun p0 i)) (fun i => real_of_abs (congrFun p1 i)) (fun i => real_of_abs (congrFun p3 i))
      _ _ _ _

end Cert.Kernel4Ideal.Xattn

end
-- ==== Proof.Mix.lean ====
/- The mixer's projections at `Ideal`: each row of the activations times the columns of the input weight, the latent's 128
   of them normed by their root mean square. The kernel reads the columns from one weight packed in another order, with
   columns of zeros behind the index's. -/
module

public import proofs.«01_k».proof.Defs
public import proofs.«01_k».proof.Proof.Rows
public import proofs.«01_k».proof.Proof.Gen.Kernel5Ideal.Value
public import proofs.«01_k».proof.Proof.Gen.Reference5Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Rows

/-- A row's product with one column of the input weight. -/
def inProj (x : Fin 1024 → EReal) (w : Fin 1024 → Fin 7368 → EReal) (j : Fin 7368) : EReal := ∑ k, x k * w k j

/-- The latent's norm: over the root of its mean square plus 1e-5, times `g`. -/
def rms (c g : Fin 128 → EReal) (n : Fin 128) : EReal :=
  c n * Ideal.rsqrt (Ideal.div (∑ j, c j * c j) (Ideal.ofBits .f32 0x43000000#32) + Ideal.ofBits .f32 0x3727C5AC#32) * g n

/-- A row's latent: the norm of its products with the columns 512 to 639. -/
def latent (x : Fin 1024 → EReal) (w : Fin 1024 → Fin 7368 → EReal) (g : Fin 128 → EReal) (n : Fin 128) : EReal :=
  rms (fun j => inProj x w ⟨512 + j.val, by omega⟩) g n

end Cert.Rows

namespace Cert.Kernel5Ideal.Mix

open Cert.Kernel5Ideal Cert.Kernel5Ideal.Gen Cert.Rows

/-! ## The packed weight -/

/-- Eight groups of columns side by side. -/
def join (a b c d e : FVec Ideal S1024x512 .f32) (f : FVec Ideal S1024x128 .f32) (g : FVec Ideal S1024x72 .f32)
    (h : FVec Ideal S1024x56 .f32) : FVec Ideal S1024x2816 .f32 :=
  concatenate S1024x2816 1 [⟨S1024x512, a⟩, ⟨S1024x512, b⟩, ⟨S1024x512, c⟩, ⟨S1024x512, d⟩, ⟨S1024x512, e⟩, ⟨S1024x128, f⟩,
    ⟨S1024x72, g⟩, ⟨S1024x56, h⟩]
    concatenates_S1024x512_S1024x512_S1024x512_S1024x512_S1024x512_S1024x128_S1024x72_S1024x56_S1024x2816_d1

theorem join_a (a b c d e : FVec Ideal S1024x512 .f32) (f : FVec Ideal S1024x128 .f32) (g : FVec Ideal S1024x72 .f32)
    (h : FVec Ideal S1024x56 .f32) (i : Fin 1024) (n : Fin 512) :
    join a b c d e f g h (ix2 i ⟨0 + n.val, by omega⟩) = a (ix2 i n) := by
  pointwise [join]

theorem join_b (a b c d e : FVec Ideal S1024x512 .f32) (f : FVec Ideal S1024x128 .f32) (g : FVec Ideal S1024x72 .f32)
    (h : FVec Ideal S1024x56 .f32) (i : Fin 1024) (n : Fin 512) :
    join a b c d e f g h (ix2 i ⟨512 + n.val, by omega⟩) = b (ix2 i n) := by
  pointwise [join]

theorem join_c (a b c d e : FVec Ideal S1024x512 .f32) (f : FVec Ideal S1024x128 .f32) (g : FVec Ideal S1024x72 .f32)
    (h : FVec Ideal S1024x56 .f32) (i : Fin 1024) (n : Fin 512) :
    join a b c d e f g h (ix2 i ⟨1024 + n.val, by omega⟩) = c (ix2 i n) := by
  pointwise [join]
  rw [dif_neg (show ¬ 1024 + n.val < 512 by omega)]
  rw [dif_neg (show ¬ 1024 + n.val - 512 < 512 by omega)]
  rw [dif_pos (show 1024 + n.val - 512 - 512 < 512 by omega)]
  exact congrArg (fun q => c (ix2 i q)) (Fin.ext (show 1024 + n.val - 512 - 512 = n.val by omega))

theorem join_d (a b c d e : FVec Ideal S1024x512 .f32) (f : FVec Ideal S1024x128 .f32) (g : FVec Ideal S1024x72 .f32)
    (h : FVec Ideal S1024x56 .f32) (i : Fin 1024) (n : Fin 512) :
    join a b c d e f g h (ix2 i ⟨1536 + n.val, by omega⟩) = d (ix2 i n) := by
  pointwise [join]
  rw [dif_neg (show ¬ 1536 + n.val < 512 by omega)]
  rw [dif_neg (show ¬ 1536 + n.val - 512 < 512 by omega)]
  rw [dif_neg (show ¬ 1536 + n.val - 512 - 512 < 512 by omega)]
  rw [dif_pos (show 1536 + n.val - 512 - 512 - 512 < 512 by omega)]
  exact congrArg (fun q => d (ix2 i q)) (Fin.ext (show 1536 + n.val - 512 - 512 - 512 = n.val by omega))

theorem join_e (a b c d e : FVec Ideal S1024x512 .f32) (f : FVec Ideal S1024x128 .f32) (g : FVec Ideal S1024x72 .f32)
    (h : FVec Ideal S1024x56 .f32) (i : Fin 1024) (n : Fin 512) :
    join a b c d e f g h (ix2 i ⟨2048 + n.val, by omega⟩) = e (ix2 i n) := by
  pointwise [join]
  rw [dif_neg (show ¬ 2048 + n.val < 512 by omega)]
  rw [dif_neg (show ¬ 2048 + n.val - 512 < 512 by omega)]
  rw [dif_neg (show ¬ 2048 + n.val - 512 - 512 < 512 by omega)]
  rw [dif_neg (show ¬ 2048 + n.val - 512 - 512 - 512 < 512 by omega)]
  rw [dif_pos (show 2048 + n.val - 512 - 512 - 512 - 512 < 512 by omega)]
  exact congrArg (fun q => e (ix2 i q)) (Fin.ext (show 2048 + n.val - 512 - 512 - 512 - 512 = n.val by omega))

theorem join_f (a b c d e : FVec Ideal S1024x512 .f32) (f : FVec Ideal S1024x128 .f32) (g : FVec Ideal S1024x72 .f32)
    (h : FVec Ideal S1024x56 .f32) (i : Fin 1024) (n : Fin 128) :
    join a b c d e f g h (ix2 i ⟨2560 + n.val, by omega⟩) = f (ix2 i n) := by
  pointwise [join]
  rw [dif_neg (show ¬ 2560 + n.val < 512 by omega)]
  rw [dif_neg (show ¬ 2560 + n.val - 512 < 512 by omega)]
  rw [dif_neg (show ¬ 2560 + n.val - 512 - 512 < 512 by omega)]
  rw [dif_neg (show ¬ 2560 + n.val - 512 - 512 - 512 < 512 by omega)]
  rw [dif_neg (show ¬ 2560 + n.val - 512 - 512 - 512 - 512 < 512 by omega)]
  rw [dif_pos (show 2560 + n.val - 512 - 512 - 512 - 512 - 512 < 128 by omega)]
  exact congrArg (fun q => f (ix2 i q)) (Fin.ext (show 2560 + n.val - 512 - 512 - 512 - 512 - 512 = n.val by omega))

theorem join_g (a b c d e : FVec Ideal S1024x512 .f32) (f : FVec Ideal S1024x128 .f32) (g : FVec Ideal S1024x72 .f32)
    (h : FVec Ideal S1024x56 .f32) (i : Fin 1024) (n : Fin 72) :
    join a b c d e f g h (ix2 i ⟨2688 + n.val, by omega⟩) = g (ix2 i n) := by
  pointwise [join]
  rw [dif_neg (show ¬ 2688 + n.val < 512 by omega)]
  rw [dif_neg (show ¬ 2688 + n.val - 512 < 512 by omega)]
  rw [dif_neg (show ¬ 2688 + n.val - 512 - 512 < 512 by omega)]
  rw [dif_neg (show ¬ 2688 + n.val - 512 - 512 - 512 < 512 by omega)]
  rw [dif_neg (show ¬ 2688 + n.val - 512 - 512 - 512 - 512 < 512 by omega)]
  rw [dif_neg (show ¬ 2688 + n.val - 512 - 512 - 512 - 512 - 512 < 128 by omega)]
  rw [dif_pos (show 2688 + n.val - 512 - 512 - 512 - 512 - 512 - 128 < 72 by omega)]
  exact congrArg (fun q => g (ix2 i q)) (Fin.ext (show 2688 + n.val - 512 - 512 - 512 - 512 - 512 - 128 = n.val by omega))

theorem join_h (a b c d e : FVec Ideal S1024x512 .f32) (f : FVec Ideal S1024x128 .f32) (g : FVec Ideal S1024x72 .f32)
    (h : FVec Ideal S1024x56 .f32) (i : Fin 1024) (n : Fin 56) :
    join a b c d e f g h (ix2 i ⟨2760 + n.val, by omega⟩) = h (ix2 i n) := by
  pointwise [join]
  rw [dif_neg (show ¬ 2760 + n.val < 512 by omega)]
  rw [dif_neg (show ¬ 2760 + n.val - 512 < 512 by omega)]
  rw [dif_neg (show ¬ 2760 + n.val - 512 - 512 < 512 by omega)]
  rw [dif_neg (show ¬ 2760 + n.val - 512 - 512 - 512 < 512 by omega)]
  rw [dif_neg (show ¬ 2760 + n.val - 512 - 512 - 512 - 512 < 512 by omega)]
  rw [dif_neg (show ¬ 2760 + n.val - 512 - 512 - 512 - 512 - 512 < 128 by omega)]
  rw [dif_neg (show ¬ 2760 + n.val - 512 - 512 - 512 - 512 - 512 - 128 < 72 by omega)]
  exact congrArg (fun q => h (ix2 i q)) (Fin.ext (show 2760 + n.val - 512 - 512 - 512 - 512 - 512 - 128 - 72 = n.val by omega))

/-- The input weight's columns in the kernel's order, and its columns of zeros. -/
def packed (w : FVec Ideal S1024x7368 .f32) : FVec Ideal S1024x2816 .f32 :=
  join (extractStridedSlice S1024x512 ![0, 0] w slices_S1024x7368_S1024x512_0_0)
    (extractStridedSlice S1024x512 ![0, 640] w slices_S1024x7368_S1024x512_0_640)
    (extractStridedSlice S1024x512 ![0, 1224] w slices_S1024x7368_S1024x512_0_1224)
    (extractStridedSlice S1024x512 ![0, 1736] w slices_S1024x7368_S1024x512_0_1736)
    (extractStridedSlice S1024x512 ![0, 2248] w slices_S1024x7368_S1024x512_0_2248)
    (extractStridedSlice S1024x128 ![0, 512] w slices_S1024x7368_S1024x128_0_512)
    (extractStridedSlice S1024x72 ![0, 1152] w slices_S1024x7368_S1024x72_0_1152)
    (broadcastInDim S1024x56 ![] bcast_S_S1024x56 (constant Rows.S0 .f32 0x00000000#32))

theorem packed_a (w : FVec Ideal S1024x7368 .f32) (i : Fin 1024) (n : Fin 512) :
    packed w (ix2 i ⟨0 + n.val, by omega⟩) = w (ix2 i ⟨0 + n.val, by omega⟩) := by
  unfold packed
  rw [join_a]
  rw [show (⟨0 + n.val, by omega⟩ : Fin 7368) = ⟨n.val, by omega⟩ from Fin.ext (Nat.zero_add n.val)]
  pointwise

theorem packed_b (w : FVec Ideal S1024x7368 .f32) (i : Fin 1024) (n : Fin 512) :
    packed w (ix2 i ⟨512 + n.val, by omega⟩) = w (ix2 i ⟨640 + n.val, by omega⟩) := by
  unfold packed
  rw [join_b]
  pointwise

theorem packed_c (w : FVec Ideal S1024x7368 .f32) (i : Fin 1024) (n : Fin 512) :
    packed w (ix2 i ⟨1024 + n.val, by omega⟩) = w (ix2 i ⟨1224 + n.val, by omega⟩) := by
  unfold packed
  rw [join_c]
  pointwise

theorem packed_d (w : FVec Ideal S1024x7368 .f32) (i : Fin 1024) (n : Fin 512) :
    packed w (ix2 i ⟨1536 + n.val, by omega⟩) = w (ix2 i ⟨1736 + n.val, by omega⟩) := by
  unfold packed
  rw [join_d]
  pointwise

theorem packed_e (w : FVec Ideal S1024x7368 .f32) (i : Fin 1024) (n : Fin 512) :
    packed w (ix2 i ⟨2048 + n.val, by omega⟩) = w (ix2 i ⟨2248 + n.val, by omega⟩) := by
  unfold packed
  rw [join_e]
  pointwise

theorem packed_f (w : FVec Ideal S1024x7368 .f32) (i : Fin 1024) (n : Fin 128) :
    packed w (ix2 i ⟨2560 + n.val, by omega⟩) = w (ix2 i ⟨512 + n.val, by omega⟩) := by
  unfold packed
  rw [join_f]
  pointwise

theorem packed_g (w : FVec Ideal S1024x7368 .f32) (i : Fin 1024) (n : Fin 72) :
    packed w (ix2 i ⟨2688 + n.val, by omega⟩) = w (ix2 i ⟨1152 + n.val, by omega⟩) := by
  unfold packed
  rw [join_g]
  pointwise

theorem packed_h (w : FVec Ideal S1024x7368 .f32) (i : Fin 1024) (n : Fin 56) :
    packed w (ix2 i ⟨2760 + n.val, by omega⟩) = 0 := by
  unfold packed
  rw [join_h]
  pointwise

/-! ## A block's results -/

/-- A row of a block times a column of the packed weight. -/
def dotCol (x0 : FVec Ideal S512x1024 .f32) (x1 : FVec Ideal S1024x2816 .bf16) (r : Fin 512) (j : Fin 2816) : EReal :=
  ∑ k : Fin 1024, x0 (ix2 r k) * x1 (ix2 k j)

theorem out3_apply (x0 : FVec Ideal S512x1024 .f32) (x1 : FVec Ideal S1024x2816 .bf16) (x2 : FVec Ideal S1x128 .f32) (r n : Fin 512) :
    out0_3 (F := Ideal) x0 x1 x2 (ix2 r n) = dotCol x0 x1 r ⟨0 + n.val, by omega⟩ := by
  unfold dotCol
  simp only [show ∀ n : Fin 512, (⟨0 + n.val, by omega⟩ : Fin 2816) = ⟨n.val, by omega⟩ from fun n => Fin.ext (Nat.zero_add n.val)]
  unfold out0_3
  frame_out
  pointwise [k0_pay6, k0_pay5]

theorem out4_apply (x0 : FVec Ideal S512x1024 .f32) (x1 : FVec Ideal S1024x2816 .bf16) (x2 : FVec Ideal S1x128 .f32) (r n : Fin 512) :
    out0_4 (F := Ideal) x0 x1 x2 (ix2 r n) = dotCol x0 x1 r ⟨512 + n.val, by omega⟩ := by
  unfold dotCol
  unfold out0_4
  frame_out
  pointwise [k0_pay7, k0_pay5]

theorem out5_apply (x0 : FVec Ideal S512x1024 .f32) (x1 : FVec Ideal S1024x2816 .bf16) (x2 : FVec Ideal S1x128 .f32) (r n : Fin 512) :
    out0_5 (F := Ideal) x0 x1 x2 (ix2 r n) = dotCol x0 x1 r ⟨1024 + n.val, by omega⟩ := by
  unfold dotCol
  unfold out0_5
  frame_out
  pointwise [k0_pay8, k0_pay5]

theorem out6_apply (x0 : FVec Ideal S512x1024 .f32) (x1 : FVec Ideal S1024x2816 .bf16) (x2 : FVec Ideal S1x128 .f32) (r n : Fin 512) :
    out0_6 (F := Ideal) x0 x1 x2 (ix2 r n) = dotCol x0 x1 r ⟨1536 + n.val, by omega⟩ := by
  unfold dotCol
  unfold out0_6
  frame_out
  pointwise [k0_pay9, k0_pay5]

theorem out7_apply (x0 : FVec Ideal S512x1024 .f32) (x1 : FVec Ideal S1024x2816 .bf16) (x2 : FVec Ideal S1x128 .f32) (r n : Fin 512) :
    out0_7 (F := Ideal) x0 x1 x2 (ix2 r n) = dotCol x0 x1 r ⟨2048 + n.val, by omega⟩ := by
  unfold dotCol
  unfold out0_7
  frame_out
  pointwise [k0_pay10, k0_pay5]

theorem pay1_apply (x : FVec Ideal S512x1024 .bf16) (w : FVec Ideal S1024x128 .bf16) (g : FVec Ideal S1x128 .f32) (r : Fin 512)
    (n : Fin 128) : k0_pay1 (F := Ideal) x w g (ix2 r n)
      = rms (fun j => ∑ k : Fin 1024, x (ix2 r k) * w (ix2 k j)) (fun j => g (ix2 0 j)) n := by
  pointwise [k0_pay1, rms]

theorem pay3_apply (x : FVec Ideal S512x1024 .bf16) (w : FVec Ideal S1024x128 .bf16) (g : FVec Ideal S1x128 .f32) (a : Fin 144)
    (r : Fin 512) : k0_pay3 (F := Ideal) x w g (ix2 a r)
      = if h : a.val < 128 then k0_pay1 (F := Ideal) x w g (ix2 r ⟨a.val, h⟩) else Ideal.ofBits .f32 0x3F800000#32 := by
  pointwise [k0_pay3]

/-- A block's latent. -/
def lat (x0 : FVec Ideal S512x1024 .f32) (x1 : FVec Ideal S1024x2816 .bf16) (x2 : FVec Ideal S1x128 .f32) : FVec Ideal S512x128 .f32 :=
  k0_pay1 (F := Ideal) (k0_pay5 (F := Ideal) x0) (cut x1 r0_7) x2

theorem lat_apply (x0 : FVec Ideal S512x1024 .f32) (x1 : FVec Ideal S1024x2816 .bf16) (x2 : FVec Ideal S1x128 .f32) (r : Fin 512)
    (n : Fin 128) : lat x0 x1 x2 (ix2 r n)
      = rms (fun j => dotCol x0 x1 r ⟨2560 + j.val, by omega⟩) (fun j => x2 (ix2 0 j)) n := by
  have hx : ∀ k : Fin 1024, k0_pay5 (F := Ideal) x0 (ix2 r k) = x0 (ix2 r k) := fun k => by pointwise [k0_pay5]
  have hw : ∀ (k : Fin 1024) (j : Fin 128), cut x1 r0_7 (ix2 k j) = x1 (ix2 k ⟨2560 + j.val, by omega⟩) := fun k j => by pointwise [cut]
  refine (pay1_apply _ _ _ r n).trans ?_
  simp only [hx]
  exact congrArg (fun f => rms f _ n) (funext fun j => Finset.sum_congr rfl fun k _ => congrArg (_ * ·) (hw k j))

theorem out8_apply (x0 : FVec Ideal S512x1024 .f32) (x1 : FVec Ideal S1024x2816 .bf16) (x2 : FVec Ideal S1x128 .f32) (r : Fin 512)
    (n : Fin 128) : out0_8 (F := Ideal) x0 x1 x2 (ix2 r n) = lat x0 x1 x2 (ix2 r n) := by
  unfold out0_8 k0_pay11
  frame_out
  rfl

theorem out9_apply (x0 : FVec Ideal S512x1024 .f32) (x1 : FVec Ideal S1024x2816 .bf16) (x2 : FVec Ideal S1x128 .f32) (a : Fin 144)
    (r : Fin 512) : out0_9 (F := Ideal) x0 x1 x2 (ix2 a r)
      = if h : a.val < 128 then lat x0 x1 x2 (ix2 r ⟨a.val, h⟩) else Ideal.ofBits .f32 0x3F800000#32 := by
  unfold out0_9 k0_pay11
  frame_out
  exact pay3_apply _ _ _ a r

theorem out10_apply (x0 : FVec Ideal S512x1024 .f32) (x1 : FVec Ideal S1024x2816 .bf16) (x2 : FVec Ideal S1x128 .f32) (r : Fin 512)
    (n : Fin 128) : out0_10 (F := Ideal) x0 x1 x2 (ix2 r n) = dotCol x0 x1 r ⟨2688 + n.val, by omega⟩ := by
  unfold dotCol
  unfold out0_10 k0_pay11
  frame_out
  pointwise [k0_pay4, k0_pay5]

/-! ## The result arrays -/

/-- Row `R` of the flattened activations. -/
def xrow (x : FVec Ideal Rows.S8x4096x1024 .f32) (R : ℕ) (k : Fin 1024) : EReal := x (ix3 ⟨R / 4096 % 8, by omega⟩ ⟨R % 4096, by omega⟩ k)

/-- What the five wide results are shown to hold: the products with the weight's 512 columns from `o` on. -/
def G (o : ℕ) (ho : o + 512 ≤ 7368) (x : FVec Ideal Rows.S8x4096x1024 .f32) (w : FVec Ideal S1024x7368 .f32) :
    FVec Ideal S32768x512 .bf16 := fun i =>
  inProj (xrow x (i 0).val) (ents w) ⟨o + (i 1).val, by have : (i 1).val < 512 := (i 1).isLt; omega⟩

/-- What the latent's array is shown to hold. -/
def Glat (x : FVec Ideal Rows.S8x4096x1024 .f32) (w : FVec Ideal S1024x7368 .f32) (g : FVec Ideal S128 .f32) :
    FVec Ideal S32768x128 .bf16 := fun i => latent (xrow x (i 0).val) (ents w) (fun j => g (ix1 j)) (i 1)

/-- What the transposed latent's array is shown to hold: the latents as columns, and sixteen rows of ones below. -/
def GlatT (x : FVec Ideal Rows.S8x4096x1024 .f32) (w : FVec Ideal S1024x7368 .f32) (g : FVec Ideal S128 .f32) :
    FVec Ideal S144x32768 .bf16 := fun i =>
  if h : (i 0).val < 128 then latent (xrow x (i 1).val) (ents w) (fun j => g (ix1 j)) ⟨(i 0).val, h⟩ else Ideal.ofBits .f32 0x3F800000#32

/-- What the index's array is shown to hold: the products with the 72 columns from 1152 on, and zeros behind. -/
def Gidx (x : FVec Ideal Rows.S8x4096x1024 .f32) (w : FVec Ideal S1024x7368 .f32) : FVec Ideal S32768x128 .f32 := fun i =>
  if h : (i 1).val < 72 then inProj (xrow x (i 0).val) (ents w) ⟨1152 + (i 1).val, by omega⟩ else 0

theorem GlatT_apply (x : FVec Ideal Rows.S8x4096x1024 .f32) (w : FVec Ideal S1024x7368 .f32) (g : FVec Ideal S128 .f32) (a : Fin 144)
    (R : Fin 32768) : GlatT x w g (ix2 a R) = if h : a.val < 128 then
      latent (xrow x R.val) (ents w) (fun j => g (ix1 j)) ⟨a.val, h⟩ else Ideal.ofBits .f32 0x3F800000#32 := rfl

theorem Gidx_apply (x : FVec Ideal Rows.S8x4096x1024 .f32) (w : FVec Ideal S1024x7368 .f32) (R : Fin 32768) (n : Fin 128) :
    Gidx x w (ix2 R n) = if h : n.val < 72 then inProj (xrow x R.val) (ents w) ⟨1152 + n.val, by omega⟩ else 0 := rfl

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, t.val] ∧ win0_10.index t = ![t.val, 0] :=
  (by decide +kernel : ∀ t : Fin grid0.N, _)

theorem tlt (t : Fin cfg0.N) : t.val < 64 := t.isLt

theorem lt (t : Fin cfg0.N) (r : Fin 512) : t.val * 512 + r.val < 32768 := by
  have := tlt t
  omega

/-- The call's operands: the activations flattened, the packed weight and the gain as a row. -/
theorem entry9 (c : Dev nD) : (V m c main_v9 : FVec Ideal S32768x1024 .f32)
    = shapeCast S32768x1024 (m ((c : Thread nD τ).loc main_arg0) : FVec Ideal Rows.S8x4096x1024 .f32) shapeCasts_S8x4096x1024_S32768x1024 := by
  show StableHlo.after hostOps0 (fun b => m (c, b)) main_v9 = _
  (after_results_simp <;> (try dsimp only [Matrix.cons_val]) <;> (try after_results_simp)) <;> rfl

theorem entry10 (c : Dev nD) : (V m c main_v10 : FVec Ideal S1024x2816 .bf16)
    = truncf .bf16 (packed (m ((c : Thread nD τ).loc main_arg1))) bitsLt_bf16_f32 := by
  show StableHlo.after hostOps0 (fun b => m (c, b)) main_v10 = _
  (after_results_simp <;> (try dsimp only [Matrix.cons_val]) <;> (try after_results_simp)) <;> rfl

theorem entry11 (c : Dev nD) : (V m c main_v11 : FVec Ideal S1x128 .f32)
    = broadcastInDim S1x128 ![1] bcast_S128_S1x128_1 (m ((c : Thread nD τ).loc main_arg2) : FVec Ideal S128 .f32) := by
  show StableHlo.after hostOps0 (fun b => m (c, b)) main_v11 = _
  (after_results_simp <;> (try dsimp only [Matrix.cons_val]) <;> (try after_results_simp)) <;> rfl

theorem flat_apply (x : FVec Ideal Rows.S8x4096x1024 .f32) (R : Fin 32768) (k : Fin 1024) :
    shapeCast S32768x1024 x shapeCasts_S8x4096x1024_S32768x1024 (ix2 R k) = x (ix3 (seqOf R) (posOf R) k) := by
  pointwise

theorem iblk0_at (c : Dev nD) (t : Fin cfg0.N) (r : Fin 512) (k : Fin 1024) : (iblk m c 0 t : FVec Ideal S512x1024 .f32) (ix2 r k)
    = (V m c main_v9 : FVec Ideal S32768x1024 .f32) (ix2 ⟨_, lt t r⟩ k) := by
  unfold iblk
  generalize V m c = U
  blk_point [idx t]

theorem iblk0_apply (c : Dev nD) (t : Fin cfg0.N) (r : Fin 512) (k : Fin 1024) : (iblk m c 0 t : FVec Ideal S512x1024 .f32) (ix2 r k)
    = xrow (m ((c : Thread nD τ).loc main_arg0)) (t.val * 512 + r.val) k := by
  have := lt t r
  unfold xrow
  rw [show (⟨(t.val * 512 + r.val) / 4096 % 8, by omega⟩ : Fin 8) = ⟨(t.val * 512 + r.val) / 4096, by omega⟩ from Fin.ext (by dsimp only; omega)]
  rw [iblk0_at, entry9]
  exact flat_apply _ ⟨_, lt t r⟩ k

theorem iblk1_apply (c : Dev nD) (t : Fin cfg0.N) (i : Fin 1024) (j : Fin 2816) : (iblk m c 1 t : FVec Ideal S1024x2816 .bf16) (ix2 i j)
    = packed (m ((c : Thread nD τ).loc main_arg1)) (ix2 i j) := by
  have e : (iblk m c 1 t : FVec Ideal S1024x2816 .bf16) (ix2 i j) = (V m c main_v10 : FVec Ideal S1024x2816 .bf16) (ix2 i j) := by
    unfold iblk
    generalize V m c = U
    blk_point [idx t]
  rw [e, entry10]
  rfl

theorem iblk2_apply (c : Dev nD) (t : Fin cfg0.N) (j : Fin 128) : (iblk m c 2 t : FVec Ideal S1x128 .f32) (ix2 0 j)
    = (m ((c : Thread nD τ).loc main_arg2) : FVec Ideal S128 .f32) (ix1 j) := by
  have e : (iblk m c 2 t : FVec Ideal S1x128 .f32) (ix2 0 j) = (V m c main_v11 : FVec Ideal S1x128 .f32) (ix2 0 j) := by
    unfold iblk
    generalize V m c = U
    blk_point [idx t]
  rw [e, entry11]
  pointwise

/-- A block's product with a column of the packed weight that is a column of the input weight. -/
theorem prod (c : Dev nD) (t : Fin cfg0.N) (r : Fin 512) (j : Fin 2816) (i : Fin 7368)
    (h : ∀ k, packed (m ((c : Thread nD τ).loc main_arg1)) (ix2 k j) = (m ((c : Thread nD τ).loc main_arg1) : FVec Ideal S1024x7368 .f32) (ix2 k i)) :
    dotCol (iblk m c 0 t) (iblk m c 1 t) r j
      = inProj (xrow (m ((c : Thread nD τ).loc main_arg0)) (t.val * 512 + r.val)) (ents (φ := .f32) (m ((c : Thread nD τ).loc main_arg1))) i := by
  refine Finset.sum_congr rfl fun k _ => ?_
  rw [iblk0_apply, iblk1_apply, h]

theorem lat_point (c : Dev nD) (t : Fin cfg0.N) (r : Fin 512) (n : Fin 128) : lat (iblk m c 0 t) (iblk m c 1 t) (iblk m c 2 t) (ix2 r n)
    = latent (xrow (m ((c : Thread nD τ).loc main_arg0)) (t.val * 512 + r.val)) (ents (φ := .f32) (m ((c : Thread nD τ).loc main_arg1)))
        (fun j => (m ((c : Thread nD τ).loc main_arg2) : FVec Ideal S128 .f32) (ix1 j)) n := by
  refine (lat_apply _ _ _ r n).trans ?_
  unfold latent
  have h1 : (fun j : Fin 128 => dotCol (iblk m c 0 t) (iblk m c 1 t) r ⟨2560 + j.val, by omega⟩) = _ :=
    funext fun j => prod m c t r _ _ fun k => packed_f _ k j
  have h2 : (fun j : Fin 128 => (iblk m c 2 t : FVec Ideal S1x128 .f32) (ix2 0 j)) = _ := funext fun j => iblk2_apply m c t j
  rw [h1, h2]

theorem final3 (c : Dev nD) : (dats m 0 c).arrAt 3 cfg0.N
    = G 0 (by omega) (m ((c : Thread nD τ).loc main_arg0)) (m ((c : Thread nD τ).loc main_arg1)) := by
  refine (dats m 0 c).arrAt_eq_of_covers 3 _ (by decide +kernel) fun t _ y => ?_
  blk_simp
  rw [after0_3]
  idx_vars y
  refine (out3_apply _ _ _ y0 y1).trans ((prod m c t y0 _ _ fun k => packed_a _ k y1).trans ?_)
  show G 0 (by omega) (m ((c : Thread nD τ).loc main_arg0)) (m ((c : Thread nD τ).loc main_arg1)) (ix2 ⟨_, lt t y0⟩ y1) = _
  blk_ext [idx t]

theorem final4 (c : Dev nD) : (dats m 0 c).arrAt 4 cfg0.N
    = G 640 (by omega) (m ((c : Thread nD τ).loc main_arg0)) (m ((c : Thread nD τ).loc main_arg1)) := by
  refine (dats m 0 c).arrAt_eq_of_covers 4 _ (by decide +kernel) fun t _ y => ?_
  blk_simp
  rw [after0_4]
  idx_vars y
  refine (out4_apply _ _ _ y0 y1).trans ((prod m c t y0 _ _ fun k => packed_b _ k y1).trans ?_)
  show G 640 (by omega) (m ((c : Thread nD τ).loc main_arg0)) (m ((c : Thread nD τ).loc main_arg1)) (ix2 ⟨_, lt t y0⟩ y1) = _
  blk_ext [idx t]

theorem final5 (c : Dev nD) : (dats m 0 c).arrAt 5 cfg0.N
    = G 1224 (by omega) (m ((c : Thread nD τ).loc main_arg0)) (m ((c : Thread nD τ).loc main_arg1)) := by
  refine (dats m 0 c).arrAt_eq_of_covers 5 _ (by decide +kernel) fun t _ y => ?_
  blk_simp
  rw [after0_5]
  idx_vars y
  refine (out5_apply _ _ _ y0 y1).trans ((prod m c t y0 _ _ fun k => packed_c _ k y1).trans ?_)
  show G 1224 (by omega) (m ((c : Thread nD τ).loc main_arg0)) (m ((c : Thread nD τ).loc main_arg1)) (ix2 ⟨_, lt t y0⟩ y1) = _
  blk_ext [idx t]

theorem final6 (c : Dev nD) : (dats m 0 c).arrAt 6 cfg0.N
    = G 1736 (by omega) (m ((c : Thread nD τ).loc main_arg0)) (m ((c : Thread nD τ).loc main_arg1)) := by
  refine (dats m 0 c).arrAt_eq_of_covers 6 _ (by decide +kernel) fun t _ y => ?_
  blk_simp
  rw [after0_6]
  idx_vars y
  refine (out6_apply _ _ _ y0 y1).trans ((prod m c t y0 _ _ fun k => packed_d _ k y1).trans ?_)
  show G 1736 (by omega) (m ((c : Thread nD τ).loc main_arg0)) (m ((c : Thread nD τ).loc main_arg1)) (ix2 ⟨_, lt t y0⟩ y1) = _
  blk_ext [idx t]

theorem final7 (c : Dev nD) : (dats m 0 c).arrAt 7 cfg0.N
    = G 2248 (by omega) (m ((c : Thread nD τ).loc main_arg0)) (m ((c : Thread nD τ).loc main_arg1)) := by
  refine (dats m 0 c).arrAt_eq_of_covers 7 _ (by decide +kernel) fun t _ y => ?_
  blk_simp
  rw [after0_7]
  idx_vars y
  refine (out7_apply _ _ _ y0 y1).trans ((prod m c t y0 _ _ fun k => packed_e _ k y1).trans ?_)
  show G 2248 (by omega) (m ((c : Thread nD τ).loc main_arg0)) (m ((c : Thread nD τ).loc main_arg1)) (ix2 ⟨_, lt t y0⟩ y1) = _
  blk_ext [idx t]

theorem final8 (c : Dev nD) : (dats m 0 c).arrAt 8 cfg0.N
    = Glat (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  refine (out8_apply _ _ _ y0 y1).trans ((lat_point m c t y0 y1).trans ?_)
  show Glat (m ((c : Thread nD τ).loc main_arg0)) (m ((c : Thread nD τ).loc main_arg1)) (m ((c : Thread nD τ).loc main_arg2)) (ix2 ⟨_, lt t y0⟩ y1) = _
  blk_ext [idx t]

theorem point9 (c : Dev nD) (t : Fin cfg0.N) (a : Fin 144) (r : Fin 512) :
    out0_9 (F := Ideal) (iblk m c 0 t) (iblk m c 1 t) (iblk m c 2 t) (ix2 a r)
      = GlatT (m ((c : Thread nD τ).loc main_arg0)) (m ((c : Thread nD τ).loc main_arg1)) (m ((c : Thread nD τ).loc main_arg2))
          (ix2 a ⟨_, lt t r⟩) := by
  refine (out9_apply _ _ _ a r).trans ?_
  rw [GlatT_apply]
  by_cases h : a.val < 128
  · rw [dif_pos h, dif_pos h]
    exact lat_point m c t r ⟨a.val, h⟩
  · rw [dif_neg h, dif_neg h]

theorem final9 (c : Dev nD) : (dats m 0 c).arrAt 9 cfg0.N
    = GlatT (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  idx_vars y
  refine (point9 m c t y0 y1).trans ?_
  blk_ext [idx t]

theorem point10 (c : Dev nD) (t : Fin cfg0.N) (r : Fin 512) (n : Fin 128) :
    out0_10 (F := Ideal) (iblk m c 0 t) (iblk m c 1 t) (iblk m c 2 t) (ix2 r n)
      = Gidx (m ((c : Thread nD τ).loc main_arg0)) (m ((c : Thread nD τ).loc main_arg1)) (ix2 ⟨_, lt t r⟩ n) := by
  refine (out10_apply _ _ _ r n).trans ?_
  rw [Gidx_apply]
  by_cases h : n.val < 72
  · rw [dif_pos h]
    exact prod m c t r _ _ fun k => packed_g _ k ⟨n.val, h⟩
  · rw [dif_neg h]
    refine Finset.sum_eq_zero fun k _ => ?_
    have e : (⟨2688 + n.val, by omega⟩ : Fin 2816) = ⟨2760 + (⟨n.val - 72, by omega⟩ : Fin 56).val, by dsimp only; omega⟩ :=
      Fin.ext (by dsimp only; omega)
    rw [iblk1_apply, e, packed_h]
    exact mul_zero _

theorem final10 (c : Dev nD) : (dats m 0 c).arrAt 10 cfg0.N
    = Gidx (m ((c : Thread nD τ).loc main_arg0)) (m ((c : Thread nD τ).loc main_arg1)) := by
  refine (dats m 0 c).arrAt_eq_of_covers 10 _ (by decide +kernel) fun t _ y => ?_
  blk_simp
  rw [after0_10]
  idx_vars y
  refine (point10 m c t y0 y1).trans ?_
  blk_ext [idx t]

/-! ## The reference -/

/-- The reference's product with the weight's first 2760 columns. -/
def hostProj (x : FVec Ideal Rows.S8x4096x1024 .f32) (w : FVec Ideal S1024x7368 .f32) : FVec Ideal Reference5Ideal.S8x4096x2760 .f32 :=
  Host.dotGeneral Reference5Ideal.dot_S8x4096x1024_S1024x2760_S8x4096x2760_2_0_01_1_n_n none x
    (extractStridedSlice Reference5Ideal.S1024x2760 ![0, 0] w Reference5Ideal.Gen.slices_S1024x7368_S1024x2760_0_0)

theorem hostProj_apply (x : FVec Ideal Rows.S8x4096x1024 .f32) (w : FVec Ideal S1024x7368 .f32) (b : Fin 8) (s : Fin 4096)
    (j : Fin 2760) : hostProj x w (ix3 b s j) = ∑ k : Fin 1024, x (ix3 b s k) * w (ix2 k ⟨j.val, by omega⟩) := by
  pointwise [hostProj]

theorem proj_host (x : FVec Ideal Rows.S8x4096x1024 .f32) (w : FVec Ideal S1024x7368 .f32) (R : Fin 32768) (j : Fin 2760) :
    hostProj x w (ix3 (seqOf R) (posOf R) j) = inProj (xrow x R.val) (ents w) ⟨j.val, by omega⟩ := by
  have hs : seqOf R = ⟨R.val / 4096 % 8, by omega⟩ := Fin.ext (by have := R.isLt; dsimp only; omega)
  rw [hostProj_apply, hs]
  rfl

/-- The reference's 512 columns from 0 on, its rows flattened. -/
def hostCut0 (y : FVec Ideal Reference5Ideal.S8x4096x2760 .f32) : FVec Ideal S32768x512 .bf16 :=
  truncf .bf16 (shapeCast S32768x512 (extractStridedSlice Reference5Ideal.S8x4096x512 ![0, 0, 0] y
    Reference5Ideal.Gen.slices_S8x4096x2760_S8x4096x512_0_0_0) Reference5Ideal.Gen.shapeCasts_S8x4096x512_S32768x512)
    Reference5Ideal.Gen.bitsLt_bf16_f32

theorem hostCut0_apply (y : FVec Ideal Reference5Ideal.S8x4096x2760 .f32) (R : Fin 32768) (n : Fin 512) :
    hostCut0 y (ix2 R n) = y (ix3 (seqOf R) (posOf R) ⟨n.val, by omega⟩) := by
  pointwise [hostCut0]

theorem hostCut0_eq (x : FVec Ideal Rows.S8x4096x1024 .f32) (w : FVec Ideal S1024x7368 .f32) :
    hostCut0 (hostProj x w) = G 0 (by omega) x w := by
  funext i
  idx_vars i
  rw [hostCut0_apply]
  refine (proj_host x w i0 _).trans ?_
  exact congrArg _ (Fin.ext (Nat.zero_add i1.val).symm)

/-- The reference's 512 columns from 640 on, its rows flattened. -/
def hostCut1 (y : FVec Ideal Reference5Ideal.S8x4096x2760 .f32) : FVec Ideal S32768x512 .bf16 :=
  truncf .bf16 (shapeCast S32768x512 (extractStridedSlice Reference5Ideal.S8x4096x512 ![0, 0, 640] y
    Reference5Ideal.Gen.slices_S8x4096x2760_S8x4096x512_0_0_640) Reference5Ideal.Gen.shapeCasts_S8x4096x512_S32768x512)
    Reference5Ideal.Gen.bitsLt_bf16_f32

theorem hostCut1_apply (y : FVec Ideal Reference5Ideal.S8x4096x2760 .f32) (R : Fin 32768) (n : Fin 512) :
    hostCut1 y (ix2 R n) = y (ix3 (seqOf R) (posOf R) ⟨640 + n.val, by omega⟩) := by
  pointwise [hostCut1]

theorem hostCut1_eq (x : FVec Ideal Rows.S8x4096x1024 .f32) (w : FVec Ideal S1024x7368 .f32) :
    hostCut1 (hostProj x w) = G 640 (by omega) x w := by
  funext i
  idx_vars i
  rw [hostCut1_apply]
  exact proj_host x w i0 _

/-- The reference's 512 columns from 1224 on, its rows flattened. -/
def hostCut2 (y : FVec Ideal Reference5Ideal.S8x4096x2760 .f32) : FVec Ideal S32768x512 .bf16 :=
  truncf .bf16 (shapeCast S32768x512 (extractStridedSlice Reference5Ideal.S8x4096x512 ![0, 0, 1224] y
    Reference5Ideal.Gen.slices_S8x4096x2760_S8x4096x512_0_0_1224) Reference5Ideal.Gen.shapeCasts_S8x4096x512_S32768x512)
    Reference5Ideal.Gen.bitsLt_bf16_f32

theorem hostCut2_apply (y : FVec Ideal Reference5Ideal.S8x4096x2760 .f32) (R : Fin 32768) (n : Fin 512) :
    hostCut2 y (ix2 R n) = y (ix3 (seqOf R) (posOf R) ⟨1224 + n.val, by omega⟩) := by
  pointwise [hostCut2]

theorem hostCut2_eq (x : FVec Ideal Rows.S8x4096x1024 .f32) (w : FVec Ideal S1024x7368 .f32) :
    hostCut2 (hostProj x w) = G 1224 (by omega) x w := by
  funext i
  idx_vars i
  rw [hostCut2_apply]
  exact proj_host x w i0 _

/-- The reference's 512 columns from 1736 on, its rows flattened. -/
def hostCut3 (y : FVec Ideal Reference5Ideal.S8x4096x2760 .f32) : FVec Ideal S32768x512 .bf16 :=
  truncf .bf16 (shapeCast S32768x512 (extractStridedSlice Reference5Ideal.S8x4096x512 ![0, 0, 1736] y
    Reference5Ideal.Gen.slices_S8x4096x2760_S8x4096x512_0_0_1736) Reference5Ideal.Gen.shapeCasts_S8x4096x512_S32768x512)
    Reference5Ideal.Gen.bitsLt_bf16_f32

theorem hostCut3_apply (y : FVec Ideal Reference5Ideal.S8x4096x2760 .f32) (R : Fin 32768) (n : Fin 512) :
    hostCut3 y (ix2 R n) = y (ix3 (seqOf R) (posOf R) ⟨1736 + n.val, by omega⟩) := by
  pointwise [hostCut3]

theorem hostCut3_eq (x : FVec Ideal Rows.S8x4096x1024 .f32) (w : FVec Ideal S1024x7368 .f32) :
    hostCut3 (hostProj x w) = G 1736 (by omega) x w := by
  funext i
  idx_vars i
  rw [hostCut3_apply]
  exact proj_host x w i0 _

/-- The reference's 512 columns from 2248 on, its rows flattened. -/
def hostCut4 (y : FVec Ideal Reference5Ideal.S8x4096x2760 .f32) : FVec Ideal S32768x512 .bf16 :=
  truncf .bf16 (shapeCast S32768x512 (extractStridedSlice Reference5Ideal.S8x4096x512 ![0, 0, 2248] y
    Reference5Ideal.Gen.slices_S8x4096x2760_S8x4096x512_0_0_2248) Reference5Ideal.Gen.shapeCasts_S8x4096x512_S32768x512)
    Reference5Ideal.Gen.bitsLt_bf16_f32

theorem hostCut4_apply (y : FVec Ideal Reference5Ideal.S8x4096x2760 .f32) (R : Fin 32768) (n : Fin 512) :
    hostCut4 y (ix2 R n) = y (ix3 (seqOf R) (posOf R) ⟨2248 + n.val, by omega⟩) := by
  pointwise [hostCut4]

theorem hostCut4_eq (x : FVec Ideal Rows.S8x4096x1024 .f32) (w : FVec Ideal S1024x7368 .f32) :
    hostCut4 (hostProj x w) = G 2248 (by omega) x w := by
  funext i
  idx_vars i
  rw [hostCut4_apply]
  exact proj_host x w i0 _

/-- The reference's columns from 512 on. -/
def hostRaw (y : FVec Ideal Reference5Ideal.S8x4096x2760 .f32) : FVec Ideal Reference5Ideal.S8x4096x128 .f32 :=
  extractStridedSlice Reference5Ideal.S8x4096x128 ![0, 0, 512] y Reference5Ideal.Gen.slices_S8x4096x2760_S8x4096x128_0_0_512

theorem hostRaw_apply (y : FVec Ideal Reference5Ideal.S8x4096x2760 .f32) (b : Fin 8) (s : Fin 4096) (n : Fin 128) :
    hostRaw y (ix3 b s n) = y (ix3 b s ⟨512 + n.val, by omega⟩) := by
  pointwise [hostRaw]

open Cert.Reference5Ideal.Gen in
/-- The reference's norm of 128 columns. -/
def hostRms (y : FVec Ideal Reference5Ideal.S8x4096x128 .f32) (g : FVec Ideal S128 .f32) : FVec Ideal Reference5Ideal.S8x4096x128 .f32 :=
  mulf (mulf y (broadcastInDim Reference5Ideal.S8x4096x128 ![0, 1, 2] bcast_S8x4096x1_S8x4096x128_0_1_2
      (Host.rsqrt (addf (Host.divf (broadcastInDim Reference5Ideal.S8x4096x1 ![0, 1] bcast_S8x4096_S8x4096x1_0_1
          (Host.reduceAdd (mulf y y) (constant Rows.S0 .f32 0x00000000#32) reducesTo_S8x4096x128_S8x4096_d2 h_S_))
          (broadcastInDim Reference5Ideal.S8x4096x1 ![] bcast_S_S8x4096x1 (constant Rows.S0 .f32 0x43000000#32)))
        (broadcastInDim Reference5Ideal.S8x4096x1 ![] bcast_S_S8x4096x1 (constant Rows.S0 .f32 0x3727C5AC#32))))))
    (broadcastInDim Reference5Ideal.S8x4096x128 ![0, 1, 2] bcast_S1x1x128_S8x4096x128_0_1_2
      (broadcastInDim Reference5Ideal.S1x1x128 ![2] bcast_S128_S1x1x128_2 g))

theorem hostRms_apply (y : FVec Ideal Reference5Ideal.S8x4096x128 .f32) (g : FVec Ideal S128 .f32) (b : Fin 8) (s : Fin 4096)
    (n : Fin 128) : hostRms y g (ix3 b s n) = rms (fun j => y (ix3 b s j)) (fun j => g (ix1 j)) n := by
  pointwise [hostRms, rms]

/-- The reference's latent. -/
def hostLat (x : FVec Ideal Rows.S8x4096x1024 .f32) (w : FVec Ideal S1024x7368 .f32) (g : FVec Ideal S128 .f32) :
    FVec Ideal Reference5Ideal.S8x4096x128 .f32 := hostRms (hostRaw (hostProj x w)) g

theorem latent_host (x : FVec Ideal Rows.S8x4096x1024 .f32) (w : FVec Ideal S1024x7368 .f32) (g : FVec Ideal S128 .f32)
    (R : Fin 32768) (n : Fin 128) : hostLat x w g (ix3 (seqOf R) (posOf R) n) = latent (xrow x R.val) (ents w) (fun j => g (ix1 j)) n := by
  unfold hostLat latent
  rw [hostRms_apply]
  refine congrArg (fun f => rms f _ n) (funext fun j => ?_)
  rw [hostRaw_apply]
  exact proj_host x w R _

/-- The reference's latent, its rows flattened. -/
def hostFlat (y : FVec Ideal Reference5Ideal.S8x4096x128 .f32) : FVec Ideal S32768x128 .bf16 :=
  truncf .bf16 (shapeCast S32768x128 y Reference5Ideal.Gen.shapeCasts_S8x4096x128_S32768x128) Reference5Ideal.Gen.bitsLt_bf16_f32

theorem hostFlat_apply (y : FVec Ideal Reference5Ideal.S8x4096x128 .f32) (R : Fin 32768) (n : Fin 128) :
    hostFlat y (ix2 R n) = y (ix3 (seqOf R) (posOf R) n) := by
  pointwise [hostFlat]

theorem hostFlat_eq (x : FVec Ideal Rows.S8x4096x1024 .f32) (w : FVec Ideal S1024x7368 .f32) (g : FVec Ideal S128 .f32) :
    hostFlat (hostLat x w g) = Glat x w g := by
  funext i
  idx_vars i
  rw [hostFlat_apply]
  exact latent_host x w g i0 i1

open Cert.Reference5Ideal.Gen in
/-- The reference's latents as columns, over its rows of ones. -/
def hostT (y : FVec Ideal Reference5Ideal.S8x4096x128 .f32) : FVec Ideal S144x32768 .bf16 :=
  truncf .bf16 (concatenate S144x32768 0
    [⟨Reference5Ideal.S128x32768, transpose Reference5Ideal.S128x32768 [1, 0] (shapeCast S32768x128 y shapeCasts_S8x4096x128_S32768x128)
        transposes_S32768x128_S128x32768_1_0⟩,
      ⟨Reference5Ideal.S16x32768, broadcastInDim Reference5Ideal.S16x32768 ![] bcast_S_S16x32768 (constant Rows.S0 .f32 0x3F800000#32)⟩]
    concatenates_S128x32768_S16x32768_S144x32768_d0) Reference5Ideal.Gen.bitsLt_bf16_f32

theorem hostT_apply (y : FVec Ideal Reference5Ideal.S8x4096x128 .f32) (a : Fin 144) (R : Fin 32768) :
    hostT y (ix2 a R) = if h : a.val < 128 then y (ix3 (seqOf R) (posOf R) ⟨a.val, h⟩) else Ideal.ofBits .f32 0x3F800000#32 := by
  pointwise [hostT]

theorem hostT_eq (x : FVec Ideal Rows.S8x4096x1024 .f32) (w : FVec Ideal S1024x7368 .f32) (g : FVec Ideal S128 .f32) :
    hostT (hostLat x w g) = GlatT x w g := by
  funext i
  idx_vars i
  rw [hostT_apply, GlatT_apply]
  by_cases h : i0.val < 128
  · rw [dif_pos h, dif_pos h]
    exact latent_host x w g i1 ⟨i0.val, h⟩
  · rw [dif_neg h, dif_neg h]

open Cert.Reference5Ideal.Gen in
/-- The reference's index columns, and its zeros behind them. -/
def hostIdx (y : FVec Ideal Reference5Ideal.S8x4096x2760 .f32) : FVec Ideal S32768x128 .f32 :=
  concatenate S32768x128 1
    [⟨Reference5Ideal.S32768x64, shapeCast Reference5Ideal.S32768x64 (extractStridedSlice Reference5Ideal.S8x4096x64 ![0, 0, 1152] y
        slices_S8x4096x2760_S8x4096x64_0_0_1152) shapeCasts_S8x4096x64_S32768x64⟩,
      ⟨Reference5Ideal.S32768x8, shapeCast Reference5Ideal.S32768x8 (extractStridedSlice Reference5Ideal.S8x4096x8 ![0, 0, 1216] y
        slices_S8x4096x2760_S8x4096x8_0_0_1216) shapeCasts_S8x4096x8_S32768x8⟩,
      ⟨Reference5Ideal.S32768x56, broadcastInDim Reference5Ideal.S32768x56 ![] bcast_S_S32768x56 (constant Rows.S0 .f32 0x00000000#32)⟩]
    concatenates_S32768x64_S32768x8_S32768x56_S32768x128_d1

theorem hostIdx_apply (y : FVec Ideal Reference5Ideal.S8x4096x2760 .f32) (R : Fin 32768) (n : Fin 128) :
    hostIdx y (ix2 R n) = if h : n.val < 72 then y (ix3 (seqOf R) (posOf R) ⟨1152 + n.val, by omega⟩) else 0 := by
  pointwise [hostIdx]
  by_cases h0 : n.val < 64
  · rw [dif_pos h0, dif_pos (show n.val < 72 by omega)]
  · rw [dif_neg h0]
    by_cases h1 : n.val - 64 < 8
    · rw [dif_pos h1, dif_pos (show n.val < 72 by omega)]
      exact congrArg (fun q => y (ix3 _ _ q)) (Fin.ext (show 1216 + (n.val - 64) = 1152 + n.val by omega))
    · rw [dif_neg h1, dif_neg (show ¬ n.val < 72 by omega)]

theorem hostIdx_eq (x : FVec Ideal Rows.S8x4096x1024 .f32) (w : FVec Ideal S1024x7368 .f32) : hostIdx (hostProj x w) = Gidx x w := by
  funext i
  idx_vars i
  rw [hostIdx_apply, Gidx_apply]
  by_cases h : i1.val < 72
  · rw [dif_pos h, dif_pos h]
    exact proj_host x w i0 _
  · rw [dif_neg h, dif_neg h]

/-- At `Ideal` the mixer's projections and the reference's agree. -/
theorem algebraic : Cert.algebraic_Kernel5Ideal_Reference5Ideal := by
  pair_intro
  · run_from Cert.Kernel5Ideal.Value.run_blocks m g
  · run_from Cert.Reference5Ideal.Value.run m' g'
    · exact (hostCut0_eq _ _).trans (final3 m c).symm
    · exact (hostCut1_eq _ _).trans (final4 m c).symm
    · exact (hostCut2_eq _ _).trans (final5 m c).symm
    · exact (hostCut3_eq _ _).trans (final6 m c).symm
    · exact (hostCut4_eq _ _).trans (final7 m c).symm
    · exact (hostFlat_eq _ _ _).trans (final8 m c).symm
    · rw [(hagree c).2.2]
      exact (hostT_eq _ _ _).trans (final9 m c).symm
    · exact (hostIdx_eq _ _).trans (final10 m c).symm

end Cert.Kernel5Ideal.Mix

end
-- ==== Proof.Mem.lean ====
/- The memory's keys and values at `Ideal`: each row of the memory times the two halves of the weight's columns. -/
module

public import proofs.«01_k».proof.Defs
public import proofs.«01_k».proof.Proof.Rows
public import proofs.«01_k».proof.Proof.Gen.Kernel6Ideal.Value
public import proofs.«01_k».proof.Proof.Gen.Reference6Ideal.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Mem

open Cert.Kernel6Ideal Cert.Kernel6Ideal.Gen

/-- A half of the projected memory, from the weight's columns `o` on. -/
def G (o : ℕ) (ho : o + 512 ≤ 1024) (x : FVec Ideal S8x256x1024 .f32) (w : FVec Ideal S1024x1024 .f32) :
    FVec Ideal S8x256x512 .bf16 := fun i =>
  ∑ k : Fin 1024, x (ix3 (i 0) (i 1) k) * w (ix2 k ⟨o + (i 2).val, by have : (i 2).val < 512 := (i 2).isLt; omega⟩)

theorem pay2_apply (x : FVec Ideal S1x256x1024 .f32) (w : FVec Ideal S1024x1024 .bf16) (r : Fin 256) (n : Fin 512) :
    k0_pay2 (F := Ideal) x w (ix3 0 r n) = ∑ k : Fin 1024, x (ix3 0 r k) * w (ix2 k ⟨n.val, by omega⟩) := by
  pointwise [k0_pay2, k0_pay1]

theorem pay3_apply (x : FVec Ideal S1x256x1024 .f32) (w : FVec Ideal S1024x1024 .bf16) (r : Fin 256) (n : Fin 512) :
    k0_pay3 (F := Ideal) x w (ix3 0 r n) = ∑ k : Fin 1024, x (ix3 0 r k) * w (ix2 k ⟨512 + n.val, by omega⟩) := by
  pointwise [k0_pay3, k0_pay1]

theorem out2_eq (x : FVec Ideal S1x256x1024 .f32) (w : FVec Ideal S1024x1024 .bf16) :
    out0_2 (F := Ideal) x w = k0_pay2 (F := Ideal) x w := by
  unfold out0_2
  frame_out

theorem out3_eq (x : FVec Ideal S1x256x1024 .f32) (w : FVec Ideal S1024x1024 .bf16) :
    out0_3 (F := Ideal) x w = k0_pay3 (F := Ideal) x w := by
  unfold out0_3
  frame_out

/-! ## The result arrays -/

variable (m : (ℓ : Loc nD τ sig) → Buf (Elt Ideal) ℓ)

theorem idx : ∀ t : Fin cfg0.N, win0_0.index t = ![t.val, 0, 0] ∧ win0_1.index t = ![0, 0]
    ∧ win0_2.index t = ![t.val, 0, 0] ∧ win0_3.index t = ![t.val, 0, 0] :=
  (by decide +kernel : ∀ t : Fin grid0.N, _)

theorem tlt (t : Fin cfg0.N) : t.val < 8 := t.isLt

theorem iblk0_apply (c : Dev nD) (t : Fin cfg0.N) (r : Fin 256) (k : Fin 1024) :
    (iblk m c 0 t : FVec Ideal S1x256x1024 .f32) (ix3 0 r k)
      = (m ((c : Thread nD τ).loc main_arg0) : FVec Ideal S8x256x1024 .f32) (ix3 ⟨t.val, tlt t⟩ r k) := by
  blk_point [iblk, V, idx t]

theorem iblk1_apply (c : Dev nD) (t : Fin cfg0.N) (i : Fin 1024) (j : Fin 1024) :
    (iblk m c 1 t : FVec Ideal S1024x1024 .bf16) (ix2 i j) = (m ((c : Thread nD τ).loc main_arg1) : FVec Ideal S1024x1024 .f32) (ix2 i j) := by
  blk_point [iblk, V, idx t]

theorem point2 (c : Dev nD) (t : Fin cfg0.N) (r : Fin 256) (n : Fin 512) :
    out0_2 (F := Ideal) (iblk m c 0 t) (iblk m c 1 t) (ix3 0 r n)
      = G 0 (by omega) (m ((c : Thread nD τ).loc main_arg0)) (m ((c : Thread nD τ).loc main_arg1)) (ix3 ⟨t.val, tlt t⟩ r n) := by
  rw [out2_eq]
  refine (pay2_apply _ _ r n).trans (Finset.sum_congr rfl fun k _ => ?_)
  rw [iblk0_apply, iblk1_apply]
  rw [show (⟨n.val, by omega⟩ : Fin 1024) = ⟨0 + n.val, by omega⟩ from Fin.ext (Nat.zero_add n.val).symm]
  rfl

theorem point3 (c : Dev nD) (t : Fin cfg0.N) (r : Fin 256) (n : Fin 512) :
    out0_3 (F := Ideal) (iblk m c 0 t) (iblk m c 1 t) (ix3 0 r n)
      = G 512 (by omega) (m ((c : Thread nD τ).loc main_arg0)) (m ((c : Thread nD τ).loc main_arg1)) (ix3 ⟨t.val, tlt t⟩ r n) := by
  rw [out3_eq]
  refine (pay3_apply _ _ r n).trans (Finset.sum_congr rfl fun k _ => ?_)
  rw [iblk0_apply, iblk1_apply]
  rfl

theorem final2 (c : Dev nD) : (dats m 0 c).arrAt 2 cfg0.N
    = G 0 (by omega) (m ((c : Thread nD τ).loc main_arg0)) (m ((c : Thread nD τ).loc main_arg1)) := by
  refine (dats m 0 c).arrAt_eq_of_covers 2 _ (by decide +kernel) fun t _ y => ?_
  blk_simp
  rw [after0_2]
  idx_vars y
  obtain rfl : y0 = 0 := Subsingleton.elim _ _
  refine (point2 m c t y1 y2).trans ?_
  blk_ext [idx t]

theorem final3 (c : Dev nD) : (dats m 0 c).arrAt 3 cfg0.N
    = G 512 (by omega) (m ((c : Thread nD τ).loc main_arg0)) (m ((c : Thread nD τ).loc main_arg1)) := by
  refine (dats m 0 c).arrAt_eq_of_covers 3 _ (by decide +kernel) fun t _ y => ?_
  blk_simp
  rw [after0_3]
  idx_vars y
  obtain rfl : y0 = 0 := Subsingleton.elim _ _
  refine (point3 m c t y1 y2).trans ?_
  blk_ext [idx t]

/-! ## The reference -/

/-- The reference's two halves. -/
def host0 (x : FVec Ideal S8x256x1024 .f32) (w : FVec Ideal S1024x1024 .f32) : FVec Ideal S8x256x512 .bf16 :=
  truncf .bf16 (extractStridedSlice S8x256x512 ![0, 0, 0]
    (Host.dotGeneral Reference6Ideal.dot_S8x256x1024_S1024x1024_S8x256x1024_2_0_01_1_n_n none x w)
    Reference6Ideal.Gen.slices_S8x256x1024_S8x256x512_0_0_0) Reference6Ideal.Gen.bitsLt_bf16_f32

def host1 (x : FVec Ideal S8x256x1024 .f32) (w : FVec Ideal S1024x1024 .f32) : FVec Ideal S8x256x512 .bf16 :=
  truncf .bf16 (extractStridedSlice S8x256x512 ![0, 0, 512]
    (Host.dotGeneral Reference6Ideal.dot_S8x256x1024_S1024x1024_S8x256x1024_2_0_01_1_n_n none x w)
    Reference6Ideal.Gen.slices_S8x256x1024_S8x256x512_0_0_512) Reference6Ideal.Gen.bitsLt_bf16_f32

theorem host0_eq (x : FVec Ideal S8x256x1024 .f32) (w : FVec Ideal S1024x1024 .f32) : host0 x w = G 0 (by omega) x w := by
  funext i
  idx_vars i
  have e : host0 x w (ix3 i0 i1 i2) = ∑ k : Fin 1024, x (ix3 i0 i1 k) * w (ix2 k ⟨i2.val, by omega⟩) := by
    pointwise [host0]
  refine e.trans (Finset.sum_congr rfl fun k _ => ?_)
  exact congrArg (fun q => _ * w (ix2 k q)) (Fin.ext (Nat.zero_add i2.val).symm)

theorem host1_eq (x : FVec Ideal S8x256x1024 .f32) (w : FVec Ideal S1024x1024 .f32) : host1 x w = G 512 (by omega) x w := by
  funext i
  idx_vars i
  have e : host1 x w (ix3 i0 i1 i2) = ∑ k : Fin 1024, x (ix3 i0 i1 k) * w (ix2 k ⟨512 + i2.val, by omega⟩) := by
    pointwise [host1]
  exact e

/-- At `Ideal` the memory's keys and values and the reference's agree. -/
theorem algebraic : Cert.algebraic_Kernel6Ideal_Reference6Ideal := by
  pair_intro
  · run_from Cert.Kernel6Ideal.Value.run_blocks m g
  · run_from Cert.Reference6Ideal.Value.run m' g'
    · exact (host0_eq _ _).trans (final2 m c).symm
    · exact (host1_eq _ _).trans (final3 m c).symm

end Cert.Kernel6Ideal.Mem

end
-- ==== Proof.lean ====
module

public import proofs.«01_k».proof.Defs
public import proofs.«01_k».proof.Proof.Launch
public import proofs.«01_k».proof.Proof.Ffn
public import proofs.«01_k».proof.Proof.Merge
public import proofs.«01_k».proof.Proof.Xattn
public import proofs.«01_k».proof.Proof.Mix
public import proofs.«01_k».proof.Proof.Mem
public import proofs.«01_k».proof.Proof.Gen.Pre_finite
public import proofs.«01_k».proof.Proof.Gen.Kernel2.Frame
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run

@[expose] public section

noncomputable section

namespace Cert.Proof

open Idealize.ShloMosaic Idealize.SL.Sem

/-! A reference's frame is its run, which leaves every argument, read beside a program without semaphores. -/

theorem frame_r2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_r4_finite [Cert.Pre_finite.Facts] : Cert.quiescent_Reference4Ideal_pre_finite := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_r5 : Cert.quiescent_Reference5Ideal := fun m ρ _ =>
  (θ_run Cert.Reference5Ideal.defs _ _).mono (fun r h => ⟨fun c => (h c).2.2.2.2.2.2.2.2, sem_eq_zero_of_no_sems (by decide) r.2⟩)
    (Cert.Reference5Ideal.Value.run (F := Ideal) m ρ)

theorem frame_r6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem claim : Cert.Claim := ⟨Cert.Kernel.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.Gen.facts,
  fun m ρ _ => Cert.Kernel.Hand.frame_claim m ρ,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ,
  fun m ρ _ => Cert.Kernel4Ideal.Gen.frame m ρ, frame_r4, frame_r4_finite,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  trivial, Cert.Kernel2Ideal.Ffn.algebraic, trivial, Cert.Kernel3Ideal.Merge.algebraic, trivial,
  Cert.Kernel4Ideal.Xattn.algebraic, trivial, Cert.Kernel5Ideal.Mix.algebraic, trivial, Cert.Kernel6Ideal.Mem.algebraic⟩

end Cert.Proof

end
